-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FinKernel (m : (ℓ : Loc Cert.FinKernel.nD Cert.FinKernel.τ Cert.FinKernel.sig) → Buf (Elt Bits) ℓ) : Prop :=
  True

def Pre_FinKernelIdeal (m : (ℓ : Loc Cert.FinKernelIdeal.nD Cert.FinKernelIdeal.τ Cert.FinKernelIdeal.sig) → Buf (Elt Ideal) ℓ) : Prop :=
  True

def Pre_FinReferenceIdeal (m : (ℓ : Loc Cert.FinReferenceIdeal.nD Cert.FinReferenceIdeal.τ Cert.FinReferenceIdeal.sig) → Buf (Elt Ideal) ℓ) : Prop :=
  True

def Pre_StepFfnKernel (m : (ℓ : Loc Cert.StepFfnKernel.nD Cert.StepFfnKernel.τ Cert.StepFfnKernel.sig) → Buf (Elt Bits) ℓ) : Prop :=
  True

def Pre_StepFfnKernelIdeal (m : (ℓ : Loc Cert.StepFfnKernelIdeal.nD Cert.StepFfnKernelIdeal.τ Cert.StepFfnKernelIdeal.sig) → Buf (Elt Ideal) ℓ) : Prop :=
  True

def Pre_StepFfnReferenceIdeal (m : (ℓ : Loc Cert.StepFfnReferenceIdeal.nD Cert.StepFfnReferenceIdeal.τ Cert.StepFfnReferenceIdeal.sig) → Buf (Elt Ideal) ℓ) : Prop :=
  True

def Pre_StepFinKernel (m : (ℓ : Loc Cert.StepFinKernel.nD Cert.StepFinKernel.τ Cert.StepFinKernel.sig) → Buf (Elt Bits) ℓ) : Prop :=
  True

def Pre_StepFinKernelIdeal (m : (ℓ : Loc Cert.StepFinKernelIdeal.nD Cert.StepFinKernelIdeal.τ Cert.StepFinKernelIdeal.sig) → Buf (Elt Ideal) ℓ) : Prop :=
  True

def Pre_StepFinReferenceIdeal (m : (ℓ : Loc Cert.StepFinReferenceIdeal.nD Cert.StepFinReferenceIdeal.τ Cert.StepFinReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FinKernel [hFinKernel : Cert.FinKernel.Facts] : Prop :=
  ∀ (m : (ℓ : Loc Cert.FinKernel.nD Cert.FinKernel.τ Cert.FinKernel.sig) → Buf (Elt Bits) ℓ) (g : Dev Cert.FinKernel.nD → PrngReg), Pre_FinKernel m →
    θ_run (Cert.FinKernel.defs (F := Bits)) (onTc (τ := Cert.FinKernel.τ) (Cert.FinKernel.main (F := Bits))) ⟨m, fun _ => 0, g⟩ (fun r => (∀ c : Dev Cert.FinKernel.nD,
      r.2.mem ((c.tc : Thread Cert.FinKernel.nD Cert.FinKernel.τ).loc Cert.FinKernel.main_arg0) = m ((c.tc : Thread Cert.FinKernel.nD Cert.FinKernel.τ).loc Cert.FinKernel.main_arg0)
      ∧ r.2.mem ((c.tc : Thread Cert.FinKernel.nD Cert.FinKernel.τ).loc Cert.FinKernel.main_arg1) = m ((c.tc : Thread Cert.FinKernel.nD Cert.FinKernel.τ).loc Cert.FinKernel.main_arg1)
      ∧ r.2.mem ((c.tc : Thread Cert.FinKernel.nD Cert.FinKernel.τ).loc Cert.FinKernel.main_arg2) = m ((c.tc : Thread Cert.FinKernel.nD Cert.FinKernel.τ).loc Cert.FinKernel.main_arg2)
      ∧ r.2.mem ((c.tc : Thread Cert.FinKernel.nD Cert.FinKernel.τ).loc Cert.FinKernel.main_arg3) = m ((c.tc : Thread Cert.FinKernel.nD Cert.FinKernel.τ).loc Cert.FinKernel.main_arg3)
      ∧ r.2.mem ((c.tc : Thread Cert.FinKernel.nD Cert.FinKernel.τ).loc Cert.FinKernel.main_arg4) = m ((c.tc : Thread Cert.FinKernel.nD Cert.FinKernel.τ).loc Cert.FinKernel.main_arg4))
      ∧ r.2.sem = fun _ => 0)

def quiescent_FinKernelIdeal [hFinKernelIdeal : Cert.FinKernelIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg), Pre_FinKernelIdeal m →
    θ_run (Cert.FinKernelIdeal.defs (F := Ideal)) (onTc (τ := Cert.FinKernelIdeal.τ) (Cert.FinKernelIdeal.main (F := Ideal))) ⟨m, fun _ => 0, g⟩ (fun r => (∀ c : Dev Cert.FinKernelIdeal.nD,
      r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
      ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
      ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2)
      ∧ r.2.mem ((c.tc : Thread Cert.FinKernelIdeal.nD Cert.FinKernelIdeal.τ).loc Cert.FinKernelIdeal.main_arg3) = m ((c.tc : Thread Cert.FinKernelIdeal.nD Cert.FinKernelIdeal.τ).loc Cert.FinKernelIdeal.main_arg3)
      ∧ r.2.mem ((c.tc : Thread Cert.FinKernelIdeal.nD Cert.FinKernelIdeal.τ).loc Cert.FinKernelIdeal.main_arg4) = m ((c.tc : Thread Cert.FinKernelIdeal.nD Cert.FinKernelIdeal.τ).loc Cert.FinKernelIdeal.main_arg4))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1)
      ∧ r.2.mem ((c.tc : Thread Cert.FinReferenceIdeal.nD Cert.FinReferenceIdeal.τ).loc Cert.FinReferenceIdeal.main_arg2) = m ((c.tc : Thread Cert.FinReferenceIdeal.nD Cert.FinReferenceIdeal.τ).loc Cert.FinReferenceIdeal.main_arg2)
      ∧ r.2.mem ((c.tc : Thread Cert.FinReferenceIdeal.nD Cert.FinReferenceIdeal.τ).loc Cert.FinReferenceIdeal.main_arg3) = m ((c.tc : Thread Cert.FinReferenceIdeal.nD Cert.FinReferenceIdeal.τ).loc Cert.FinReferenceIdeal.main_arg3)
      ∧ r.2.mem ((c.tc : Thread Cert.FinReferenceIdeal.nD Cert.FinReferenceIdeal.τ).loc Cert.FinReferenceIdeal.main_arg4) = m ((c.tc : Thread Cert.FinReferenceIdeal.nD Cert.FinReferenceIdeal.τ).loc Cert.FinReferenceIdeal.main_arg4))
      ∧ r.2.sem = fun _ => 0)

def quiescent_StepFfnKernel [hStepFfnKernel : Cert.StepFfnKernel.Facts] : Prop :=
  ∀ (m : (ℓ : Loc Cert.StepFfnKernel.nD Cert.StepFfnKernel.τ Cert.StepFfnKernel.sig) → Buf (Elt Bits) ℓ) (g : Dev Cert.StepFfnKernel.nD → PrngReg), Pre_StepFfnKernel m →
    θ_run (Cert.StepFfnKernel.defs (F := Bits)) (onTc (τ := Cert.StepFfnKernel.τ) (Cert.StepFfnKernel.main (F := Bits))) ⟨m, fun _ => 0, g⟩ (fun r => (∀ c : Dev Cert.StepFfnKernel.nD,
      r.2.mem ((c.tc : Thread Cert.StepFfnKernel.nD Cert.StepFfnKernel.τ).loc Cert.StepFfnKernel.main_arg0) = m ((c.tc : Thread Cert.StepFfnKernel.nD Cert.StepFfnKernel.τ).loc Cert.StepFfnKernel.main_arg0)
      ∧ r.2.mem ((c.tc : Thread Cert.StepFfnKernel.nD Cert.StepFfnKernel.τ).loc Cert.StepFfnKernel.main_arg1) = m ((c.tc : Thread Cert.StepFfnKernel.nD Cert.StepFfnKernel.τ).loc Cert.StepFfnKernel.main_arg1)
      ∧ r.2.mem ((c.tc : Thread Cert.StepFfnKernel.nD Cert.StepFfnKernel.τ).loc Cert.StepFfnKernel.main_arg2) = m ((c.tc : Thread Cert.StepFfnKernel.nD Cert.StepFfnKernel.τ).loc Cert.StepFfnKernel.main_arg2)
      ∧ r.2.mem ((c.tc : Thread Cert.StepFfnKernel.nD Cert.StepFfnKernel.τ).loc Cert.StepFfnKernel.main_arg3) = m ((c.tc : Thread Cert.StepFfnKernel.nD Cert.StepFfnKernel.τ).loc Cert.StepFfnKernel.main_arg3))
      ∧ r.2.sem = fun _ => 0)

def quiescent_StepFfnKernelIdeal [hStepFfnKernelIdeal : Cert.StepFfnKernelIdeal.Facts] : Prop :=
  ∀ (m : (ℓ : Loc Cert.StepFfnKernelIdeal.nD Cert.StepFfnKernelIdeal.τ Cert.StepFfnKernelIdeal.sig) → Buf (Elt Ideal) ℓ) (g : Dev Cert.StepFfnKernelIdeal.nD → PrngReg), Pre_StepFfnKernelIdeal m →
    θ_run (Cert.StepFfnKernelIdeal.defs (F := Ideal)) (onTc (τ := Cert.StepFfnKernelIdeal.τ) (Cert.StepFfnKernelIdeal.main (F := Ideal))) ⟨m, fun _ => 0, g⟩ (fun r => (∀ c : Dev Cert.StepFfnKernelIdeal.nD,
      r.2.mem ((c.tc : Thread Cert.StepFfnKernelIdeal.nD Cert.StepFfnKernelIdeal.τ).loc Cert.StepFfnKernelIdeal.main_arg0) = m ((c.tc : Thread Cert.StepFfnKernelIdeal.nD Cert.StepFfnKernelIdeal.τ).loc Cert.StepFfnKernelIdeal.main_arg0)
      ∧ r.2.mem ((c.tc : Thread Cert.StepFfnKernelIdeal.nD Cert.StepFfnKernelIdeal.τ).loc Cert.StepFfnKernelIdeal.main_arg1) = m ((c.tc : Thread Cert.StepFfnKernelIdeal.nD Cert.StepFfnKernelIdeal.τ).loc Cert.StepFfnKernelIdeal.main_arg1)
      ∧ r.2.mem ((c.tc : Thread Cert.StepFfnKernelIdeal.nD Cert.StepFfnKernelIdeal.τ).loc Cert.StepFfnKernelIdeal.main_arg2) = m ((c.tc : Thread Cert.StepFfnKernelIdeal.nD Cert.StepFfnKernelIdeal.τ).loc Cert.StepFfnKernelIdeal.main_arg2)
      ∧ r.2.mem ((c.tc : Thread Cert.StepFfnKernelIdeal.nD Cert.StepFfnKernelIdeal.τ).loc Cert.StepFfnKernelIdeal.main_arg3) = m ((c.tc : Thread Cert.StepFfnKernelIdeal.nD Cert.StepFfnKernelIdeal.τ).loc Cert.StepFfnKernelIdeal.main_arg3))
      ∧ r.2.sem = fun _ => 0)

def quiescent_StepFfnReferenceIdeal [hStepFfnReferenceIdeal : Cert.StepFfnReferenceIdeal.Facts] : Prop :=
  ∀ (m : (ℓ : Loc Cert.StepFfnReferenceIdeal.nD Cert.StepFfnReferenceIdeal.τ Cert.StepFfnReferenceIdeal.sig) → Buf (Elt Ideal) ℓ) (g : Dev Cert.StepFfnReferenceIdeal.nD → PrngReg), Pre_StepFfnReferenceIdeal m →
    θ_run (Cert.StepFfnReferenceIdeal.defs (F := Ideal)) (onTc (τ := Cert.StepFfnReferenceIdeal.τ) (Cert.StepFfnReferenceIdeal.main (F := Ideal))) ⟨m, fun _ => 0, g⟩ (fun r => (∀ c : Dev Cert.StepFfnReferenceIdeal.nD,
      r.2.mem ((c.tc : Thread Cert.StepFfnReferenceIdeal.nD Cert.StepFfnReferenceIdeal.τ).loc Cert.StepFfnReferenceIdeal.main_arg0) = m ((c.tc : Thread Cert.StepFfnReferenceIdeal.nD Cert.StepFfnReferenceIdeal.τ).loc Cert.StepFfnReferenceIdeal.main_arg0)
      ∧ r.2.mem ((c.tc : Thread Cert.StepFfnReferenceIdeal.nD Cert.StepFfnReferenceIdeal.τ).loc Cert.StepFfnReferenceIdeal.main_arg1) = m ((c.tc : Thread Cert.StepFfnReferenceIdeal.nD Cert.StepFfnReferenceIdeal.τ).loc Cert.StepFfnReferenceIdeal.main_arg1)
      ∧ r.2.mem ((c.tc : Thread Cert.StepFfnReferenceIdeal.nD Cert.StepFfnReferenceIdeal.τ).loc Cert.StepFfnReferenceIdeal.main_arg2) = m ((c.tc : Thread Cert.StepFfnReferenceIdeal.nD Cert.StepFfnReferenceIdeal.τ).loc Cert.StepFfnReferenceIdeal.main_arg2)
      ∧ r.2.mem ((c.tc : Thread Cert.StepFfnReferenceIdeal.nD Cert.StepFfnReferenceIdeal.τ).loc Cert.StepFfnReferenceIdeal.main_arg3) = m ((c.tc : Thread Cert.StepFfnReferenceIdeal.nD Cert.StepFfnReferenceIdeal.τ).loc Cert.StepFfnReferenceIdeal.main_arg3))
      ∧ r.2.sem = fun _ => 0)

def quiescent_StepFinKernel [hStepFinKernel : Cert.StepFinKernel.Facts] : Prop :=
  ∀ (m : (ℓ : Loc Cert.StepFinKernel.nD Cert.StepFinKernel.τ Cert.StepFinKernel.sig) → Buf (Elt Bits) ℓ) (g : Dev Cert.StepFinKernel.nD → PrngReg), Pre_StepFinKernel m →
    θ_run (Cert.StepFinKernel.defs (F := Bits)) (onTc (τ := Cert.StepFinKernel.τ) (Cert.StepFinKernel.main (F := Bits))) ⟨m, fun _ => 0, g⟩ (fun r => (∀ c : Dev Cert.StepFinKernel.nD,
      r.2.mem ((c.tc : Thread Cert.StepFinKernel.nD Cert.StepFinKernel.τ).loc Cert.StepFinKernel.main_arg0) = m ((c.tc : Thread Cert.StepFinKernel.nD Cert.StepFinKernel.τ).loc Cert.StepFinKernel.main_arg0)
      ∧ r.2.mem ((c.tc : Thread Cert.StepFinKernel.nD Cert.StepFinKernel.τ).loc Cert.StepFinKernel.main_arg1) = m ((c.tc : Thread Cert.StepFinKernel.nD Cert.StepFinKernel.τ).loc Cert.StepFinKernel.main_arg1)
      ∧ r.2.mem ((c.tc : Thread Cert.StepFinKernel.nD Cert.StepFinKernel.τ).loc Cert.StepFinKernel.main_arg2) = m ((c.tc : Thread Cert.StepFinKernel.nD Cert.StepFinKernel.τ).loc Cert.StepFinKernel.main_arg2)
      ∧ r.2.mem ((c.tc : Thread Cert.StepFinKernel.nD Cert.StepFinKernel.τ).loc Cert.StepFinKernel.main_arg3) = m ((c.tc : Thread Cert.StepFinKernel.nD Cert.StepFinKernel.τ).loc Cert.StepFinKernel.main_arg3)
      ∧ r.2.mem ((c.tc : Thread Cert.StepFinKernel.nD Cert.StepFinKernel.τ).loc Cert.StepFinKernel.main_arg4) = m ((c.tc : Thread Cert.StepFinKernel.nD Cert.StepFinKernel.τ).loc Cert.StepFinKernel.main_arg4))
      ∧ r.2.sem = fun _ => 0)

def quiescent_StepFinKernelIdeal [hStepFinKernelIdeal : Cert.StepFinKernelIdeal.Facts] : Prop :=
  ∀ (m : (ℓ : Loc Cert.StepFinKernelIdeal.nD Cert.StepFinKernelIdeal.τ Cert.StepFinKernelIdeal.sig) → Buf (Elt Ideal) ℓ) (g : Dev Cert.StepFinKernelIdeal.nD → PrngReg), Pre_StepFinKernelIdeal m →
    θ_run (Cert.StepFinKernelIdeal.defs (F := Ideal)) (onTc (τ := Cert.StepFinKernelIdeal.τ) (Cert.StepFinKernelIdeal.main (F := Ideal))) ⟨m, fun _ => 0, g⟩ (fun r => (∀ c : Dev Cert.StepFinKernelIdeal.nD,
      r.2.mem ((c.tc : Thread Cert.StepFinKernelIdeal.nD Cert.StepFinKernelIdeal.τ).loc Cert.StepFinKernelIdeal.main_arg0) = m ((c.tc : Thread Cert.StepFinKernelIdeal.nD Cert.StepFinKernelIdeal.τ).loc Cert.StepFinKernelIdeal.main_arg0)
      ∧ r.2.mem ((c.tc : Thread Cert.StepFinKernelIdeal.nD Cert.StepFinKernelIdeal.τ).loc Cert.StepFinKernelIdeal.main_arg1) = m ((c.tc : Thread Cert.StepFinKernelIdeal.nD Cert.StepFinKernelIdeal.τ).loc Cert.StepFinKernelIdeal.main_arg1)
      ∧ r.2.mem ((c.tc : Thread Cert.StepFinKernelIdeal.nD Cert.StepFinKernelIdeal.τ).loc Cert.StepFinKernelIdeal.main_arg2) = m ((c.tc : Thread Cert.StepFinKernelIdeal.nD Cert.StepFinKernelIdeal.τ).loc Cert.StepFinKernelIdeal.main_arg2)
      ∧ r.2.mem ((c.tc : Thread Cert.StepFinKernelIdeal.nD Cert.StepFinKernelIdeal.τ).loc Cert.StepFinKernelIdeal.main_arg3) = m ((c.tc : Thread Cert.StepFinKernelIdeal.nD Cert.StepFinKernelIdeal.τ).loc Cert.StepFinKernelIdeal.main_arg3)
      ∧ r.2.mem ((c.tc : Thread Cert.StepFinKernelIdeal.nD Cert.StepFinKernelIdeal.τ).loc Cert.StepFinKernelIdeal.main_arg4) = m ((c.tc : Thread Cert.StepFinKernelIdeal.nD Cert.StepFinKernelIdeal.τ).loc Cert.StepFinKernelIdeal.main_arg4))
      ∧ r.2.sem = fun _ => 0)

def quiescent_StepFinReferenceIdeal [hStepFinReferenceIdeal : Cert.StepFinReferenceIdeal.Facts] : Prop :=
  ∀ (m : (ℓ : Loc Cert.StepFinReferenceIdeal.nD Cert.StepFinReferenceIdeal.τ Cert.StepFinReferenceIdeal.sig) → Buf (Elt Ideal) ℓ) (g : Dev Cert.StepFinReferenceIdeal.nD → PrngReg), Pre_StepFinReferenceIdeal m →
    θ_run (Cert.StepFinReferenceIdeal.defs (F := Ideal)) (onTc (τ := Cert.StepFinReferenceIdeal.τ) (Cert.StepFinReferenceIdeal.main (F := Ideal))) ⟨m, fun _ => 0, g⟩ (fun r => (∀ c : Dev Cert.StepFinReferenceIdeal.nD,
      r.2.mem ((c.tc : Thread Cert.StepFinReferenceIdeal.nD Cert.StepFinReferenceIdeal.τ).loc Cert.StepFinReferenceIdeal.main_arg0) = m ((c.tc : Thread Cert.StepFinReferenceIdeal.nD Cert.StepFinReferenceIdeal.τ).loc Cert.StepFinReferenceIdeal.main_arg0)
      ∧ r.2.mem ((c.tc : Thread Cert.StepFinReferenceIdeal.nD Cert.StepFinReferenceIdeal.τ).loc Cert.StepFinReferenceIdeal.main_arg1) = m ((c.tc : Thread Cert.StepFinReferenceIdeal.nD Cert.StepFinReferenceIdeal.τ).loc Cert.StepFinReferenceIdeal.main_arg1)
      ∧ r.2.mem ((c.tc : Thread Cert.StepFinReferenceIdeal.nD Cert.StepFinReferenceIdeal.τ).loc Cert.StepFinReferenceIdeal.main_arg2) = m ((c.tc : Thread Cert.StepFinReferenceIdeal.nD Cert.StepFinReferenceIdeal.τ).loc Cert.StepFinReferenceIdeal.main_arg2)
      ∧ r.2.mem ((c.tc : Thread Cert.StepFinReferenceIdeal.nD Cert.StepFinReferenceIdeal.τ).loc Cert.StepFinReferenceIdeal.main_arg3) = m ((c.tc : Thread Cert.StepFinReferenceIdeal.nD Cert.StepFinReferenceIdeal.τ).loc Cert.StepFinReferenceIdeal.main_arg3)
      ∧ r.2.mem ((c.tc : Thread Cert.StepFinReferenceIdeal.nD Cert.StepFinReferenceIdeal.τ).loc Cert.StepFinReferenceIdeal.main_arg4) = m ((c.tc : Thread Cert.StepFinReferenceIdeal.nD Cert.StepFinReferenceIdeal.τ).loc Cert.StepFinReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92_0)) (v1 : (c : Dev Cert.KernelIdeal.nD) → Buf (Elt Ideal) ((c.tc : Thread Cert.KernelIdeal.nD Cert.KernelIdeal.τ).loc Cert.KernelIdeal.main_v92_1)) (v2 : (c : Dev Cert.KernelIdeal.nD) → Buf (Elt Ideal) ((c.tc : Thread Cert.KernelIdeal.nD Cert.KernelIdeal.τ).loc Cert.KernelIdeal.main_v92_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92_0) = v0 c
          ∧ r.2.mem ((c.tc : Thread Cert.KernelIdeal.nD Cert.KernelIdeal.τ).loc Cert.KernelIdeal.main_v92_1) = v1 c
          ∧ r.2.mem ((c.tc : Thread Cert.KernelIdeal.nD Cert.KernelIdeal.τ).loc Cert.KernelIdeal.main_v92_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v391) = v0 c
          ∧ r.2.mem ((c.tc : Thread Cert.ReferenceIdeal.nD Cert.ReferenceIdeal.τ).loc Cert.ReferenceIdeal.main_v392) = v1 c
          ∧ r.2.mem ((c.tc : Thread Cert.ReferenceIdeal.nD Cert.ReferenceIdeal.τ).loc Cert.ReferenceIdeal.main_v374) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v3) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FinKernel_FinKernelIdeal : Prop :=
  True

def algebraic_FinKernelIdeal_FinReferenceIdeal [hFinKernelIdeal : Cert.FinKernelIdeal.Facts] [hFinReferenceIdeal : Cert.FinReferenceIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg)
    (m' : (ℓ : Loc Cert.FinReferenceIdeal.nD Cert.FinReferenceIdeal.τ Cert.FinReferenceIdeal.sig) → Buf (Elt Ideal) ℓ) (g' : Dev Cert.FinReferenceIdeal.nD → PrngReg), Pre_FinKernelIdeal m →
    (∀ c : Dev Cert.FinKernelIdeal.nD,
      m' ((c.tc : Thread Cert.FinReferenceIdeal.nD Cert.FinReferenceIdeal.τ).loc Cert.FinReferenceIdeal.main_arg0) = m ((c.tc : Thread Cert.FinKernelIdeal.nD Cert.FinKernelIdeal.τ).loc Cert.FinKernelIdeal.main_arg0)
      ∧ m' ((c.tc : Thread Cert.FinReferenceIdeal.nD Cert.FinReferenceIdeal.τ).loc Cert.FinReferenceIdeal.main_arg1) = m ((c.tc : Thread Cert.FinKernelIdeal.nD Cert.FinKernelIdeal.τ).loc Cert.FinKernelIdeal.main_arg1)
      ∧ m' ((c.tc : Thread Cert.FinReferenceIdeal.nD Cert.FinReferenceIdeal.τ).loc Cert.FinReferenceIdeal.main_arg2) = m ((c.tc : Thread Cert.FinKernelIdeal.nD Cert.FinKernelIdeal.τ).loc Cert.FinKernelIdeal.main_arg2)
      ∧ m' ((c.tc : Thread Cert.FinReferenceIdeal.nD Cert.FinReferenceIdeal.τ).loc Cert.FinReferenceIdeal.main_arg3) = m ((c.tc : Thread Cert.FinKernelIdeal.nD Cert.FinKernelIdeal.τ).loc Cert.FinKernelIdeal.main_arg3)
      ∧ m' ((c.tc : Thread Cert.FinReferenceIdeal.nD Cert.FinReferenceIdeal.τ).loc Cert.FinReferenceIdeal.main_arg4) = m ((c.tc : Thread Cert.FinKernelIdeal.nD Cert.FinKernelIdeal.τ).loc Cert.FinKernelIdeal.main_arg4)) →
    ∃ (v0 : (c : Dev Cert.FinKernelIdeal.nD) → Buf (Elt Ideal) ((c.tc : Thread Cert.FinKernelIdeal.nD Cert.FinKernelIdeal.τ).loc Cert.FinKernelIdeal.main_v4)),
      θ_run (Cert.FinKernelIdeal.defs (F := Ideal)) (onTc (τ := Cert.FinKernelIdeal.τ) (Cert.FinKernelIdeal.main (F := Ideal))) ⟨m, fun _ => 0, g⟩ (fun r => ∀ c : Dev Cert.FinKernelIdeal.nD,
          r.2.mem ((c.tc : Thread Cert.FinKernelIdeal.nD Cert.FinKernelIdeal.τ).loc Cert.FinKernelIdeal.main_v4) = v0 c
          ∧ r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
          ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
          ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2)
          ∧ r.2.mem ((c.tc : Thread Cert.FinKernelIdeal.nD Cert.FinKernelIdeal.τ).loc Cert.FinKernelIdeal.main_arg3) = m ((c.tc : Thread Cert.FinKernelIdeal.nD Cert.FinKernelIdeal.τ).loc Cert.FinKernelIdeal.main_arg3)
          ∧ r.2.mem ((c.tc : Thread Cert.FinKernelIdeal.nD Cert.FinKernelIdeal.τ).loc Cert.FinKernelIdeal.main_arg4) = m ((c.tc : Thread Cert.FinKernelIdeal.nD Cert.FinKernelIdeal.τ).loc Cert.FinKernelIdeal.main_arg4))
      ∧ θ_run (Cert.FinReferenceIdeal.defs (F := Ideal)) (onTc (τ := Cert.FinReferenceIdeal.τ) (Cert.FinReferenceIdeal.main (F := Ideal))) ⟨m', fun _ => 0, g'⟩ (fun r => ∀ c : Dev Cert.FinReferenceIdeal.nD,
          r.2.mem ((c.tc : Thread Cert.FinReferenceIdeal.nD Cert.FinReferenceIdeal.τ).loc Cert.FinReferenceIdeal.main_v34) = v0 c
          ∧ r.2.mem ((c.tc : Thread Cert.FinReferenceIdeal.nD Cert.FinReferenceIdeal.τ).loc Cert.FinReferenceIdeal.main_arg0) = m' ((c.tc : Thread Cert.FinReferenceIdeal.nD Cert.FinReferenceIdeal.τ).loc Cert.FinReferenceIdeal.main_arg0)
          ∧ r.2.mem ((c.tc : Thread Cert.FinReferenceIdeal.nD Cert.FinReferenceIdeal.τ).loc Cert.FinReferenceIdeal.main_arg1) = m' ((c.tc : Thread Cert.FinReferenceIdeal.nD Cert.FinReferenceIdeal.τ).loc Cert.FinReferenceIdeal.main_arg1)
          ∧ r.2.mem ((c.tc : Thread Cert.FinReferenceIdeal.nD Cert.FinReferenceIdeal.τ).loc Cert.FinReferenceIdeal.main_arg2) = m' ((c.tc : Thread Cert.FinReferenceIdeal.nD Cert.FinReferenceIdeal.τ).loc Cert.FinReferenceIdeal.main_arg2)
          ∧ r.2.mem ((c.tc : Thread Cert.FinReferenceIdeal.nD Cert.FinReferenceIdeal.τ).loc Cert.FinReferenceIdeal.main_arg3) = m' ((c.tc : Thread Cert.FinReferenceIdeal.nD Cert.FinReferenceIdeal.τ).loc Cert.FinReferenceIdeal.main_arg3)
          ∧ r.2.mem ((c.tc : Thread Cert.FinReferenceIdeal.nD Cert.FinReferenceIdeal.τ).loc Cert.FinReferenceIdeal.main_arg4) = m' ((c.tc : Thread Cert.FinReferenceIdeal.nD Cert.FinReferenceIdeal.τ).loc Cert.FinReferenceIdeal.main_arg4))

def preserves_StepFfnKernel_StepFfnKernelIdeal : Prop :=
  True

def algebraic_StepFfnKernelIdeal_StepFfnReferenceIdeal [hStepFfnKernelIdeal : Cert.StepFfnKernelIdeal.Facts] [hStepFfnReferenceIdeal : Cert.StepFfnReferenceIdeal.Facts] : Prop :=
  ∀ (m : (ℓ : Loc Cert.StepFfnKernelIdeal.nD Cert.StepFfnKernelIdeal.τ Cert.StepFfnKernelIdeal.sig) → Buf (Elt Ideal) ℓ) (g : Dev Cert.StepFfnKernelIdeal.nD → PrngReg)
    (m' : (ℓ : Loc Cert.StepFfnReferenceIdeal.nD Cert.StepFfnReferenceIdeal.τ Cert.StepFfnReferenceIdeal.sig) → Buf (Elt Ideal) ℓ) (g' : Dev Cert.StepFfnReferenceIdeal.nD → PrngReg), Pre_StepFfnKernelIdeal m →
    (∀ c : Dev Cert.StepFfnKernelIdeal.nD,
      m' ((c.tc : Thread Cert.StepFfnReferenceIdeal.nD Cert.StepFfnReferenceIdeal.τ).loc Cert.StepFfnReferenceIdeal.main_arg0) = m ((c.tc : Thread Cert.StepFfnKernelIdeal.nD Cert.StepFfnKernelIdeal.τ).loc Cert.StepFfnKernelIdeal.main_arg0)
      ∧ m' ((c.tc : Thread Cert.StepFfnReferenceIdeal.nD Cert.StepFfnReferenceIdeal.τ).loc Cert.StepFfnReferenceIdeal.main_arg1) = m ((c.tc : Thread Cert.StepFfnKernelIdeal.nD Cert.StepFfnKernelIdeal.τ).loc Cert.StepFfnKernelIdeal.main_arg1)
      ∧ m' ((c.tc : Thread Cert.StepFfnReferenceIdeal.nD Cert.StepFfnReferenceIdeal.τ).loc Cert.StepFfnReferenceIdeal.main_arg2) = m ((c.tc : Thread Cert.StepFfnKernelIdeal.nD Cert.StepFfnKernelIdeal.τ).loc Cert.StepFfnKernelIdeal.main_arg2)
      ∧ m' ((c.tc : Thread Cert.StepFfnReferenceIdeal.nD Cert.StepFfnReferenceIdeal.τ).loc Cert.StepFfnReferenceIdeal.main_arg3) = m ((c.tc : Thread Cert.StepFfnKernelIdeal.nD Cert.StepFfnKernelIdeal.τ).loc Cert.StepFfnKernelIdeal.main_arg3)) →
    ∃ (v0 : (c : Dev Cert.StepFfnKernelIdeal.nD) → Buf (Elt Ideal) ((c.tc : Thread Cert.StepFfnKernelIdeal.nD Cert.StepFfnKernelIdeal.τ).loc Cert.StepFfnKernelIdeal.main_v3)),
      θ_run (Cert.StepFfnKernelIdeal.defs (F := Ideal)) (onTc (τ := Cert.StepFfnKernelIdeal.τ) (Cert.StepFfnKernelIdeal.main (F := Ideal))) ⟨m, fun _ => 0, g⟩ (fun r => ∀ c : Dev Cert.StepFfnKernelIdeal.nD,
          r.2.mem ((c.tc : Thread Cert.StepFfnKernelIdeal.nD Cert.StepFfnKernelIdeal.τ).loc Cert.StepFfnKernelIdeal.main_v3) = v0 c
          ∧ r.2.mem ((c.tc : Thread Cert.StepFfnKernelIdeal.nD Cert.StepFfnKernelIdeal.τ).loc Cert.StepFfnKernelIdeal.main_arg0) = m ((c.tc : Thread Cert.StepFfnKernelIdeal.nD Cert.StepFfnKernelIdeal.τ).loc Cert.StepFfnKernelIdeal.main_arg0)
          ∧ r.2.mem ((c.tc : Thread Cert.StepFfnKernelIdeal.nD Cert.StepFfnKernelIdeal.τ).loc Cert.StepFfnKernelIdeal.main_arg1) = m ((c.tc : Thread Cert.StepFfnKernelIdeal.nD Cert.StepFfnKernelIdeal.τ).loc Cert.StepFfnKernelIdeal.main_arg1)
          ∧ r.2.mem ((c.tc : Thread Cert.StepFfnKernelIdeal.nD Cert.StepFfnKernelIdeal.τ).loc Cert.StepFfnKernelIdeal.main_arg2) = m ((c.tc : Thread Cert.StepFfnKernelIdeal.nD Cert.StepFfnKernelIdeal.τ).loc Cert.StepFfnKernelIdeal.main_arg2)
          ∧ r.2.mem ((c.tc : Thread Cert.StepFfnKernelIdeal.nD Cert.StepFfnKernelIdeal.τ).loc Cert.StepFfnKernelIdeal.main_arg3) = m ((c.tc : Thread Cert.StepFfnKernelIdeal.nD Cert.StepFfnKernelIdeal.τ).loc Cert.StepFfnKernelIdeal.main_arg3))
      ∧ θ_run (Cert.StepFfnReferenceIdeal.defs (F := Ideal)) (onTc (τ := Cert.StepFfnReferenceIdeal.τ) (Cert.StepFfnReferenceIdeal.main (F := Ideal))) ⟨m', fun _ => 0, g'⟩ (fun r => ∀ c : Dev Cert.StepFfnReferenceIdeal.nD,
          r.2.mem ((c.tc : Thread Cert.StepFfnReferenceIdeal.nD Cert.StepFfnReferenceIdeal.τ).loc Cert.StepFfnReferenceIdeal.main_v21) = v0 c
          ∧ r.2.mem ((c.tc : Thread Cert.StepFfnReferenceIdeal.nD Cert.StepFfnReferenceIdeal.τ).loc Cert.StepFfnReferenceIdeal.main_arg0) = m' ((c.tc : Thread Cert.StepFfnReferenceIdeal.nD Cert.StepFfnReferenceIdeal.τ).loc Cert.StepFfnReferenceIdeal.main_arg0)
          ∧ r.2.mem ((c.tc : Thread Cert.StepFfnReferenceIdeal.nD Cert.StepFfnReferenceIdeal.τ).loc Cert.StepFfnReferenceIdeal.main_arg1) = m' ((c.tc : Thread Cert.StepFfnReferenceIdeal.nD Cert.StepFfnReferenceIdeal.τ).loc Cert.StepFfnReferenceIdeal.main_arg1)
          ∧ r.2.mem ((c.tc : Thread Cert.StepFfnReferenceIdeal.nD Cert.StepFfnReferenceIdeal.τ).loc Cert.StepFfnReferenceIdeal.main_arg2) = m' ((c.tc : Thread Cert.StepFfnReferenceIdeal.nD Cert.StepFfnReferenceIdeal.τ).loc Cert.StepFfnReferenceIdeal.main_arg2)
          ∧ r.2.mem ((c.tc : Thread Cert.StepFfnReferenceIdeal.nD Cert.StepFfnReferenceIdeal.τ).loc Cert.StepFfnReferenceIdeal.main_arg3) = m' ((c.tc : Thread Cert.StepFfnReferenceIdeal.nD Cert.StepFfnReferenceIdeal.τ).loc Cert.StepFfnReferenceIdeal.main_arg3))

def preserves_StepFinKernel_StepFinKernelIdeal : Prop :=
  True

def algebraic_StepFinKernelIdeal_StepFinReferenceIdeal [hStepFinKernelIdeal : Cert.StepFinKernelIdeal.Facts] [hStepFinReferenceIdeal : Cert.StepFinReferenceIdeal.Facts] : Prop :=
  ∀ (m : (ℓ : Loc Cert.StepFinKernelIdeal.nD Cert.StepFinKernelIdeal.τ Cert.StepFinKernelIdeal.sig) → Buf (Elt Ideal) ℓ) (g : Dev Cert.StepFinKernelIdeal.nD → PrngReg)
    (m' : (ℓ : Loc Cert.StepFinReferenceIdeal.nD Cert.StepFinReferenceIdeal.τ Cert.StepFinReferenceIdeal.sig) → Buf (Elt Ideal) ℓ) (g' : Dev Cert.StepFinReferenceIdeal.nD → PrngReg), Pre_StepFinKernelIdeal m →
    (∀ c : Dev Cert.StepFinKernelIdeal.nD,
      m' ((c.tc : Thread Cert.StepFinReferenceIdeal.nD Cert.StepFinReferenceIdeal.τ).loc Cert.StepFinReferenceIdeal.main_arg0) = m ((c.tc : Thread Cert.StepFinKernelIdeal.nD Cert.StepFinKernelIdeal.τ).loc Cert.StepFinKernelIdeal.main_arg0)
      ∧ m' ((c.tc : Thread Cert.StepFinReferenceIdeal.nD Cert.StepFinReferenceIdeal.τ).loc Cert.StepFinReferenceIdeal.main_arg1) = m ((c.tc : Thread Cert.StepFinKernelIdeal.nD Cert.StepFinKernelIdeal.τ).loc Cert.StepFinKernelIdeal.main_arg1)
      ∧ m' ((c.tc : Thread Cert.StepFinReferenceIdeal.nD Cert.StepFinReferenceIdeal.τ).loc Cert.StepFinReferenceIdeal.main_arg2) = m ((c.tc : Thread Cert.StepFinKernelIdeal.nD Cert.StepFinKernelIdeal.τ).loc Cert.StepFinKernelIdeal.main_arg2)
      ∧ m' ((c.tc : Thread Cert.StepFinReferenceIdeal.nD Cert.StepFinReferenceIdeal.τ).loc Cert.StepFinReferenceIdeal.main_arg3) = m ((c.tc : Thread Cert.StepFinKernelIdeal.nD Cert.StepFinKernelIdeal.τ).loc Cert.StepFinKernelIdeal.main_arg3)
      ∧ m' ((c.tc : Thread Cert.StepFinReferenceIdeal.nD Cert.StepFinReferenceIdeal.τ).loc Cert.StepFinReferenceIdeal.main_arg4) = m ((c.tc : Thread Cert.StepFinKernelIdeal.nD Cert.StepFinKernelIdeal.τ).loc Cert.StepFinKernelIdeal.main_arg4)) →
    ∃ (v0 : (c : Dev Cert.StepFinKernelIdeal.nD) → Buf (Elt Ideal) ((c.tc : Thread Cert.StepFinKernelIdeal.nD Cert.StepFinKernelIdeal.τ).loc Cert.StepFinKernelIdeal.main_v4)),
      θ_run (Cert.StepFinKernelIdeal.defs (F := Ideal)) (onTc (τ := Cert.StepFinKernelIdeal.τ) (Cert.StepFinKernelIdeal.main (F := Ideal))) ⟨m, fun _ => 0, g⟩ (fun r => ∀ c : Dev Cert.StepFinKernelIdeal.nD,
          r.2.mem ((c.tc : Thread Cert.StepFinKernelIdeal.nD Cert.StepFinKernelIdeal.τ).loc Cert.StepFinKernelIdeal.main_v4) = v0 c
          ∧ r.2.mem ((c.tc : Thread Cert.StepFinKernelIdeal.nD Cert.StepFinKernelIdeal.τ).loc Cert.StepFinKernelIdeal.main_arg0) = m ((c.tc : Thread Cert.StepFinKernelIdeal.nD Cert.StepFinKernelIdeal.τ).loc Cert.StepFinKernelIdeal.main_arg0)
          ∧ r.2.mem ((c.tc : Thread Cert.StepFinKernelIdeal.nD Cert.StepFinKernelIdeal.τ).loc Cert.StepFinKernelIdeal.main_arg1) = m ((c.tc : Thread Cert.StepFinKernelIdeal.nD Cert.StepFinKernelIdeal.τ).loc Cert.StepFinKernelIdeal.main_arg1)
          ∧ r.2.mem ((c.tc : Thread Cert.StepFinKernelIdeal.nD Cert.StepFinKernelIdeal.τ).loc Cert.StepFinKernelIdeal.main_arg2) = m ((c.tc : Thread Cert.StepFinKernelIdeal.nD Cert.StepFinKernelIdeal.τ).loc Cert.StepFinKernelIdeal.main_arg2)
          ∧ r.2.mem ((c.tc : Thread Cert.StepFinKernelIdeal.nD Cert.StepFinKernelIdeal.τ).loc Cert.StepFinKernelIdeal.main_arg3) = m ((c.tc : Thread Cert.StepFinKernelIdeal.nD Cert.StepFinKernelIdeal.τ).loc Cert.StepFinKernelIdeal.main_arg3)
          ∧ r.2.mem ((c.tc : Thread Cert.StepFinKernelIdeal.nD Cert.StepFinKernelIdeal.τ).loc Cert.StepFinKernelIdeal.main_arg4) = m ((c.tc : Thread Cert.StepFinKernelIdeal.nD Cert.StepFinKernelIdeal.τ).loc Cert.StepFinKernelIdeal.main_arg4))
      ∧ θ_run (Cert.StepFinReferenceIdeal.defs (F := Ideal)) (onTc (τ := Cert.StepFinReferenceIdeal.τ) (Cert.StepFinReferenceIdeal.main (F := Ideal))) ⟨m', fun _ => 0, g'⟩ (fun r => ∀ c : Dev Cert.StepFinReferenceIdeal.nD,
          r.2.mem ((c.tc : Thread Cert.StepFinReferenceIdeal.nD Cert.StepFinReferenceIdeal.τ).loc Cert.StepFinReferenceIdeal.main_v34) = v0 c
          ∧ r.2.mem ((c.tc : Thread Cert.StepFinReferenceIdeal.nD Cert.StepFinReferenceIdeal.τ).loc Cert.StepFinReferenceIdeal.main_arg0) = m' ((c.tc : Thread Cert.StepFinReferenceIdeal.nD Cert.StepFinReferenceIdeal.τ).loc Cert.StepFinReferenceIdeal.main_arg0)
          ∧ r.2.mem ((c.tc : Thread Cert.StepFinReferenceIdeal.nD Cert.StepFinReferenceIdeal.τ).loc Cert.StepFinReferenceIdeal.main_arg1) = m' ((c.tc : Thread Cert.StepFinReferenceIdeal.nD Cert.StepFinReferenceIdeal.τ).loc Cert.StepFinReferenceIdeal.main_arg1)
          ∧ r.2.mem ((c.tc : Thread Cert.StepFinReferenceIdeal.nD Cert.StepFinReferenceIdeal.τ).loc Cert.StepFinReferenceIdeal.main_arg2) = m' ((c.tc : Thread Cert.StepFinReferenceIdeal.nD Cert.StepFinReferenceIdeal.τ).loc Cert.StepFinReferenceIdeal.main_arg2)
          ∧ r.2.mem ((c.tc : Thread Cert.StepFinReferenceIdeal.nD Cert.StepFinReferenceIdeal.τ).loc Cert.StepFinReferenceIdeal.main_arg3) = m' ((c.tc : Thread Cert.StepFinReferenceIdeal.nD Cert.StepFinReferenceIdeal.τ).loc Cert.StepFinReferenceIdeal.main_arg3)
          ∧ r.2.mem ((c.tc : Thread Cert.StepFinReferenceIdeal.nD Cert.StepFinReferenceIdeal.τ).loc Cert.StepFinReferenceIdeal.main_arg4) = m' ((c.tc : Thread Cert.StepFinReferenceIdeal.nD Cert.StepFinReferenceIdeal.τ).loc Cert.StepFinReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hFinKernel : Cert.FinKernel.Facts) (hFinKernelIdeal : Cert.FinKernelIdeal.Facts) (hFinReferenceIdeal : Cert.FinReferenceIdeal.Facts) (hStepFfnKernel : Cert.StepFfnKernel.Facts) (hStepFfnKernelIdeal : Cert.StepFfnKernelIdeal.Facts) (hStepFfnReferenceIdeal : Cert.StepFfnReferenceIdeal.Facts) (hStepFinKernel : Cert.StepFinKernel.Facts) (hStepFinKernelIdeal : Cert.StepFinKernelIdeal.Facts) (hStepFinReferenceIdeal : Cert.StepFinReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_FinKernel (hFinKernel := hFinKernel)
    ∧ quiescent_FinKernelIdeal (hFinKernelIdeal := hFinKernelIdeal)
    ∧ quiescent_FinReferenceIdeal (hFinReferenceIdeal := hFinReferenceIdeal)
    ∧ quiescent_StepFfnKernel (hStepFfnKernel := hStepFfnKernel)
    ∧ quiescent_StepFfnKernelIdeal (hStepFfnKernelIdeal := hStepFfnKernelIdeal)
    ∧ quiescent_StepFfnReferenceIdeal (hStepFfnReferenceIdeal := hStepFfnReferenceIdeal)
    ∧ quiescent_StepFinKernel (hStepFinKernel := hStepFinKernel)
    ∧ quiescent_StepFinKernelIdeal (hStepFinKernelIdeal := hStepFinKernelIdeal)
    ∧ quiescent_StepFinReferenceIdeal (hStepFinReferenceIdeal := hStepFinReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_FinKernel_FinKernelIdeal
    ∧ algebraic_FinKernelIdeal_FinReferenceIdeal (hFinKernelIdeal := hFinKernelIdeal) (hFinReferenceIdeal := hFinReferenceIdeal)
    ∧ preserves_StepFfnKernel_StepFfnKernelIdeal
    ∧ algebraic_StepFfnKernelIdeal_StepFfnReferenceIdeal (hStepFfnKernelIdeal := hStepFfnKernelIdeal) (hStepFfnReferenceIdeal := hStepFfnReferenceIdeal)
    ∧ preserves_StepFinKernel_StepFinKernelIdeal
    ∧ algebraic_StepFinKernelIdeal_StepFinReferenceIdeal (hStepFinKernelIdeal := hStepFinKernelIdeal) (hStepFinReferenceIdeal := hStepFinReferenceIdeal)
-- ==== Kernel.lean ====
abbrev S8x2048x1024 : Shape := ⟨3, ![8, 2048, 1024]⟩
abbrev S1024 : Shape := ⟨1, ![1024]⟩
abbrev S1024x5632 : Shape := ⟨2, ![1024, 5632]⟩
abbrev S4x128x256 : Shape := ⟨3, ![4, 128, 256]⟩
abbrev S1024x1024 : Shape := ⟨2, ![1024, 1024]⟩
abbrev S2048 : Shape := ⟨1, ![2048]⟩
abbrev S_ : Shape := ⟨0, ![]⟩
abbrev S31 : Shape := ⟨1, ![31]⟩
abbrev S1 : Shape := ⟨1, ![1]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x128x64 : Shape := ⟨3, ![8, 128, 64]⟩
abbrev S4x2x128x64 : Shape := ⟨4, ![4, 2, 128, 64]⟩
abbrev S4x128x2x64 : Shape := ⟨4, ![4, 128, 2, 64]⟩
abbrev S4x128x128 : Shape := ⟨3, ![4, 128, 128]⟩
abbrev S8x64x128 : Shape := ⟨3, ![8, 64, 128]⟩
abbrev S1x1024 : Shape := ⟨2, ![1, 1024]⟩
abbrev S8x512x128 : Shape := ⟨3, ![8, 512, 128]⟩
abbrev S8x15x512 : Shape := ⟨3, ![8, 15, 512]⟩
abbrev S1x512x1024 : Shape := ⟨3, ![1, 512, 1024]⟩
abbrev S512x128 : Shape := ⟨2, ![512, 128]⟩
abbrev S1x512x128 : Shape := ⟨3, ![1, 512, 128]⟩
abbrev S1x15x512 : Shape := ⟨3, ![1, 15, 512]⟩
abbrev S512x5632 : Shape := ⟨2, ![512, 5632]⟩
abbrev S528x512 : Shape := ⟨2, ![528, 512]⟩
abbrev S512x1024 : Shape := ⟨2, ![512, 1024]⟩
abbrev S16x512 : Shape := ⟨2, ![16, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S128x256 : Shape := ⟨2, ![128, 256]⟩
abbrev S256x128 : Shape := ⟨2, ![256, 128]⟩
abbrev S64x128 : Shape := ⟨2, ![64, 128]⟩
abbrev S1x128x256 : Shape := ⟨3, ![1, 128, 256]⟩
abbrev S512x256 : Shape := ⟨2, ![512, 256]⟩
abbrev S1x256 : Shape := ⟨2, ![1, 256]⟩
abbrev S15x512 : Shape := ⟨2, ![15, 512]⟩

abbrev nBuf : Space → Nat
  | .hbm => 137
  | .vmem => 26
  | .smem => 0
  | _ => 0

abbrev hbmTy0_0 (i : Nat) : BufTy := match i % 128 with
  | 0 => ⟨S8x2048x1024, .f32⟩
  | 1 => ⟨S1024, .f32⟩
  | 2 => ⟨S1024x5632, .f32⟩
  | 3 => ⟨S4x128x256, .f32⟩
  | 4 => ⟨S1024, .f32⟩
  | 5 => ⟨S1024x1024, .f32⟩
  | 6 => ⟨S1024x5632, .bf16⟩
  | 7 => ⟨S4x128x256, .bf16⟩
  | 8 => ⟨S1024x1024, .bf16⟩
  | 9 => ⟨S2048, .i32⟩
  | 10 => ⟨S2048, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S31, .f32⟩
  | 19 => ⟨S_, .f32⟩
  | 20 => ⟨S31, .f32⟩
  | 21 => ⟨S31, .f32⟩
  | 22 => ⟨S1, .f32⟩
  | 23 => ⟨S_, .f32⟩
  | 24 => ⟨S31, .f32⟩
  | 25 => ⟨S31, .f32⟩
  | 26 => ⟨S31, .f32⟩
  | 27 => ⟨S31, .f32⟩
  | 28 => ⟨S1, .f32⟩
  | 29 => ⟨S31, .f32⟩
  | 30 => ⟨S31, .f32⟩
  | 31 => ⟨S31, .f32⟩
  | 32 => ⟨S1, .f32⟩
  | 33 => ⟨S32, .f32⟩
  | 34 => ⟨S32, .f32⟩
  | 35 => ⟨S_, .f32⟩
  | 36 => ⟨S32, .f32⟩
  | 37 => ⟨S32, .f32⟩
  | 38 => ⟨S2048x1, .f32⟩
  | 39 => ⟨S1x32, .f32⟩
  | 40 => ⟨S2048x32, .f32⟩
  | 41 => ⟨S2048x32, .f32⟩
  | 42 => ⟨S2048x32, .f32⟩
  | 43 => ⟨S2048x32, .f32⟩
  | 44 => ⟨S2048x32, .f32⟩
  | 45 => ⟨S1x2048x1x32, .f32⟩
  | 46 => ⟨S1x2048x4x32, .f32⟩
  | 47 => ⟨S2048x128, .f32⟩
  | 48 => ⟨S2048x32, .f32⟩
  | 49 => ⟨S2048x64, .f32⟩
  | 50 => ⟨S1x2048x1x64, .f32⟩
  | 51 => ⟨S1x2048x2x64, .f32⟩
  | 52 => ⟨S2048x128, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S8, .f32⟩
  | 61 => ⟨S8, .f32⟩
  | 62 => ⟨S8, .f32⟩
  | 63 => ⟨S128, .f32⟩
  | 64 => ⟨S128x1, .f32⟩
  | 65 => ⟨S1x128, .f32⟩
  | 66 => ⟨S128x128, .f32⟩
  | 67 => ⟨S128x128, .f32⟩
  | 68 => ⟨S128x128, .f32⟩
  | 69 => ⟨S1x128x128, .f32⟩
  | 70 => ⟨S_, .f32⟩
  | 71 => ⟨S1x128x128, .f32⟩
  | 72 => ⟨S1x128x128, .i1⟩
  | 73 => ⟨S8x1x1, .f32⟩
  | 74 => ⟨S_, .f32⟩
  | 75 => ⟨S128x128, .f32⟩
  | 76 => ⟨S128x128, .f32⟩
  | 77 => ⟨S1x128x128, .f32⟩
  | 78 => ⟨S8x128x128, .f32⟩
  | 79 => ⟨S8x128x128, .f32⟩
  | 80 => ⟨S8x128x128, .f32⟩
  | 81 => ⟨S8x128x128, .f32⟩
  | 82 => ⟨S_, .f32⟩
  | 83 => ⟨S_, .f32⟩
  | 84 => ⟨S8x128x128, .i1⟩
  | 85 => ⟨S8x128x128, .f32⟩
  | 86 => ⟨S8x128x128, .f32⟩
  | 87 => ⟨S8x1, .f32⟩
  | 88 => ⟨S1x128, .f32⟩
  | 89 => ⟨S_, .f32⟩
  | 90 => ⟨S1x128, .f32⟩
  | 91 => ⟨S1x128, .f32⟩
  | 92 => ⟨S8x128, .f32⟩
  | 93 => ⟨S8x128, .f32⟩
  | 94 => ⟨S8x128, .f32⟩
  | 95 => ⟨S8x128, .f32⟩
  | 96 => ⟨S8x1, .f32⟩
  | 97 => ⟨S1x128, .f32⟩
  | 98 => ⟨S_, .f32⟩
  | 99 => ⟨S1x128, .f32⟩
  | 100 => ⟨S1x128, .f32⟩
  | 101 => ⟨S8x128, .f32⟩
  | 102 => ⟨S8x128, .f32⟩
  | 103 => ⟨S8x128, .f32⟩
  | 104 => ⟨S8x128, .f32⟩
  | 105 => ⟨S8x128x1, .f32⟩
  | 106 => ⟨S8x128x64, .f32⟩
  | 107 => ⟨S4x2x128x64, .f32⟩
  | 108 => ⟨S4x128x2x64, .f32⟩
  | 109 => ⟨S4x128x128, .f32⟩
  | 110 => ⟨S8x128x1, .f32⟩
  | 111 => ⟨S8x128x64, .f32⟩
  | 112 => ⟨S4x2x128x64, .f32⟩
  | 113 => ⟨S4x128x2x64, .f32⟩
  | 114 => ⟨S4x128x128, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S8, .f32⟩
  | 123 => ⟨S8, .f32⟩
  | 124 => ⟨S8, .f32⟩
  | 125 => ⟨S_, .f32⟩
  | 126 => ⟨S8, .f32⟩
  | 127 => ⟨S8, .f32⟩
  | _ => ⟨S8x2048x1024, .f32⟩

abbrev hbmTy0_1 (i : Nat) : BufTy := match i % 128 with
  | 0 => ⟨S8, .f32⟩
  | 1 => ⟨S8x1x1, .f32⟩
  | 2 => ⟨S8x64x128, .f32⟩
  | 3 => ⟨S4x128x128, .f32⟩
  | 4 => ⟨S1x1024, .f32⟩
  | 5 => ⟨S1x1024, .f32⟩
  | 6 => ⟨S8x2048x1024, .f32⟩
  | 7 => ⟨S8x512x128, .f32⟩
  | 8 => ⟨S8x15x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S4x128x256, .bf16⟩
  | .local _ .vmem, ⟨5, _⟩ => ⟨S1x1024, .f32⟩
  | .local _ .vmem, ⟨6, _⟩ => ⟨S1024x1024, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8x128x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x128, .f32⟩
  | .local _ .vmem, ⟨18, _⟩ => ⟨S1x512x128, .f32⟩
  | .local _ .vmem, ⟨19, _⟩ => ⟨S1x15x512, .f32⟩
  | .local _ .vmem, ⟨20, _⟩ => ⟨S1x15x512, .f32⟩
  | .local _ .vmem, ⟨21, _⟩ => ⟨S512x5632, .f32⟩
  | .local _ .vmem, ⟨22, _⟩ => ⟨S4x128x128, .f32⟩
  | .local _ .vmem, ⟨23, _⟩ => ⟨S528x512, .f32⟩
  | .local _ .vmem, ⟨24, _⟩ => ⟨S512x1024, .f32⟩
  | .local _ .vmem, ⟨25, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_4 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_6 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_7 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_8 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_9 : Ref sig .tc := ⟨.hbm, 116, rfl⟩
abbrev main_v77 : Ref sig .tc := ⟨.hbm, 117, rfl⟩
abbrev main_v78 : Ref sig .tc := ⟨.hbm, 118, rfl⟩
abbrev main_cst_10 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_11 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92_0 : Ref sig .tc := ⟨.hbm, 134, rfl⟩
abbrev main_v92_1 : Ref sig .tc := ⟨.hbm, 135, rfl⟩
abbrev main_v92_2 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v1774 : BitVec 1 := Scalar.cmpi .eq arg1 c3_i32
  let v1775 : BitVec 32 := Scalar.extui v1774
  let c0_i32_896 : BitVec 32 := 0#32
  let v1776 : BitVec 1 := Scalar.cmpi .ne v1775 c0_i32_896
  v1776

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x15x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S8x2048x1024 : Shape := ⟨3, ![8, 2048, 1024]⟩
abbrev S1024 : Shape := ⟨1, ![1024]⟩
abbrev S1024x5632 : Shape := ⟨2, ![1024, 5632]⟩
abbrev S4x128x256 : Shape := ⟨3, ![4, 128, 256]⟩
abbrev S1024x1024 : Shape := ⟨2, ![1024, 1024]⟩
abbrev S_ : Shape := ⟨0, ![]⟩
abbrev S8x8x64x128 : Shape := ⟨4, ![8, 8, 64, 128]⟩
abbrev S8x15x512 : Shape := ⟨3, ![8, 15, 512]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x512 : Shape := ⟨3, ![8, 2048, 512]⟩
abbrev S2048 : Shape := ⟨1, ![2048]⟩
abbrev S8x2048x8x64 : Shape := ⟨4, ![8, 2048, 8, 64]⟩
abbrev S31 : Shape := ⟨1, ![31]⟩
abbrev S1 : Shape := ⟨1, ![1]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x8x128 : Shape := ⟨4, ![8, 2048, 8, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x16x128x8x64 : Shape := ⟨5, ![8, 16, 128, 8, 64]⟩
abbrev S16x8x8x128x64 : Shape := ⟨5, ![16, 8, 8, 128, 64]⟩
abbrev S8x16x128x8x128 : Shape := ⟨5, ![8, 16, 128, 8, 128]⟩
abbrev S16x8x8x128x128 : Shape := ⟨5, ![16, 8, 8, 128, 128]⟩
abbrev S1x1x8x128x128 : Shape := ⟨5, ![1, 1, 8, 128, 128]⟩
abbrev S1x1x8x128x1 : Shape := ⟨5, ![1, 1, 8, 128, 1]⟩
abbrev S16x8x8x64x128 : Shape := ⟨5, ![16, 8, 8, 64, 128]⟩
abbrev S1x8x1x1 : Shape := ⟨4, ![1, 8, 1, 1]⟩
abbrev S1x8x8x64x128 : Shape := ⟨5, ![1, 8, 8, 64, 128]⟩
abbrev S8x2048x8 : Shape := ⟨3, ![8, 2048, 8]⟩
abbrev S8x2048x8x1 : Shape := ⟨4, ![8, 2048, 8, 1]⟩
abbrev S8x2063x512 : Shape := ⟨3, ![8, 2063, 512]⟩
abbrev S8x2048x128 : Shape := ⟨3, ![8, 2048, 128]⟩
abbrev S1x2048x1 : Shape := ⟨3, ![1, 2048, 1]⟩
abbrev S8x2048x4x128 : Shape := ⟨4, ![8, 2048, 4, 128]⟩
abbrev S4x256x8x2048 : Shape := ⟨4, ![4, 256, 8, 2048]⟩
abbrev S8x2048x4x256 : Shape := ⟨4, ![8, 2048, 4, 256]⟩
abbrev S8x512x128 : Shape := ⟨3, ![8, 512, 128]⟩

abbrev nBuf : Space → Nat
  | .hbm => 485
  | .vmem => 0
  | .smem => 0
  | _ => 0

abbrev hbmTy0_0 (i : Nat) : BufTy := match i % 128 with
  | 0 => ⟨S8x2048x1024, .f32⟩
  | 1 => ⟨S1024, .f32⟩
  | 2 => ⟨S1024x5632, .f32⟩
  | 3 => ⟨S4x128x256, .f32⟩
  | 4 => ⟨S1024, .f32⟩
  | 5 => ⟨S1024x1024, .f32⟩
  | 6 => ⟨S_, .f32⟩
  | 7 => ⟨S8x8x64x128, .f32⟩
  | 8 => ⟨S_, .f32⟩
  | 9 => ⟨S8x15x512, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S8x2048x5632, .f32⟩
  | 27 => ⟨S8x2048x512, .f32⟩
  | 28 => ⟨S8x2048x512, .f32⟩
  | 29 => ⟨S8x2048x1024, .f32⟩
  | 30 => ⟨S8x2048x1024, .f32⟩
  | 31 => ⟨S8x2048x512, .f32⟩
  | 32 => ⟨S8x2048x1024, .f32⟩
  | 33 => ⟨S8x2048x1024, .f32⟩
  | 34 => ⟨S2048, .i32⟩
  | 35 => ⟨S2048, .f32⟩
  | 36 => ⟨S8x2048x8x64, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S31, .f32⟩
  | 45 => ⟨S_, .f32⟩
  | 46 => ⟨S31, .f32⟩
  | 47 => ⟨S31, .f32⟩
  | 48 => ⟨S1, .f32⟩
  | 49 => ⟨S_, .f32⟩
  | 50 => ⟨S31, .f32⟩
  | 51 => ⟨S31, .f32⟩
  | 52 => ⟨S31, .f32⟩
  | 53 => ⟨S31, .f32⟩
  | 54 => ⟨S1, .f32⟩
  | 55 => ⟨S31, .f32⟩
  | 56 => ⟨S31, .f32⟩
  | 57 => ⟨S31, .f32⟩
  | 58 => ⟨S1, .f32⟩
  | 59 => ⟨S32, .f32⟩
  | 60 => ⟨S32, .f32⟩
  | 61 => ⟨S_, .f32⟩
  | 62 => ⟨S32, .f32⟩
  | 63 => ⟨S32, .f32⟩
  | 64 => ⟨S2048x1, .f32⟩
  | 65 => ⟨S1x32, .f32⟩
  | 66 => ⟨S2048x32, .f32⟩
  | 67 => ⟨S2048x32, .f32⟩
  | 68 => ⟨S2048x32, .f32⟩
  | 69 => ⟨S2048x32, .f32⟩
  | 70 => ⟨S1x2048x1x32, .f32⟩
  | 71 => ⟨S2048x32, .f32⟩
  | 72 => ⟨S1x2048x1x32, .f32⟩
  | 73 => ⟨S8x2048x8x32, .f32⟩
  | 74 => ⟨S8x2048x8x32, .f32⟩
  | 75 => ⟨S8x2048x8x32, .f32⟩
  | 76 => ⟨S8x2048x8x32, .f32⟩
  | 77 => ⟨S8x2048x8x32, .f32⟩
  | 78 => ⟨S8x2048x8x32, .f32⟩
  | 79 => ⟨S8x2048x8x32, .f32⟩
  | 80 => ⟨S8x2048x8x32, .f32⟩
  | 81 => ⟨S8x2048x8x32, .f32⟩
  | 82 => ⟨S8x2048x8x32, .f32⟩
  | 83 => ⟨S8x2048x8x32, .f32⟩
  | 84 => ⟨S8x2048x8x32, .f32⟩
  | 85 => ⟨S8x2048x8x64, .f32⟩
  | 86 => ⟨S8x2048x8x64, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S31, .f32⟩
  | 95 => ⟨S_, .f32⟩
  | 96 => ⟨S31, .f32⟩
  | 97 => ⟨S31, .f32⟩
  | 98 => ⟨S1, .f32⟩
  | 99 => ⟨S_, .f32⟩
  | 100 => ⟨S31, .f32⟩
  | 101 => ⟨S31, .f32⟩
  | 102 => ⟨S31, .f32⟩
  | 103 => ⟨S31, .f32⟩
  | 104 => ⟨S1, .f32⟩
  | 105 => ⟨S31, .f32⟩
  | 106 => ⟨S31, .f32⟩
  | 107 => ⟨S31, .f32⟩
  | 108 => ⟨S1, .f32⟩
  | 109 => ⟨S32, .f32⟩
  | 110 => ⟨S32, .f32⟩
  | 111 => ⟨S_, .f32⟩
  | 112 => ⟨S32, .f32⟩
  | 113 => ⟨S32, .f32⟩
  | 114 => ⟨S2048x1, .f32⟩
  | 115 => ⟨S1x32, .f32⟩
  | 116 => ⟨S2048x32, .f32⟩
  | 117 => ⟨S2048x32, .f32⟩
  | 118 => ⟨S2048x32, .f32⟩
  | 119 => ⟨S2048x32, .f32⟩
  | 120 => ⟨S1x2048x1x32, .f32⟩
  | 121 => ⟨S2048x32, .f32⟩
  | 122 => ⟨S1x2048x1x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x32, .f32⟩
  | 1 => ⟨S8x2048x8x32, .f32⟩
  | 2 => ⟨S8x2048x8x32, .f32⟩
  | 3 => ⟨S8x2048x8x32, .f32⟩
  | 4 => ⟨S8x2048x8x32, .f32⟩
  | 5 => ⟨S8x2048x8x32, .f32⟩
  | 6 => ⟨S8x2048x8x32, .f32⟩
  | 7 => ⟨S8x2048x8x64, .f32⟩
  | 8 => ⟨S_, .f32⟩
  | 9 => ⟨S8x2048x8x64, .f32⟩
  | 10 => ⟨S8x2048x8x64, .f32⟩
  | 11 => ⟨S8x2048x8x128, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S8, .f32⟩
  | 21 => ⟨S8, .f32⟩
  | 22 => ⟨S128, .f32⟩
  | 23 => ⟨S128x1, .f32⟩
  | 24 => ⟨S1x128, .f32⟩
  | 25 => ⟨S128x128, .f32⟩
  | 26 => ⟨S128x128, .f32⟩
  | 27 => ⟨S128x128, .f32⟩
  | 28 => ⟨S1x128x128, .f32⟩
  | 29 => ⟨S_, .f32⟩
  | 30 => ⟨S1x128x128, .f32⟩
  | 31 => ⟨S1x128x128, .i1⟩
  | 32 => ⟨S8x1x1, .f32⟩
  | 33 => ⟨S_, .f32⟩
  | 34 => ⟨S128x128, .f32⟩
  | 35 => ⟨S128x128, .f32⟩
  | 36 => ⟨S1x128x128, .f32⟩
  | 37 => ⟨S8x128x128, .f32⟩
  | 38 => ⟨S8x128x128, .f32⟩
  | 39 => ⟨S8x128x128, .f32⟩
  | 40 => ⟨S8x128x128, .f32⟩
  | 41 => ⟨S_, .f32⟩
  | 42 => ⟨S_, .f32⟩
  | 43 => ⟨S8x128x128, .i1⟩
  | 44 => ⟨S8x128x128, .f32⟩
  | 45 => ⟨S8x128x128, .f32⟩
  | 46 => ⟨S8x1, .f32⟩
  | 47 => ⟨S1x128, .f32⟩
  | 48 => ⟨S_, .f32⟩
  | 49 => ⟨S1x128, .f32⟩
  | 50 => ⟨S1x128, .f32⟩
  | 51 => ⟨S8x128, .f32⟩
  | 52 => ⟨S8x128, .f32⟩
  | 53 => ⟨S8x128, .f32⟩
  | 54 => ⟨S8x128, .f32⟩
  | 55 => ⟨S8x1, .f32⟩
  | 56 => ⟨S1x128, .f32⟩
  | 57 => ⟨S_, .f32⟩
  | 58 => ⟨S1x128, .f32⟩
  | 59 => ⟨S1x128, .f32⟩
  | 60 => ⟨S8x128, .f32⟩
  | 61 => ⟨S8x128, .f32⟩
  | 62 => ⟨S8x128, .f32⟩
  | 63 => ⟨S8x128, .f32⟩
  | 64 => ⟨S_, .f32⟩
  | 65 => ⟨S8, .f32⟩
  | 66 => ⟨S8, .f32⟩
  | 67 => ⟨S8, .f32⟩
  | 68 => ⟨S8x16x128x8x64, .f32⟩
  | 69 => ⟨S16x8x8x128x64, .f32⟩
  | 70 => ⟨S8x16x128x8x64, .f32⟩
  | 71 => ⟨S16x8x8x128x64, .f32⟩
  | 72 => ⟨S8x16x128x8x128, .f32⟩
  | 73 => ⟨S16x8x8x128x128, .f32⟩
  | 74 => ⟨S16x8x8x128x128, .f32⟩
  | 75 => ⟨S1x1x8x128x128, .f32⟩
  | 76 => ⟨S16x8x8x128x128, .f32⟩
  | 77 => ⟨S16x8x8x128x128, .f32⟩
  | 78 => ⟨S1x1x8x128x1, .f32⟩
  | 79 => ⟨S16x8x8x128x64, .f32⟩
  | 80 => ⟨S16x8x8x128x64, .f32⟩
  | 81 => ⟨S16x8x8x64x128, .f32⟩
  | 82 => ⟨S1x8x1x1, .f32⟩
  | 83 => ⟨S8x8x64x128, .f32⟩
  | 84 => ⟨S8x8x64x128, .f32⟩
  | 85 => ⟨S1x8x8x64x128, .f32⟩
  | 86 => ⟨S8x8x64x128, .f32⟩
  | 87 => ⟨S8x8x64x128, .f32⟩
  | 88 => ⟨S1x8x1x1, .f32⟩
  | 89 => ⟨S8x8x64x128, .f32⟩
  | 90 => ⟨S8x8x64x128, .f32⟩
  | 91 => ⟨S1x8x8x64x128, .f32⟩
  | 92 => ⟨S8x8x64x128, .f32⟩
  | 93 => ⟨S8x8x64x128, .f32⟩
  | 94 => ⟨S1x8x1x1, .f32⟩
  | 95 => ⟨S8x8x64x128, .f32⟩
  | 96 => ⟨S8x8x64x128, .f32⟩
  | 97 => ⟨S1x8x8x64x128, .f32⟩
  | 98 => ⟨S8x8x64x128, .f32⟩
  | 99 => ⟨S8x8x64x128, .f32⟩
  | 100 => ⟨S1x8x1x1, .f32⟩
  | 101 => ⟨S8x8x64x128, .f32⟩
  | 102 => ⟨S8x8x64x128, .f32⟩
  | 103 => ⟨S1x8x8x64x128, .f32⟩
  | 104 => ⟨S8x8x64x128, .f32⟩
  | 105 => ⟨S8x8x64x128, .f32⟩
  | 106 => ⟨S1x8x1x1, .f32⟩
  | 107 => ⟨S8x8x64x128, .f32⟩
  | 108 => ⟨S8x8x64x128, .f32⟩
  | 109 => ⟨S1x8x8x64x128, .f32⟩
  | 110 => ⟨S8x8x64x128, .f32⟩
  | 111 => ⟨S8x8x64x128, .f32⟩
  | 112 => ⟨S1x8x1x1, .f32⟩
  | 113 => ⟨S8x8x64x128, .f32⟩
  | 114 => ⟨S8x8x64x128, .f32⟩
  | 115 => ⟨S1x8x8x64x128, .f32⟩
  | 116 => ⟨S8x8x64x128, .f32⟩
  | 117 => ⟨S8x8x64x128, .f32⟩
  | 118 => ⟨S1x8x1x1, .f32⟩
  | 119 => ⟨S8x8x64x128, .f32⟩
  | 120 => ⟨S8x8x64x128, .f32⟩
  | 121 => ⟨S1x8x8x64x128, .f32⟩
  | 122 => ⟨S8x8x64x128, .f32⟩
  | 123 => ⟨S8x8x64x128, .f32⟩
  | 124 => ⟨S1x8x1x1, .f32⟩
  | 125 => ⟨S8x8x64x128, .f32⟩
  | 126 => ⟨S8x8x64x128, .f32⟩
  | 127 => ⟨S1x8x8x64x128, .f32⟩
  | _ => ⟨S8x2048x1024, .f32⟩

abbrev hbmTy0_2 (i : Nat) : BufTy := match i % 128 with
  | 0 => ⟨S8x8x64x128, .f32⟩
  | 1 => ⟨S8x8x64x128, .f32⟩
  | 2 => ⟨S1x8x1x1, .f32⟩
  | 3 => ⟨S8x8x64x128, .f32⟩
  | 4 => ⟨S8x8x64x128, .f32⟩
  | 5 => ⟨S1x8x8x64x128, .f32⟩
  | 6 => ⟨S8x8x64x128, .f32⟩
  | 7 => ⟨S8x8x64x128, .f32⟩
  | 8 => ⟨S1x8x1x1, .f32⟩
  | 9 => ⟨S8x8x64x128, .f32⟩
  | 10 => ⟨S8x8x64x128, .f32⟩
  | 11 => ⟨S1x8x8x64x128, .f32⟩
  | 12 => ⟨S8x8x64x128, .f32⟩
  | 13 => ⟨S8x8x64x128, .f32⟩
  | 14 => ⟨S1x8x1x1, .f32⟩
  | 15 => ⟨S8x8x64x128, .f32⟩
  | 16 => ⟨S8x8x64x128, .f32⟩
  | 17 => ⟨S1x8x8x64x128, .f32⟩
  | 18 => ⟨S8x8x64x128, .f32⟩
  | 19 => ⟨S8x8x64x128, .f32⟩
  | 20 => ⟨S1x8x1x1, .f32⟩
  | 21 => ⟨S8x8x64x128, .f32⟩
  | 22 => ⟨S8x8x64x128, .f32⟩
  | 23 => ⟨S1x8x8x64x128, .f32⟩
  | 24 => ⟨S8x8x64x128, .f32⟩
  | 25 => ⟨S8x8x64x128, .f32⟩
  | 26 => ⟨S1x8x1x1, .f32⟩
  | 27 => ⟨S8x8x64x128, .f32⟩
  | 28 => ⟨S8x8x64x128, .f32⟩
  | 29 => ⟨S1x8x8x64x128, .f32⟩
  | 30 => ⟨S8x8x64x128, .f32⟩
  | 31 => ⟨S8x8x64x128, .f32⟩
  | 32 => ⟨S1x8x1x1, .f32⟩
  | 33 => ⟨S8x8x64x128, .f32⟩
  | 34 => ⟨S8x8x64x128, .f32⟩
  | 35 => ⟨S1x8x8x64x128, .f32⟩
  | 36 => ⟨S8x8x64x128, .f32⟩
  | 37 => ⟨S8x8x64x128, .f32⟩
  | 38 => ⟨S1x8x1x1, .f32⟩
  | 39 => ⟨S8x8x64x128, .f32⟩
  | 40 => ⟨S8x8x64x128, .f32⟩
  | 41 => ⟨S1x8x8x64x128, .f32⟩
  | 42 => ⟨S8x8x64x128, .f32⟩
  | 43 => ⟨S8x8x64x128, .f32⟩
  | 44 => ⟨S1x8x1x1, .f32⟩
  | 45 => ⟨S8x8x64x128, .f32⟩
  | 46 => ⟨S8x8x64x128, .f32⟩
  | 47 => ⟨S1x8x8x64x128, .f32⟩
  | 48 => ⟨S8x8x64x128, .f32⟩
  | 49 => ⟨S8x8x64x128, .f32⟩
  | 50 => ⟨S16x8x8x128x128, .f32⟩
  | 51 => ⟨S1x8x8x64x128, .f32⟩
  | 52 => ⟨S1x8x8x64x128, .f32⟩
  | 53 => ⟨S1x8x8x64x128, .f32⟩
  | 54 => ⟨S1x8x8x64x128, .f32⟩
  | 55 => ⟨S1x8x8x64x128, .f32⟩
  | 56 => ⟨S1x8x8x64x128, .f32⟩
  | 57 => ⟨S1x8x8x64x128, .f32⟩
  | 58 => ⟨S1x8x8x64x128, .f32⟩
  | 59 => ⟨S1x8x8x64x128, .f32⟩
  | 60 => ⟨S1x8x8x64x128, .f32⟩
  | 61 => ⟨S1x8x8x64x128, .f32⟩
  | 62 => ⟨S1x8x8x64x128, .f32⟩
  | 63 => ⟨S1x8x8x64x128, .f32⟩
  | 64 => ⟨S1x8x8x64x128, .f32⟩
  | 65 => ⟨S1x8x8x64x128, .f32⟩
  | 66 => ⟨S1x8x8x64x128, .f32⟩
  | 67 => ⟨S16x8x8x64x128, .f32⟩
  | 68 => ⟨S16x8x8x128x128, .f32⟩
  | 69 => ⟨S1x1x8x128x1, .f32⟩
  | 70 => ⟨S16x8x8x128x128, .f32⟩
  | 71 => ⟨S16x8x8x128x128, .f32⟩
  | 72 => ⟨S16x8x8x128x128, .f32⟩
  | 73 => ⟨S8x16x128x8x128, .f32⟩
  | 74 => ⟨S8x2048x8x128, .f32⟩
  | 75 => ⟨S8x2048x8x128, .f32⟩
  | 76 => ⟨S_, .f32⟩
  | 77 => ⟨S8x2048x8, .f32⟩
  | 78 => ⟨S8x2048x8x1, .f32⟩
  | 79 => ⟨S_, .f32⟩
  | 80 => ⟨S8x2048x8x1, .f32⟩
  | 81 => ⟨S8x2048x8x1, .f32⟩
  | 82 => ⟨S_, .f32⟩
  | 83 => ⟨S8x2048x8x1, .f32⟩
  | 84 => ⟨S8x2048x8x1, .f32⟩
  | 85 => ⟨S8x2048x8x1, .f32⟩
  | 86 => ⟨S8x2048x8x128, .f32⟩
  | 87 => ⟨S8x2048x8x128, .f32⟩
  | 88 => ⟨S8x2048x1024, .f32⟩
  | 89 => ⟨S8x2048x1024, .f32⟩
  | 90 => ⟨S8x2048x1024, .f32⟩
  | 91 => ⟨S_, .f32⟩
  | 92 => ⟨S8x2048x1024, .f32⟩
  | 93 => ⟨S8x2048x1024, .f32⟩
  | 94 => ⟨S_, .f32⟩
  | 95 => ⟨S8x2048x1024, .f32⟩
  | 96 => ⟨S8x2048x1024, .f32⟩
  | 97 => ⟨S8x2048x1024, .f32⟩
  | 98 => ⟨S8x2048x1024, .f32⟩
  | 99 => ⟨S8x2063x512, .f32⟩
  | 100 => ⟨S2048, .i32⟩
  | 101 => ⟨S8x2048x128, .f32⟩
  | 102 => ⟨S8x2048x128, .f32⟩
  | 103 => ⟨S8x2048x128, .f32⟩
  | 104 => ⟨S_, .i32⟩
  | 105 => ⟨S2048, .i32⟩
  | 106 => ⟨S2048, .i32⟩
  | 107 => ⟨S_, .i32⟩
  | 108 => ⟨S2048, .i32⟩
  | 109 => ⟨S2048, .i32⟩
  | 110 => ⟨S2048, .f32⟩
  | 111 => ⟨S1x2048x1, .f32⟩
  | 112 => ⟨S8x2048x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S8x2048x128, .f32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S2048, .f32⟩
  | _ => ⟨S8x2048x1024, .f32⟩

abbrev hbmTy0_3 (i : Nat) : BufTy := match i % 128 with
  | 0 => ⟨S1x2048x1, .f32⟩
  | 1 => ⟨S8x2048x128, .f32⟩
  | 2 => ⟨S8x2048x128, .f32⟩
  | 3 => ⟨S8x2048x128, .f32⟩
  | 4 => ⟨S8x2048x128, .f32⟩
  | 5 => ⟨S8x2048x128, .f32⟩
  | 6 => ⟨S8x2048x128, .f32⟩
  | 7 => ⟨S8x2048x128, .f32⟩
  | 8 => ⟨S8x2048x128, .f32⟩
  | 9 => ⟨S8x2048x128, .f32⟩
  | 10 => ⟨S8x2048x128, .f32⟩
  | 11 => ⟨S8x2048x128, .f32⟩
  | 12 => ⟨S8x2048x128, .f32⟩
  | 13 => ⟨S8x2048x128, .f32⟩
  | 14 => ⟨S8x2048x128, .f32⟩
  | 15 => ⟨S8x2048x128, .f32⟩
  | 16 => ⟨S8x2048x128, .f32⟩
  | 17 => ⟨S8x2048x128, .f32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S2048, .f32⟩
  | 25 => ⟨S1x2048x1, .f32⟩
  | 26 => ⟨S8x2048x128, .f32⟩
  | 27 => ⟨S8x2048x128, .f32⟩
  | 28 => ⟨S8x2048x128, .f32⟩
  | 29 => ⟨S8x2048x128, .f32⟩
  | 30 => ⟨S8x2048x128, .f32⟩
  | 31 => ⟨S8x2048x128, .f32⟩
  | 32 => ⟨S8x2048x128, .f32⟩
  | 33 => ⟨S8x2048x128, .f32⟩
  | 34 => ⟨S8x2048x128, .f32⟩
  | 35 => ⟨S8x2048x128, .f32⟩
  | 36 => ⟨S8x2048x128, .f32⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S8x2048x128, .f32⟩
  | 43 => ⟨S8x2048x128, .f32⟩
  | 44 => ⟨S8x2048x128, .f32⟩
  | 45 => ⟨S8x2048x128, .f32⟩
  | 46 => ⟨S8x2048x128, .f32⟩
  | 47 => ⟨S8x2048x128, .f32⟩
  | 48 => ⟨S8x2048x128, .f32⟩
  | 49 => ⟨S8x2048x128, .f32⟩
  | 50 => ⟨S8x2048x128, .f32⟩
  | 51 => ⟨S8x2048x128, .f32⟩
  | 52 => ⟨S8x2048x128, .f32⟩
  | 53 => ⟨S8x2048x128, .f32⟩
  | 54 => ⟨S8x2048x128, .f32⟩
  | 55 => ⟨S8x2048x128, .f32⟩
  | 56 => ⟨S8x2048x128, .f32⟩
  | 57 => ⟨S8x2048x128, .f32⟩
  | 58 => ⟨S8x2048x128, .f32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S2048, .f32⟩
  | 66 => ⟨S1x2048x1, .f32⟩
  | 67 => ⟨S8x2048x128, .f32⟩
  | 68 => ⟨S8x2048x128, .f32⟩
  | 69 => ⟨S8x2048x512, .f32⟩
  | 70 => ⟨S8x2048x512, .f32⟩
  | 71 => ⟨S8x2048x4x128, .f32⟩
  | 72 => ⟨S4x256x8x2048, .f32⟩
  | 73 => ⟨S8x2048x4x256, .f32⟩
  | 74 => ⟨S8x2048x1024, .f32⟩
  | 75 => ⟨S1x1x1024, .f32⟩
  | 76 => ⟨S8x2048x1024, .f32⟩
  | 77 => ⟨S8x2048x1024, .f32⟩
  | 78 => ⟨S8x15x512, .f32⟩
  | 79 => ⟨S8x2048x1024, .f32⟩
  | 80 => ⟨S8x2048x1024, .f32⟩
  | 81 => ⟨S_, .f32⟩
  | 82 => ⟨S8x2048x1024, .f32⟩
  | 83 => ⟨S8x2048x1024, .f32⟩
  | 84 => ⟨S_, .f32⟩
  | 85 => ⟨S8x2048x1024, .f32⟩
  | 86 => ⟨S8x2048x1024, .f32⟩
  | 87 => ⟨S8x2048x1024, .f32⟩
  | 88 => ⟨S8x2048x1024, .f32⟩
  | 89 => ⟨S8x2048x1024, .f32⟩
  | 90 => ⟨S_, .f32⟩
  | 91 => ⟨S8x2048x1024, .f32⟩
  | 92 => ⟨S8x2048x1024, .f32⟩
  | 93 => ⟨S_, .f32⟩
  | 94 => ⟨S8x2048x1024, .f32⟩
  | 95 => ⟨S8x2048x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S8x512x128, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_cst : Ref sig .tc := ⟨.hbm, 42, rfl⟩
abbrev main_call0_v3 : Ref sig .tc := ⟨.hbm, 43, rfl⟩
abbrev main_call0_v4 : Ref sig .tc := ⟨.hbm, 44, rfl⟩
abbrev main_call0_cst_0 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_v15 : Ref sig .tc := ⟨.hbm, 57, rfl⟩
abbrev main_call0_v16 : Ref sig .tc := ⟨.hbm, 58, rfl⟩
abbrev main_v26 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_7 : Ref sig .tc := ⟨.hbm, 87, rfl⟩
abbrev main_cst_8 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_cst : Ref sig .tc := ⟨.hbm, 92, rfl⟩
abbrev main_call1_v3 : Ref sig .tc := ⟨.hbm, 93, rfl⟩
abbrev main_call1_v4 : Ref sig .tc := ⟨.hbm, 94, rfl⟩
abbrev main_call1_cst_0 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_v12 : Ref sig .tc := ⟨.hbm, 104, rfl⟩
abbrev main_call1_v13 : Ref sig .tc := ⟨.hbm, 105, rfl⟩
abbrev main_call1_v14 : Ref sig .tc := ⟨.hbm, 106, rfl⟩
abbrev main_call1_v15 : Ref sig .tc := ⟨.hbm, 107, rfl⟩
abbrev main_call1_v16 : Ref sig .tc := ⟨.hbm, 108, rfl⟩
abbrev main_v53 : Ref sig .tc := ⟨.hbm, 109, rfl⟩
abbrev main_v54 : Ref sig .tc := ⟨.hbm, 110, rfl⟩
abbrev main_cst_9 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_10 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_11 : Ref sig .tc := ⟨.hbm, 141, rfl⟩
abbrev main_v83 : Ref sig .tc := ⟨.hbm, 142, rfl⟩
abbrev main_v84 : Ref sig .tc := ⟨.hbm, 143, rfl⟩
abbrev main_cst_12 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_cst_13 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_14 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_15 : Ref sig .tc := ⟨.hbm, 169, rfl⟩
abbrev main_call2_v0 : Ref sig .tc := ⟨.hbm, 170, rfl⟩
abbrev main_call2_v1 : Ref sig .tc := ⟨.hbm, 171, rfl⟩
abbrev main_call2_v2 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_16 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_17 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_18 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_cst_19 : Ref sig .tc := ⟨.hbm, 332, rfl⟩
abbrev main_v263 : Ref sig .tc := ⟨.hbm, 333, rfl⟩
abbrev main_v264 : Ref sig .tc := ⟨.hbm, 334, rfl⟩
abbrev main_cst_20 : Ref sig .tc := ⟨.hbm, 335, rfl⟩
abbrev main_v265 : Ref sig .tc := ⟨.hbm, 336, rfl⟩
abbrev main_v266 : Ref sig .tc := ⟨.hbm, 337, rfl⟩
abbrev main_cst_21 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_call3_v0 : Ref sig .tc := ⟨.hbm, 345, rfl⟩
abbrev main_call3_v1 : Ref sig .tc := ⟨.hbm, 346, rfl⟩
abbrev main_call3_cst : Ref sig .tc := ⟨.hbm, 347, rfl⟩
abbrev main_call3_v2 : Ref sig .tc := ⟨.hbm, 348, rfl⟩
abbrev main_call3_v3 : Ref sig .tc := ⟨.hbm, 349, rfl⟩
abbrev main_call3_cst_0 : Ref sig .tc := ⟨.hbm, 350, rfl⟩
abbrev main_call3_v4 : Ref sig .tc := ⟨.hbm, 351, rfl⟩
abbrev main_call3_v5 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_c : Ref sig .tc := ⟨.hbm, 360, rfl⟩
abbrev main_v280 : Ref sig .tc := ⟨.hbm, 361, rfl⟩
abbrev main_v281 : Ref sig .tc := ⟨.hbm, 362, rfl⟩
abbrev main_c_22 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_c_23 : Ref sig .tc := ⟨.hbm, 377, rfl⟩
abbrev main_v295 : Ref sig .tc := ⟨.hbm, 378, rfl⟩
abbrev main_v296 : Ref sig .tc := ⟨.hbm, 379, rfl⟩
abbrev main_c_24 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_c_25 : Ref sig .tc := ⟨.hbm, 402, rfl⟩
abbrev main_v318 : Ref sig .tc := ⟨.hbm, 403, rfl⟩
abbrev main_v319 : Ref sig .tc := ⟨.hbm, 404, rfl⟩
abbrev main_c_26 : Ref sig .tc := ⟨.hbm, 405, rfl⟩
abbrev main_v320 : Ref sig .tc := ⟨.hbm, 406, rfl⟩
abbrev main_v321 : Ref sig .tc := ⟨.hbm, 407, rfl⟩
abbrev main_v322 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_v353 : Ref sig .tc := ⟨.hbm, 439, rfl⟩
abbrev main_v354 : Ref sig .tc := ⟨.hbm, 440, rfl⟩
abbrev main_v355 : Ref sig .tc := ⟨.hbm, 441, rfl⟩
abbrev main_v356 : Ref sig .tc := ⟨.hbm, 442, rfl⟩
abbrev main_c_27 : Ref sig .tc := ⟨.hbm, 443, rfl⟩
abbrev main_v357 : Ref sig .tc := ⟨.hbm, 444, rfl⟩
abbrev main_v358 : Ref sig .tc := ⟨.hbm, 445, rfl⟩
abbrev main_c_28 : Ref sig .tc := ⟨.hbm, 446, rfl⟩
abbrev main_v359 : Ref sig .tc := ⟨.hbm, 447, rfl⟩
abbrev main_v360 : Ref sig .tc := ⟨.hbm, 448, rfl⟩
abbrev main_v361 : Ref sig .tc := ⟨.hbm, 449, rfl⟩
abbrev main_v362 : Ref sig .tc := ⟨.hbm, 450, rfl⟩
abbrev main_v363 : Ref sig .tc := ⟨.hbm, 451, rfl⟩
abbrev main_v364 : Ref sig .tc := ⟨.hbm, 452, rfl⟩
abbrev main_v365 : Ref sig .tc := ⟨.hbm, 453, rfl⟩
abbrev main_v366 : Ref sig .tc := ⟨.hbm, 454, rfl⟩
abbrev main_v367 : Ref sig .tc := ⟨.hbm, 455, rfl⟩
abbrev main_v368 : Ref sig .tc := ⟨.hbm, 456, rfl⟩
abbrev main_v369 : Ref sig .tc := ⟨.hbm, 457, rfl⟩
abbrev main_v370 : Ref sig .tc := ⟨.hbm, 458, rfl⟩
abbrev main_v371 : Ref sig .tc := ⟨.hbm, 459, rfl⟩
abbrev main_v372 : Ref sig .tc := ⟨.hbm, 460, rfl⟩
abbrev main_v373 : Ref sig .tc := ⟨.hbm, 461, rfl⟩
abbrev main_v374 : Ref sig .tc := ⟨.hbm, 462, rfl⟩
abbrev main_v375 : Ref sig .tc := ⟨.hbm, 463, rfl⟩
abbrev main_v376 : Ref sig .tc := ⟨.hbm, 464, rfl⟩
abbrev main_cst_29 : Ref sig .tc := ⟨.hbm, 465, rfl⟩
abbrev main_v377 : Ref sig .tc := ⟨.hbm, 466, rfl⟩
abbrev main_v378 : Ref sig .tc := ⟨.hbm, 467, rfl⟩
abbrev main_cst_30 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_cst_31 : Ref sig .tc := ⟨.hbm, 474, rfl⟩
abbrev main_v384 : Ref sig .tc := ⟨.hbm, 475, rfl⟩
abbrev main_v385 : Ref sig .tc := ⟨.hbm, 476, rfl⟩
abbrev main_cst_32 : Ref sig .tc := ⟨.hbm, 477, rfl⟩
abbrev main_v386 : Ref sig .tc := ⟨.hbm, 478, rfl⟩
abbrev main_v387 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩

abbrev nD : Nat := 1
abbrev τ : Topo := Topo.v7x

variable {F : FTy → Type} [FloatOps F]
-- ==== FfnKernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnKernelIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== FinKernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinKernelIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== StepFfnKernel.lean ====
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 8
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== StepFfnReferenceIdeal.lean ====
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x5632, .f32⟩
  | .hbm, ⟨21, _⟩ => ⟨S512x2816, .f32⟩
  | .hbm, ⟨22, _⟩ => ⟨S512x2816, .f32⟩
  | .hbm, ⟨23, _⟩ => ⟨S512x2816, .f32⟩
  | .hbm, ⟨24, _⟩ => ⟨S512x2816, .f32⟩
  | .hbm, ⟨25, _⟩ => ⟨S_, .f32⟩
  | .hbm, ⟨26, _⟩ => ⟨S512x2816, .f32⟩
  | .hbm, ⟨27, _⟩ => ⟨S512x2816, .f32⟩
  | .hbm, ⟨28, _⟩ => ⟨S_, .f32⟩
  | .hbm, ⟨29, _⟩ => ⟨S512x2816, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== StepFinKernel.lean ====
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 10
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== StepFinReferenceIdeal.lean ====
abbrev S512x1024 : Shape := ⟨2, ![512, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x5632 : Shape := ⟨2, ![512, 5632]⟩
abbrev S512x2816 : Shape := ⟨2, ![512, 2816]⟩

abbrev nBuf : Space → Nat
  | .hbm => 55
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S512x5632, .f32⟩
  | .hbm, ⟨22, _⟩ => ⟨S512x2816, .f32⟩
  | .hbm, ⟨23, _⟩ => ⟨S512x2816, .f32⟩
  | .hbm, ⟨24, _⟩ => ⟨S512x2816, .f32⟩
  | .hbm, ⟨25, _⟩ => ⟨S512x2816, .f32⟩
  | .hbm, ⟨26, _⟩ => ⟨S_, .f32⟩
  | .hbm, ⟨27, _⟩ => ⟨S512x2816, .f32⟩
  | .hbm, ⟨28, _⟩ => ⟨S512x2816, .f32⟩
  | .hbm, ⟨29, _⟩ => ⟨S_, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S512x1, .f32⟩
  | .hbm, ⟨50, _⟩ => ⟨S512x1024, .f32⟩
  | .hbm, ⟨51, _⟩ => ⟨S512x1024, .f32⟩
  | .hbm, ⟨52, _⟩ => ⟨S1x1024, .f32⟩
  | .hbm, ⟨53, _⟩ => ⟨S512x1024, .f32⟩
  | .hbm, ⟨54, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.FfnSum.lean ====
module

public import Mathlib.Data.EReal.Basic
public import Mathlib.Algebra.BigOperators.Fin

@[expose] public section

namespace Ffn

/-- A sum over the hidden width of 2816 lanes, cut into the chunks of 1024, 1024 and 768 lanes the kernel takes. -/
theorem sum_chunks (f : Fin 2816 → EReal) : ∑ k : Fin 2816, f k
    = (∑ k : Fin 1024, f ⟨k.val, by omega⟩ + ∑ k : Fin 1024, f ⟨1024 + k.val, by omega⟩)
      + ∑ k : Fin 768, f ⟨2048 + k.val, by omega⟩ := by
  rw [Fin.sum_univ_add (a := 2048) (b := 768) f, Fin.sum_univ_add (a := 1024) (b := 1024)]
  rfl

end Ffn
-- ==== Proof.FfnValue.lean ====
module

public import proofs.«01_k».proof.Proof.Gen.FfnKernelIdeal.Frame
public import proofs.«01_k».proof.Proof.Gen.FfnReferenceIdeal.Read
public import proofs.«01_k».proof.Proof.FfnSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnKernelIdeal.Value

open Cert.FfnKernelIdeal Cert.FfnKernelIdeal.Gen Cert.FfnReferenceIdeal.Read

variable (m : (ℓ : Loc nD τ sig) → Buf (Elt Ideal) ℓ)

/-- The windows' block indices: the rows' block moves with the point, the weights are whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What point `t` stores at a block index is the reference's result at the array index it sits at. -/
theorem point (c : Dev nD) (t : Fin cfg0.N) (y : S512x1024.Idx) :
    out0_4 (iblk m c 0 t) (iblk m c 1 t) (iblk m c 2 t) (iblk m c 3 t) y
    = val_main_v21 (F := Ideal) (m ((c : Thread nD τ).loc main_arg0)) (m ((c : Thread nD τ).loc main_arg1))
      (m ((c : Thread nD τ).loc main_arg2)) (m ((c : Thread nD τ).loc main_arg3)) (((cfg0.win 4).blk t).view.emb y) := by
  frame_out
  pointwise [k0_pay1, k0_pay2, k0_pay3, k0_pay4, k0_pay5, val_main_v21, val_main_v20, val_main_v18]
  rw [Ffn.sum_chunks]
  pointwise [val_main_v19, val_main_cst_2, val_main_v17, val_main_v16, val_main_call0_v5, val_main_call0_v4, val_main_call0_cst_0,
    val_main_call0_v3, val_main_call0_v2, val_main_call0_cst, val_main_call0_v1, val_main_call0_v0, val_main_v15, val_main_v14,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0,
    Ideal.logistic]
  blk_point [iblk, V, idx t]

/-- The result array after the run is the reference's result of the argument arrays. -/
theorem final (c : Dev nD) : (dats m 0 c).arrAt 4 (cfgs 0).N
    = val_main_v21 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.FfnKernelIdeal.Value

end
-- ==== Proof.MixerBlock.lean ====
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Mixer

variable {Val : EltTy → Type} {e : EltTy}

/-- A cell of a two-axis buffer whose last store is a rectangle: the store's value inside the rectangle, the earlier stores' outside. -/
theorem canon_rect [∀ e, Nonempty (Val e)] {M N h w : ℕ} (a b : ℕ)
    (inb : ∀ x, (![a, b] : Fin 2 → ℕ) x + (⟨2, ![h, w]⟩ : Shape).size x ≤ (⟨2, ![M, N]⟩ : Shape).size x)
    (W : (⟨2, ![h, w]⟩ : Shape).Idx → Val e) (L : List (View.Piece Val (⟨2, ![M, N]⟩ : Shape) e)) (r : Fin M) (q : Fin N) :
    View.canon ((⟨Rect.unit ![a, b] (⟨2, ![h, w]⟩ : Shape).size inb, W⟩ : View.Piece Val (⟨2, ![M, N]⟩ : Shape) e) :: L) (ix2 r q)
    = if hh : (a ≤ r.val ∧ r.val < a + h) ∧ (b ≤ q.val ∧ q.val < b + w) then
        W (ix2 (⟨r.val - a, by omega⟩ : Fin h) (⟨q.val - b, by omega⟩ : Fin w))
      else View.canon L (ix2 r q) := by
  split
  · rename_i hh
    have he : ix2 r q = (Rect.unit (s := (⟨2, ![M, N]⟩ : Shape)) ![a, b] (⟨2, ![h, w]⟩ : Shape).size inb).emb
        (ix2 (⟨r.val - a, by omega⟩ : Fin h) (⟨q.val - b, by omega⟩ : Fin w)) := by
      funext x; apply Fin.ext
      match x with
      | ⟨0, _⟩ => simp [Rect.emb, Rect.unit, ix2, LoadRect.idx]; omega
      | ⟨1, _⟩ => simp [Rect.emb, Rect.unit, ix2, LoadRect.idx]; omega
    rw [he, View.canon_cons_emb]
  · rename_i hh
    refine View.canon_cons_of_not_mem _ L ?_
    intro hm
    apply hh
    have h0 := (LoadRect.mem_set _).mp hm (0 : Fin 2)
    have h1 := (LoadRect.mem_set _).mp hm (1 : Fin 2)
    obtain ⟨i0, hi0, he0⟩ := h0
    obtain ⟨i1, hi1, he1⟩ := h1
    simp [Rect.unit, ix2] at hi0 he0 hi1 he1
    omega

/-- A load after stores over unknown contents is a load of what the stores left. -/
theorem readCov_ld [∀ e, Nonempty (Val e)] {sig : RefSig} {κ : Kind} {sp : Space} {s : Shape}
    (v : View sig κ sp s e) (L : List (View.Piece Val s e)) (R : Rect s) :
    v.readCov L R.toLoadRect = View.ld (View.canon L) R := by
  rw [View.readCov_eq_canon']

/-- A load of contents read as a whole is a load of those contents. -/
theorem readAt_ld {sig : RefSig} {κ : Kind} {sp : Space} {s : Shape} (m : Memref sig κ sp s e) (h : m.IsWhole)
    (X : s.Idx → Val e) (R : Rect s) : View.readAt Val m.view R.toLoadRect (h.unread X) = View.ld X R := by
  funext j
  rw [View.readAt_apply, h.read_unread]

end Mixer

end
-- ==== Proof.MixerZ.lean ====
module

public import proofs.«01_k».proof.Proof.Gen.KernelIdeal.Value
public import proofs.«01_k».proof.Proof.MixerBlock
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

/-- The projected rows before rotation: the normalized row times the projection's columns. -/
def proj (x0 : Vec Ideal S1x512x1024 .f32) (x1 : Vec Ideal S1x1024 .f32) (x2 : Vec Ideal S1024x5632 .bf16)
    (r : Fin 512) (q : Fin 5632) : EReal :=
  ∑ k : Fin 1024, k0_pay7 (F := Ideal) x0 x1 (ix2 r k) * x2 (ix2 k q)

/-- The rotated lane: itself times the cosine, its partner in the same head times the signed sine. -/
def rotv (P : Fin 512 → Fin 5632 → EReal) (x6 x7 : Vec Ideal S512x128 .f32) (r : Fin 512) (q : Fin 5632) : EReal :=
  P r q * x6 (ix2 r ⟨q.val % 128, by omega⟩)
    + (if q.val % 64 < 32 then P r ⟨(q.val + 32) % 5632, by omega⟩ else P r ⟨q.val - 32, by omega⟩)
      * x7 (ix2 r ⟨q.val % 128, by omega⟩)

/-- The rows' projections after the queries and keys are rotated in place and the keys scaled. -/
def zrow (x0 : Vec Ideal S1x512x1024 .f32) (x1 : Vec Ideal S1x1024 .f32) (x2 : Vec Ideal S1024x5632 .bf16)
    (x6 x7 : Vec Ideal S512x128 .f32) (r : Fin 512) (q : Fin 5632) : EReal :=
  if q.val < 512 then rotv (proj x0 x1 x2) x6 x7 r q
  else if q.val < 1024 then rotv (proj x0 x1 x2) x6 x7 r q * Ideal.ofBits .f32 0x3E000000#32
  else proj x0 x1 x2 r q

/-- The same as an array. -/
def zarr (x0 : Vec Ideal S1x512x1024 .f32) (x1 : Vec Ideal S1x1024 .f32) (x2 : Vec Ideal S1024x5632 .bf16)
    (x6 x7 : Vec Ideal S512x128 .f32) : Vec Ideal S512x5632 .f32 := fun y => zrow x0 x1 x2 x6 x7 (y 0) (y 1)

/-- A cell of the projection scratch whose last store is a rectangle. -/
theorem canon_z {h w : ℕ} (a b : ℕ) (inb : ∀ x, (![a, b] : Fin 2 → ℕ) x + (![h, w] : Fin 2 → ℕ) x ≤ S512x5632.size x)
    (W : (⟨2, ![h, w]⟩ : Shape).Idx → Elt Ideal .f32) (L : List (View.Piece (Elt Ideal) S512x5632 .f32)) (r : Fin 512) (q : Fin 5632) :
    View.canon ((⟨Rect.unit (s := S512x5632) ![a, b] ![h, w] inb, W⟩ : View.Piece (Elt Ideal) S512x5632 .f32) :: L) (ix2 r q)
    = if hh : (a ≤ r.val ∧ r.val < a + h) ∧ (b ≤ q.val ∧ q.val < b + w) then
        W (ix2 (⟨r.val - a, by omega⟩ : Fin h) (⟨q.val - b, by omega⟩ : Fin w))
      else View.canon L (ix2 r q) :=
  Mixer.canon_rect a b inb W L r q

/-- One block of projected columns: the normalized rows times the block of the projection. -/
theorem pay8_at (v3 : Vec Ideal S1x512x1024 .f32) (v5 : Vec Ideal S1x1024 .f32) (w : Vec Ideal S1024x1024 .bf16) (r : Fin 512) (q : Fin 1024) :
    k0_pay8 (F := Ideal) v3 v5 w (ix2 r q) = ∑ k : Fin 1024, k0_pay7 (F := Ideal) v3 v5 (ix2 r k) * w (ix2 k q) := by
  generalize hk : k0_pay7 (F := Ideal) v3 v5 = h
  unfold k0_pay8
  rw [hk]
  pointwise

/-- The last, narrower block of projected columns. -/
theorem pay13_at (h : FVec Ideal S512x1024 .bf16) (w : Vec Ideal S1024x512 .bf16) (r : Fin 512) (q : Fin 512) :
    k0_pay13 (F := Ideal) h w (ix2 r q) = ∑ k : Fin 1024, h (ix2 r k) * w (ix2 k q) := by
  pointwise [k0_pay13]

/-- Another chunk of the projection is the same product. -/
theorem pay9_eq (v3 : Vec Ideal S1x512x1024 .f32) (v5 : Vec Ideal S1x1024 .f32) : k0_pay9 (F := Ideal) v3 v5 = k0_pay8 v3 v5 := rfl
/-- Another chunk of the projection is the same product. -/
theorem pay10_eq (v3 : Vec Ideal S1x512x1024 .f32) (v5 : Vec Ideal S1x1024 .f32) : k0_pay10 (F := Ideal) (k0_pay7 v3 v5) = k0_pay8 v3 v5 := rfl
/-- Another chunk of the projection is the same product. -/
theorem pay11_eq (v3 : Vec Ideal S1x512x1024 .f32) (v5 : Vec Ideal S1x1024 .f32) : k0_pay11 (F := Ideal) (k0_pay7 v3 v5) = k0_pay8 v3 v5 := rfl
/-- Another chunk of the projection is the same product. -/
theorem pay12_eq (v3 : Vec Ideal S1x512x1024 .f32) (v5 : Vec Ideal S1x1024 .f32) : k0_pay12 (F := Ideal) (k0_pay7 v3 v5) = k0_pay8 v3 v5 := rfl

/-- A column block of the projection's weights. -/
theorem ld_w {w : ℕ} (b : ℕ) (inb : ∀ x, (![0, b] : Fin 2 → ℕ) x + (![1024, w] : Fin 2 → ℕ) x ≤ S1024x5632.size x)
    (X : Vec Ideal S1024x5632 .bf16) (k : Fin 1024) (q : Fin w) (p : Fin 5632) (hq : p.val = b + q.val) :
    View.ld (Val := Elt Ideal) (e' := .bf16) X (Rect.unit (s := S1024x5632) ![0, b] ![1024, w] inb) (ix2 k q) = X (ix2 k p) :=
  View.ld_unit_apply_of X _ _ inb (ix2 k q) _ (fun a => by match a with | ⟨0, _⟩ => simp [ix2] | ⟨1, _⟩ => simpa [ix2] using hq)

/-- Case B's projection scratch before rotation. -/
theorem z6_B (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
   (x0 : Vec Ideal S1x512x1024 .f32) (x1 : Vec Ideal S1x1024 .f32) (x2 : Vec Ideal S1024x5632 .bf16) (r : Fin 512) (q : Fin 5632) :
   View.canon (kernelRun0_B.sl.HS0_6 (F := Ideal) c arg2 harg2 arg3 harg3 arg4 harg4 x0 x1 x2) (ix2 r q) = proj x0 x1 x2 r q := by
  have h0 : View.ld (Val := Elt Ideal) (e' := .f32) x0 (Rect.unit ![0, 0, 0] S1x512x1024.size inb_S1x512x1024_S1x512x1024_0_0_0) = x0 :=
    View.ld_unit_lit _ _ (by decide)
  have h1 : View.ld (Val := Elt Ideal) (e' := .f32) x1 (Rect.unit ![0, 0] S1x1024.size inb_S1x1024_S1x1024_0_0) = x1 :=
    View.ld_unit_lit _ _ (by decide)
  simp only [kernelRun0_B.sl.HS0_6, kernelRun0_B.sl.r_1, kernelRun0_B.sl.r_2, Mixer.readAt_ld, canon_z, h0, h1]
  simp only [pay9_eq, pay10_eq, pay11_eq, pay12_eq, pay8_at, pay13_at]
  have hr := r.isLt
  have hq := q.isLt
  split_ifs
  all_goals first | (exfalso; omega) | skip
  all_goals
    exact Finset.sum_congr rfl fun k _ => Ideal.mul_congr rfl (ld_w _ _ x2 k _ q (by dsimp only; omega))

/-- The lane test of the rotation: the first half of a head's lanes. -/
theorem half_word : ∀ l : Fin 128, (IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt 64#32 0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                64#32)
              (IntOp.remsi ArithUnit.vector (BitVec.ofNat 32 l.val)
                (Scalar.select (Scalar.cmpi CmpIPredicate.eq 64#32 0#32) 1#32 64#32)))
            32#32) = if l.val % 64 < 32 then 1#1 else 0#1 := by
  decide +kernel

/-- A rotated block of a load `X` of 128 lanes. -/
theorem pay20_at (v75 v77 X : Vec Ideal S512x128 .f32) (r : Fin 512) (l : Fin 128) :
    k0_pay20 (F := Ideal) 64#32 k0_pay14 k0_pay15 k0_pay16 0#32 v75 v77 X (ix2 r l)
    = X (ix2 r l) * v75 (ix2 r l) + (if l.val % 64 < 32 then X (ix2 r ⟨(l.val + 32) % 128, by omega⟩) else X (ix2 r ⟨(l.val + 96) % 128, by omega⟩)) * v77 (ix2 r l) := by
  pointwise [k0_pay20, k0_pay17, k0_pay14, k0_pay15, k0_pay16, k0_pay18, k0_pay19]
  rw [half_word l]
  have hl : (l.val + 128 - 96) % 128 = (l.val + 32) % 128 := by omega
  have hl' : (l.val + 128 - 32) % 128 = (l.val + 96) % 128 := by omega
  simp only [hl, hl']
  split_ifs <;> rfl

/-- The eight rotated blocks are one function of their load; the keys' are scaled. -/
theorem pay21_eq (a b X : Vec Ideal S512x128 .f32) : k0_pay21 (F := Ideal) 64#32 k0_pay14 k0_pay15 k0_pay16 0#32 a b X = k0_pay20 64#32 k0_pay14 k0_pay15 k0_pay16 0#32 a b X := rfl
/-- Another rotated block of queries is the same rotation. -/
theorem pay22_eq (a b X : Vec Ideal S512x128 .f32) : k0_pay22 (F := Ideal) (k0_pay17 64#32 k0_pay14 k0_pay15 k0_pay16 0#32) (k0_pay18 a) (k0_pay19 b) X = k0_pay20 64#32 k0_pay14 k0_pay15 k0_pay16 0#32 a b X := rfl
/-- Another rotated block of queries is the same rotation. -/
theorem pay23_eq (a b X : Vec Ideal S512x128 .f32) : k0_pay23 (F := Ideal) (k0_pay17 64#32 k0_pay14 k0_pay15 k0_pay16 0#32) (k0_pay18 a) (k0_pay19 b) X = k0_pay20 64#32 k0_pay14 k0_pay15 k0_pay16 0#32 a b X := rfl
/-- Another rotated block of keys is the same rotation. -/
theorem pay25_eq (m : IVec S1x128 1) (a b X : Vec Ideal S512x128 .f32) : k0_pay25 (F := Ideal) m a b X = k0_pay24 m a b X := rfl
/-- Another rotated block of keys is the same rotation. -/
theorem pay26_eq (m : IVec S1x128 1) (a b X : Vec Ideal S512x128 .f32) : k0_pay26 (F := Ideal) m a b X = k0_pay24 m a b X := rfl
/-- Another rotated block of keys is the same rotation. -/
theorem pay28_eq (m : IVec S1x128 1) (a b X : Vec Ideal S512x128 .f32) : k0_pay28 (F := Ideal) (k0_pay27 m a b X) = k0_pay24 m a b X := rfl

/-- An entry of a rotated block of keys, scaled. -/
theorem pay24_at (a b X : Vec Ideal S512x128 .f32) (r : Fin 512) (l : Fin 128) :
    k0_pay24 (F := Ideal) (k0_pay17 64#32 k0_pay14 k0_pay15 k0_pay16 0#32) (k0_pay18 a) (k0_pay19 b) X (ix2 r l)
    = k0_pay20 (F := Ideal) 64#32 k0_pay14 k0_pay15 k0_pay16 0#32 a b X (ix2 r l) * Ideal.ofBits .f32 0x3E000000#32 := by
  generalize hX : k0_pay20 (F := Ideal) 64#32 k0_pay14 k0_pay15 k0_pay16 0#32 a b X = Y
  subst hX
  pointwise [k0_pay24, k0_pay20, k0_pay17, k0_pay14, k0_pay15, k0_pay16, k0_pay18, k0_pay19]

/-- A load of 128 lanes of the scratch. -/
theorem ld_z {h w : ℕ} (a b : ℕ) (inb : ∀ x, (![a, b] : Fin 2 → ℕ) x + (![h, w] : Fin 2 → ℕ) x ≤ S512x5632.size x)
    (X : Vec Ideal S512x5632 .f32) (r : Fin h) (q : Fin w) (r' : Fin 512) (q' : Fin 5632) (hr : r'.val = a + r.val) (hq : q'.val = b + q.val) :
    View.ld (Val := Elt Ideal) (e' := .f32) X (Rect.unit (s := S512x5632) ![a, b] ![h, w] inb) (ix2 r q) = X (ix2 r' q') :=
  View.ld_unit_apply_of X _ _ inb (ix2 r q) _ (fun a => by match a with | ⟨0, _⟩ => simpa [ix2] using hr | ⟨1, _⟩ => simpa [ix2] using hq)

/-- The scratch when its first `n` blocks of 128 columns have been rotated. -/
def zpart (n : ℕ) (x0 : Vec Ideal S1x512x1024 .f32) (x1 : Vec Ideal S1x1024 .f32) (x2 : Vec Ideal S1024x5632 .bf16)
    (x6 x7 : Vec Ideal S512x128 .f32) (r : Fin 512) (q : Fin 5632) : EReal :=
  if q.val < 128 * n then zrow x0 x1 x2 x6 x7 r q else proj x0 x1 x2 r q

/-- The payload a block of 128 columns holds after rotation: the keys' blocks are scaled. -/
def rotp (n : ℕ) (x6 x7 X : Vec Ideal S512x128 .f32) : Vec Ideal S512x128 .f32 :=
  if n < 4 then k0_pay20 (F := Ideal) 64#32 k0_pay14 k0_pay15 k0_pay16 0#32 x6 x7 X
  else k0_pay24 (F := Ideal) (k0_pay17 64#32 k0_pay14 k0_pay15 k0_pay16 0#32) (k0_pay18 x6) (k0_pay19 x7) X

/-- Rotating one more block. -/
theorem rot_step (n b : ℕ) (hb : b = 128 * n) (hn : n < 8) (inb inb' : ∀ x, (![0, b] : Fin 2 → ℕ) x + (![512, 128] : Fin 2 → ℕ) x ≤ S512x5632.size x)
    (x0 : Vec Ideal S1x512x1024 .f32) (x1 : Vec Ideal S1x1024 .f32) (x2 : Vec Ideal S1024x5632 .bf16)
    (x6 x7 : Vec Ideal S512x128 .f32) (arg17 : Memref sig .tc .vmem S512x5632 .f32) (L : List (View.Piece (Elt Ideal) S512x5632 .f32))
    (hL : ∀ r q, View.canon L (ix2 r q) = zpart n x0 x1 x2 x6 x7 r q) (r : Fin 512) (q : Fin 5632) :
    View.canon ((⟨Rect.unit (s := S512x5632) ![0, b] ![512, 128] inb, rotp n x6 x7 (arg17.view.readCov L (Rect.unit (s := S512x5632) ![0, b] ![512, 128] inb').toLoadRect)⟩ : View.Piece (Elt Ideal) S512x5632 .f32) :: L) (ix2 r q)
      = zpart (n + 1) x0 x1 x2 x6 x7 r q := by
  have hr := r.isLt
  have hq := q.isLt
  rw [canon_z]
  split_ifs with hh
  · have hX : ∀ (r' : Fin 512) (l : Fin 128) (q' : Fin 5632), q'.val = b + l.val →
        arg17.view.readCov L (Rect.unit (s := S512x5632) ![0, b] ![512, 128] inb').toLoadRect (ix2 r' l) = proj x0 x1 x2 r' q' := by
      intro r' l q' h
      rw [Mixer.readCov_ld, ld_z 0 b inb' _ r' l r' q' (by omega) h, hL, zpart, if_neg (by omega)]
    have e0 : (⟨r.val - 0, by omega⟩ : Fin 512) = r := Fin.ext (by simp)
    have hm : (⟨q.val - b, by omega⟩ : Fin 128) = ⟨q.val % 128, by omega⟩ := Fin.ext (by dsimp only; omega)
    have key : k0_pay20 (F := Ideal) 64#32 k0_pay14 k0_pay15 k0_pay16 0#32 x6 x7 (arg17.view.readCov L (Rect.unit (s := S512x5632) ![0, b] ![512, 128] inb').toLoadRect) (ix2 r ⟨q.val - b, by omega⟩) = rotv (proj x0 x1 x2) x6 x7 r q := by
      rw [pay20_at, hX r _ q (by dsimp only; omega), rotv]
      congr 1
      · rw [hm]
      · rw [hm]
        refine Ideal.mul_congr ?_ rfl
        have e : q.val % 128 % 64 = q.val % 64 := by omega
        simp only [e]
        split_ifs with h
        · exact hX r _ _ (by dsimp only; omega)
        · exact hX r _ _ (by dsimp only; omega)
    have hz : zpart (n + 1) x0 x1 x2 x6 x7 r q = zrow x0 x1 x2 x6 x7 r q := if_pos (by omega)
    rw [hz, e0, zrow]
    by_cases h4 : n < 4
    · rw [rotp, if_pos h4, if_pos (by omega)]
      exact key
    · rw [rotp, if_neg h4, if_neg (by omega), if_pos (by omega), pay24_at, key]
  · rw [hL, zpart, zpart]
    split_ifs <;> first | rfl | (exfalso; omega)

/-- Case B's projection scratch after the rotation in place. -/
theorem z14_B (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
   (arg8 : Memref sig .tc .vmem S512x128 .f32) (harg8 : arg8.IsWhole) (arg9 : Memref sig .tc .vmem S512x128 .f32) (harg9 : arg9.IsWhole) (arg17 : Memref sig .tc .vmem S512x5632 .f32)
   (x0 : Vec Ideal S1x512x1024 .f32) (x1 : Vec Ideal S1x1024 .f32) (x2 : Vec Ideal S1024x5632 .bf16) (x6 x7 : Vec Ideal S512x128 .f32) :
   View.canon (kernelRun0_B.sl.HS0_14 (F := Ideal) c arg2 harg2 arg3 harg3 arg4 harg4 arg8 harg8 arg9 harg9 arg17 x0 x1 x2 x6 x7) = zarr x0 x1 x2 x6 x7 := by
  have h6 : View.readAt (Elt Ideal) arg8.view (Rect.unit ![0, 0] S512x128.size inb_S512x128_S512x128_0_0).toLoadRect (harg8.unread x6) = x6 :=
    (Mixer.readAt_ld ..).trans (View.ld_unit_lit _ _ (by decide))
  have h7 : View.readAt (Elt Ideal) arg9.view (Rect.unit ![0, 0] S512x128.size inb_S512x128_S512x128_0_0).toLoadRect (harg9.unread x7) = x7 :=
    (Mixer.readAt_ld ..).trans (View.ld_unit_lit _ _ (by decide))
  have hP : ∀ r q, View.canon (kernelRun0_B.sl.HS0_6 (F := Ideal) c arg2 harg2 arg3 harg3 arg4 harg4 x0 x1 x2) (ix2 r q) = zpart 0 x0 x1 x2 x6 x7 r q :=
    fun r q => (z6_B c arg2 harg2 arg3 harg3 arg4 harg4 x0 x1 x2 r q).trans (by rw [zpart, if_neg (by omega)])
  have s1 := rot_step 0 0 (by decide) (by decide) inb_S512x5632_S512x128_0_0 inb_S512x5632_S512x128_0_0 x0 x1 x2 x6 x7 arg17 _ hP
  have s2 := rot_step 1 128 (by decide) (by decide) inb_S512x5632_S512x128_0_128 inb_S512x5632_S512x128_0_128 x0 x1 x2 x6 x7 arg17 _ s1
  have s3 := rot_step 2 256 (by decide) (by decide) inb_S512x5632_S512x128_0_256 inb_S512x5632_S512x128_0_256 x0 x1 x2 x6 x7 arg17 _ s2
  have s4 := rot_step 3 384 (by decide) (by decide) inb_S512x5632_S512x128_0_384 inb_S512x5632_S512x128_0_384 x0 x1 x2 x6 x7 arg17 _ s3
  have s5 := rot_step 4 512 (by decide) (by decide) inb_S512x5632_S512x128_0_512 inb_S512x5632_S512x128_0_512 x0 x1 x2 x6 x7 arg17 _ s4
  have s6 := rot_step 5 640 (by decide) (by decide) inb_S512x5632_S512x128_0_640 inb_S512x5632_S512x128_0_640 x0 x1 x2 x6 x7 arg17 _ s5
  have s7 := rot_step 6 768 (by decide) (by decide) inb_S512x5632_S512x128_0_768 inb_S512x5632_S512x128_0_768 x0 x1 x2 x6 x7 arg17 _ s6
  have s8 := rot_step 7 896 (by decide) (by decide) inb_S512x5632_S512x128_0_896 inb_S512x5632_S512x128_0_896 x0 x1 x2 x6 x7 arg17 _ s7
  funext y
  obtain ⟨r, q, rfl⟩ : ∃ (r : Fin 512) (q : Fin 5632), y = ix2 r q := ⟨y 0, y 1, eq_ix2 y⟩
  have e : zpart 8 x0 x1 x2 x6 x7 r q = zarr x0 x1 x2 x6 x7 (ix2 r q) := by
    unfold zpart zarr
    split_ifs with h
    · rfl
    · show _ = zrow _ _ _ _ _ r q
      rw [zrow, if_neg (by omega), if_neg (by omega)]
  rw [← e, ← s8 r q]
  have e0 : rotp 0 x6 x7 = k0_pay20 (F := Ideal) 64#32 k0_pay14 k0_pay15 k0_pay16 0#32 x6 x7 := rfl
  simp only [kernelRun0_B.sl.HS0_14, kernelRun0_B.sl.HS0_13, kernelRun0_B.sl.HS0_12, kernelRun0_B.sl.HS0_11, kernelRun0_B.sl.HS0_10,
    kernelRun0_B.sl.HS0_9, kernelRun0_B.sl.HS0_8, kernelRun0_B.sl.HS0_7, kernelRun0_B.sl.r_3, kernelRun0_B.sl.r_4, kernelRun0_B.sl.r_5,
    kernelRun0_B.sl.r_6, kernelRun0_B.sl.v79, kernelRun0_B.sl.v91, kernelRun0_B.sl.v103, kernelRun0_B.sl.v115, kernelRun0_B.sl.v127,
    kernelRun0_B.sl.v, kernelRun0_B.sl.v155, kernelRun0_B.sl.v169, h6, h7]
  rfl

/-- Case A's projection scratch is case B's. -/
theorem z14_A (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
   (arg8 : Memref sig .tc .vmem S512x128 .f32) (harg8 : arg8.IsWhole) (arg9 : Memref sig .tc .vmem S512x128 .f32) (harg9 : arg9.IsWhole) (arg17 : Memref sig .tc .vmem S512x5632 .f32)
   (x0 : Vec Ideal S1x512x1024 .f32) (x1 : Vec Ideal S1x1024 .f32) (x2 : Vec Ideal S1024x5632 .bf16) (x6 x7 : Vec Ideal S512x128 .f32) :
   View.canon (kernelRun0_A.sl.HS0_14 (F := Ideal) c arg2 harg2 arg3 harg3 arg4 harg4 arg8 harg8 arg9 harg9 arg17 x0 x1 x2 x6 x7) = zarr x0 x1 x2 x6 x7 :=
  (congrArg View.canon (show _ = kernelRun0_B.sl.HS0_14 (F := Ideal) c arg2 harg2 arg3 harg3 arg4 harg4 arg8 harg8 arg9 harg9 arg17 x0 x1 x2 x6 x7 from rfl)).trans
    (z14_B c arg2 harg2 arg3 harg3 arg4 harg4 arg8 harg8 arg9 harg9 arg17 x0 x1 x2 x6 x7)

/-- Case C's projection scratch is case B's. -/
theorem z14_C (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
   (arg8 : Memref sig .tc .vmem S512x128 .f32) (harg8 : arg8.IsWhole) (arg9 : Memref sig .tc .vmem S512x128 .f32) (harg9 : arg9.IsWhole) (arg17 : Memref sig .tc .vmem S512x5632 .f32)
   (x0 : Vec Ideal S1x512x1024 .f32) (x1 : Vec Ideal S1x1024 .f32) (x2 : Vec Ideal S1024x5632 .bf16) (x6 x7 : Vec Ideal S512x128 .f32) :
   View.canon (kernelRun0_C.sl.HS0_14 (F := Ideal) c arg2 harg2 arg3 harg3 arg4 harg4 arg8 harg8 arg9 harg9 arg17 x0 x1 x2 x6 x7) = zarr x0 x1 x2 x6 x7 :=
  (congrArg View.canon (show _ = kernelRun0_B.sl.HS0_14 (F := Ideal) c arg2 harg2 arg3 harg3 arg4 harg4 arg8 harg8 arg9 harg9 arg17 x0 x1 x2 x6 x7 from rfl)).trans
    (z14_B c arg2 harg2 arg3 harg3 arg4 harg4 arg8 harg8 arg9 harg9 arg17 x0 x1 x2 x6 x7)

end Cert.KernelIdeal.Mix
end
-- ==== Proof.MixerPay.lean ====
module

public import proofs.«01_k».proof.Proof.MixerZ
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

/-- The state's step: decayed, plus the outer products of the chunk's weighted keys with its values. -/
theorem pay40_at (kb : Vec Ideal S128x128 .f32) (vb : Vec Ideal S128x256 .f32) (s wk gs : Vec Ideal S1x128x128 .f32) (r l : Fin 128) :
    k0_pay40 (F := Ideal) kb (k0_pay31 vb) (k0_pay32 s) wk gs (ix3 (0 : Fin 1) r l)
      = s (ix3 (0 : Fin 1) r l) * gs (ix3 (0 : Fin 1) r l)
        + ∑ i : Fin 128, kb (ix2 i r) * wk (ix3 (0 : Fin 1) i r) * vb (ix2 i (⟨r.val / 64 * 128 + l.val, by omega⟩ : Fin 256)) := by
  pointwise [k0_pay40, k0_pay31, k0_pay32]
  refine Ideal.add_congr rfl ?_
  split_ifs with h
  · exact Finset.sum_congr rfl fun i _ => Ideal.mul_congr rfl (congrArg (fun z => vb (ix2 i z)) (Fin.ext (by dsimp only; omega)))
  · simp only [show (⟨64 + (r.val - 64), by omega⟩ : Fin 128) = r from Fin.ext (by dsimp only; omega)]
    exact Finset.sum_congr rfl fun i _ => Ideal.mul_congr rfl (congrArg (fun z => vb (ix2 i z)) (Fin.ext (by dsimp only; omega)))
  · exact absurd rfl ‹¬ _›

/-- The lanes of head `h` of a pair: sixty-four of the pair's. -/
def lane (h : Fin 2) (r : Fin 64) : Fin 128 := ⟨64 * h.val + r.val, by omega⟩

/-- One head's retention in one chunk: within the chunk, and from the state before it. -/
def attn (h : Fin 2) (q kb : Vec Ideal S128x128 .f32) (vb : Vec Ideal S128x256 .f32) (s xi dm : Vec Ideal S1x128x128 .f32) (i l : Fin 128) : EReal :=
  ∑ j : Fin 128, (∑ r : Fin 64, q (ix2 i (lane h r)) * kb (ix2 j (lane h r))) * dm (ix3 (0 : Fin 1) i j)
      * vb (ix2 j (⟨128 * h.val + l.val, by omega⟩ : Fin 256))
    + ∑ r : Fin 64, q (ix2 i (lane h r)) * xi (ix3 (0 : Fin 1) i (lane h r)) * s (ix3 (0 : Fin 1) (lane h r) l)

/-- A head's lane mask, as the kernel's words make it. -/
theorem mask_word : ∀ x : Fin 128, BitVec.setWidth 32 (IntOp.cmpi CmpIPredicate.slt (BitVec.ofNat 32 x.val) 64#32) = if x.val < 64 then 1#32 else 0#32 := by
  decide +kernel

/-- The lane mask of the first head of a pair is one on the first 64 lanes. -/
theorem mask_even (x : Fin 128) : (FloatOps.sitofp (F := Ideal) FTy.f32 (BitVec.setWidth 32 (IntOp.cmpi CmpIPredicate.slt (BitVec.ofNat 32 x.val) 64#32)) : EReal)
    = if x.val < 64 then 1 else 0 := by
  rw [mask_word]
  split_ifs
  · show ((((1#32 : BitVec 32).toInt : ℝ)) : EReal) = 1
    norm_num
  · show ((((0#32 : BitVec 32).toInt : ℝ)) : EReal) = 0
    norm_num

/-- The lane mask of the second head is one on the last 64 lanes. -/
theorem mask_odd (x : Fin 128) : (Ideal.ofBits FTy.f32 0x3F800000#32 : EReal) - (if x.val < 64 then 1 else 0) = if x.val < 64 then 0 else 1 := by
  have h1 : (Ideal.ofBits FTy.f32 0x3F800000#32 : EReal) = 1 := Ideal.ofBits_one_f32
  rw [h1]
  split_ifs
  · exact EReal.sub_self (by decide) (by decide)
  · simp

/-- A sum over the pair's lanes that vanishes on the other head is the sum over the head's lanes. -/
theorem sum_lane (h : Fin 2) (f : Fin 128 → EReal) (hf : ∀ x : Fin 128, x.val / 64 ≠ h.val → f x = 0) :
    ∑ x : Fin 128, f x = ∑ r : Fin 64, f (lane h r) := by
  rw [Fin.sum_univ_two_halves 64 64 rfl]
  obtain rfl | rfl : h = 0 ∨ h = 1 := by omega
  · rw [Finset.sum_eq_zero (s := Finset.univ) (f := fun k : Fin 64 => f ⟨64 + k.val, by omega⟩) (fun k _ => hf _ (by simp only [Fin.val_zero]; omega)), add_zero]
    exact Finset.sum_congr rfl fun k _ => congrArg f (Fin.ext (by simp [lane]))
  · rw [Finset.sum_eq_zero (s := Finset.univ) (f := fun k : Fin 64 => f ⟨k.val, by omega⟩) (fun k _ => hf _ (by simp only [Fin.val_one]; omega)), zero_add]
    exact Finset.sum_congr rfl fun k _ => congrArg f (Fin.ext (by simp [lane]))

/-- An entry of a chunk of retention for the first head of a pair. -/
theorem pay36_at (q kb : Vec Ideal S128x128 .f32) (vb : Vec Ideal S128x256 .f32) (s xi dm : Vec Ideal S1x128x128 .f32) (i l : Fin 128) :
    k0_pay36 (F := Ideal) (iota Kind.tc S1x128 32 [1] iota_S1x128_d1_w32) q kb vb s xi dm (ix2 i l) = attn 0 q kb vb s xi dm i l := by
  pointwise [k0_pay36, k0_pay31, k0_pay33, k0_pay32, k0_pay34, k0_pay29, k0_pay30, k0_pay35]
  simp only [mask_even]
  unfold attn
  refine Ideal.add_congr (Finset.sum_congr rfl fun j _ => Ideal.mul_congr (Ideal.mul_congr ?_ rfl) (congrArg (fun z => vb (ix2 j z)) (Fin.ext (by simp)))) ?_
  · rw [sum_lane 0 _ (fun x hx => by rw [if_neg (by simp at hx; omega)]; simp)]
    exact Finset.sum_congr rfl fun r _ => by rw [if_pos (by simp [lane])]; simp
  · rw [sum_lane 0 _ (fun x hx => by rw [if_neg (by simp at hx; omega)]; simp)]
    exact Finset.sum_congr rfl fun r _ => by rw [if_pos (by simp [lane])]; simp

/-- A row normalized by its own mean square, times the gate's swish. -/
def gated (o g : Fin 128 → EReal) (l : Fin 128) : EReal :=
  o l * Ideal.rsqrt (Ideal.div (∑ x, o x * o x) (Ideal.ofBits FTy.f32 0x43000000#32) + Ideal.ofBits FTy.f32 0x358637BD#32)
    * (g l * Ideal.logistic (g l))

/-- An entry of the head's norm and gate. -/
theorem pay37_at (o g : Vec Ideal S128x128 .f32) (i l : Fin 128) :
    k0_pay37 (F := Ideal) o g (ix2 i l) = gated (fun x => o (ix2 i x)) (fun x => g (ix2 i x)) l := by
  unfold gated
  pointwise [k0_pay37]

/-- The even head's block. -/
theorem even_at (q kb : Vec Ideal S128x128 .f32) (vb : Vec Ideal S128x256 .f32) (s xi dm : Vec Ideal S1x128x128 .f32) (g : Vec Ideal S128x128 .f32) (i l : Fin 128) :
    k0_pay37 (F := Ideal) (k0_pay36 (iota Kind.tc S1x128 32 [1] iota_S1x128_d1_w32) q kb vb s xi dm) g (ix2 i l)
      = gated (attn 0 q kb vb s xi dm i) (fun x => g (ix2 i x)) l := by
  rw [pay37_at]
  exact congrArg (fun o => gated o _ l) (funext fun x => pay36_at ..)

/-- The odd head's block. -/
theorem odd_at (q kb : Vec Ideal S128x128 .f32) (vb : Vec Ideal S128x256 .f32) (s xi dm : Vec Ideal S1x128x128 .f32) (g : Vec Ideal S128x128 .f32) (i l : Fin 128) :
    k0_pay39 (F := Ideal) (k0_pay38 (k0_pay30 (iota Kind.tc S1x128 32 [1] iota_S1x128_d1_w32)) (k0_pay31 vb) (k0_pay33 s)
        (k0_pay34 (iota Kind.tc S1x128 32 [1] iota_S1x128_d1_w32) q kb) (k0_pay35 q xi) dm g) (ix2 i l)
      = gated (attn 1 q kb vb s xi dm i) (fun x => g (ix2 i x)) l := by
  have key : ∀ l : Fin 128, attn 1 q kb vb s xi dm i l = ∑ x : Fin 128, (∑ y : Fin 128, q (ix2 i y) * (kb (ix2 x y) * (Ideal.ofBits FTy.f32 0x3F800000#32 - FloatOps.sitofp (F := Ideal) FTy.f32 (BitVec.setWidth 32 (IntOp.cmpi CmpIPredicate.slt (BitVec.ofNat 32 y.val) 64#32))))) * dm (ix3 (0 : Fin 1) i x) * vb (ix2 x (⟨128 + l.val, by omega⟩ : Fin 256))
      + ∑ x : Fin 128, q (ix2 i x) * xi (ix3 (0 : Fin 1) i x) * (Ideal.ofBits FTy.f32 0x3F800000#32 - FloatOps.sitofp (F := Ideal) FTy.f32 (BitVec.setWidth 32 (IntOp.cmpi CmpIPredicate.slt (BitVec.ofNat 32 x.val) 64#32))) * s (ix3 (0 : Fin 1) x l) := by
    intro l
    simp only [mask_even, mask_odd]
    unfold attn
    refine Ideal.add_congr (Finset.sum_congr rfl fun j _ => Ideal.mul_congr (Ideal.mul_congr ?_ rfl) (congrArg (fun z => vb (ix2 j z)) (Fin.ext (by simp)))) ?_
    · rw [sum_lane 1 _ (fun x hx => by rw [if_pos (by simp at hx; omega)]; simp)]
      exact Finset.sum_congr rfl fun r _ => by rw [if_neg (by simp [lane])]; simp
    · rw [sum_lane 1 _ (fun x hx => by rw [if_pos (by simp at hx; omega)]; simp)]
      exact Finset.sum_congr rfl fun r _ => by rw [if_neg (by simp [lane])]; simp
  unfold gated
  simp only [key]
  pointwise [k0_pay39, k0_pay38, k0_pay31, k0_pay33, k0_pay32, k0_pay34, k0_pay29, k0_pay30, k0_pay35]

end Cert.KernelIdeal.Mix
end
-- ==== Proof.MixerState.lean ====
module

public import proofs.«01_k».proof.Proof.MixerPay

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

/-- Writes to the projection scratch. -/
abbrev PZ := List (View.Piece (Elt Ideal) S512x5632 .f32)
/-- Writes to the state scratch. -/
abbrev PS := List (View.Piece (Elt Ideal) S4x128x128 .f32)
/-- Writes to the retention scratch. -/
abbrev PR := List (View.Piece (Elt Ideal) S512x1024 .f32)
/-- The projection scratch. -/
abbrev MZ := Memref sig .tc .vmem S512x5632 .f32
/-- The state scratch, or a table of its shape. -/
abbrev MT := Memref sig .tc .vmem S4x128x128 .f32
/-- The table of decays inside a chunk. -/
abbrev MD := Memref sig .tc .vmem S8x128x128 .f32
/-- One pair's block. -/
abbrev V3 := Vec Ideal S1x128x128 .f32
/-- The four pairs' blocks. -/
abbrev V4 := Vec Ideal S4x128x128 .f32
/-- The eight heads' blocks. -/
abbrev V8 := Vec Ideal S8x128x128 .f32
/-- Contents of the projection scratch. -/
abbrev VZ := Vec Ideal S512x5632 .f32

/-- A block lies inside the projection scratch. -/
theorem inbZ {h w : ℕ} (a b : ℕ) (ha : a + h ≤ 512) (hb : b + w ≤ 5632) :
    ∀ x, (![a, b] : Fin 2 → ℕ) x + (![h, w] : Fin 2 → ℕ) x ≤ S512x5632.size x := by
  intro x; match x with | ⟨0, _⟩ => exact ha | ⟨1, _⟩ => exact hb

/-- A pair's block lies inside the state. -/
theorem inbT (p : Fin 4) : ∀ x, (![p.val, 0, 0] : Fin 3 → ℕ) x + S1x128x128.size x ≤ S4x128x128.size x := by
  intro x; match x with | ⟨0, _⟩ => exact p.isLt | ⟨1, _⟩ => exact le_refl 128 | ⟨2, _⟩ => exact le_refl 128

/-- A head's block lies inside the decay table. -/
theorem inbD (h : Fin 8) : ∀ x, (![h.val, 0, 0] : Fin 3 → ℕ) x + S1x128x128.size x ≤ S8x128x128.size x := by
  intro x; match x with | ⟨0, _⟩ => exact h.isLt | ⟨1, _⟩ => exact le_refl 128 | ⟨2, _⟩ => exact le_refl 128

/-- A block lies inside the retention scratch. -/
theorem inbR (a b : ℕ) (ha : a + 128 ≤ 512) (hb : b + 128 ≤ 1024) :
    ∀ x, (![a, b] : Fin 2 → ℕ) x + S128x128.size x ≤ S512x1024.size x := by
  intro x; match x with | ⟨0, _⟩ => exact ha | ⟨1, _⟩ => exact hb

/-- The blocks the heads of pair `p` read in chunk `n`, and pair `p`'s tables. -/
def qB (arg17 : MZ) (L0 : PZ) (p n : Fin 4) : Vec Ideal S128x128 .f32 :=
  arg17.view.readCov L0 (Rect.unit (s := S512x5632) ![128 * n.val, 128 * p.val] S128x128.size (inbZ _ _ (by omega) (by omega))).toLoadRect
/-- The keys of a pair in a chunk. -/
def kB (arg17 : MZ) (L0 : PZ) (p n : Fin 4) : Vec Ideal S128x128 .f32 :=
  arg17.view.readCov L0 (Rect.unit (s := S512x5632) ![128 * n.val, 512 + 128 * p.val] S128x128.size (inbZ _ _ (by omega) (by omega))).toLoadRect
/-- The values of a pair in a chunk. -/
def vB (arg17 : MZ) (L0 : PZ) (p n : Fin 4) : Vec Ideal S128x256 .f32 :=
  arg17.view.readCov L0 (Rect.unit (s := S512x5632) ![128 * n.val, 1024 + 256 * p.val] S128x256.size (inbZ _ _ (by omega) (by omega))).toLoadRect
/-- The output gate of a head in a chunk. -/
def gB (arg17 : MZ) (L0 : PZ) (p n : Fin 4) (h : ℕ) (hh : h < 2) : Vec Ideal S128x128 .f32 :=
  arg17.view.readCov L0 (Rect.unit (s := S512x5632) ![128 * n.val, 2048 + 256 * p.val + 128 * h] S128x128.size (inbZ _ _ (by omega) (by omega))).toLoadRect
/-- A pair's block of a table. -/
def tB (arg : MT) (harg : arg.IsWhole) (x : V4) (p : Fin 4) : V3 :=
  View.readAt (Elt Ideal) arg.view (Rect.unit (s := S4x128x128) ![p.val, 0, 0] S1x128x128.size (inbT p)).toLoadRect (harg.unread x)
/-- A head's block of the decay table. -/
def dB (arg : MD) (harg : arg.IsWhole) (x : V8) (p : Fin 4) (h : ℕ) (hh : h < 2) : V3 :=
  View.readAt (Elt Ideal) arg.view (Rect.unit (s := S8x128x128) ![2 * p.val + h, 0, 0] S1x128x128.size (inbD ⟨2 * p.val + h, by omega⟩)).toLoadRect (harg.unread x)

/-- Everything the retention of one block reads but the state. -/
structure Src where
  arg17 : MZ
  L0 : PZ
  arg10 : MD
  h10 : arg10.IsWhole
  x8 : V8
  arg11 : MT
  h11 : arg11.IsWhole
  x9 : V4
  arg12 : MT
  h12 : arg12.IsWhole
  x10 : V4
  arg13 : MT
  h13 : arg13.IsWhole
  x11 : V4

/-- What one chunk's step of pair `p` stores, from the state before it. -/
def stPay (S : Src) (p n : Fin 4) (s : V3) : V3 :=
  k0_pay40 (F := Ideal) (kB S.arg17 S.L0 p n) (k0_pay31 (vB S.arg17 S.L0 p n)) (k0_pay32 s) (tB S.arg12 S.h12 S.x10 p) (tB S.arg13 S.h13 S.x11 p)

/-- The state's stores, last first: pair by pair, chunk by chunk. -/
def stList (S : Src) (s : Fin 4 → Fin 4 → V3) (T : PS) : ℕ → PS
  | 0 => T
  | t + 1 => ⟨Rect.unit (s := S4x128x128) ![(⟨t / 4 % 4, by omega⟩ : Fin 4).val, 0, 0] S1x128x128.size (inbT ⟨t / 4 % 4, by omega⟩),
      stPay S ⟨t / 4 % 4, by omega⟩ ⟨t % 4, by omega⟩ (s ⟨t / 4 % 4, by omega⟩ ⟨t % 4, by omega⟩)⟩ :: stList S s T t

/-- What one head's chunk stores: the even head's form or the odd head's. -/
def retPay (S : Src) (p n : Fin 4) (s : V3) : ℕ → Vec Ideal S128x128 .f32
  | 0 => k0_pay37 (F := Ideal) (k0_pay36 (iota Kind.tc S1x128 32 [1] iota_S1x128_d1_w32) (qB S.arg17 S.L0 p n) (kB S.arg17 S.L0 p n)
      (vB S.arg17 S.L0 p n) s (tB S.arg11 S.h11 S.x9 p) (dB S.arg10 S.h10 S.x8 p 0 (by decide))) (gB S.arg17 S.L0 p n 0 (by decide))
  | _ => k0_pay39 (F := Ideal) (k0_pay38 (k0_pay30 (iota Kind.tc S1x128 32 [1] iota_S1x128_d1_w32)) (k0_pay31 (vB S.arg17 S.L0 p n)) (k0_pay33 s)
      (k0_pay34 (iota Kind.tc S1x128 32 [1] iota_S1x128_d1_w32) (qB S.arg17 S.L0 p n) (kB S.arg17 S.L0 p n))
      (k0_pay35 (qB S.arg17 S.L0 p n) (tB S.arg11 S.h11 S.x9 p)) (dB S.arg10 S.h10 S.x8 p 1 (by decide)) (gB S.arg17 S.L0 p n 1 (by decide)))

/-- The retention's stores, last first: pair by pair, chunk by chunk, head by head. -/
def retList (S : Src) (s : Fin 4 → Fin 4 → V3) : ℕ → PR
  | 0 => []
  | t + 1 => ⟨Rect.unit (s := S512x1024) ![128 * (t / 2 % 4), 256 * (t / 8 % 4) + 128 * (t % 2)] S128x128.size (inbR _ _ (by omega) (by omega)),
      retPay S ⟨t / 8 % 4, by omega⟩ ⟨t / 2 % 4, by omega⟩ (s ⟨t / 8 % 4, by omega⟩ ⟨t / 2 % 4, by omega⟩) (t % 2)⟩ :: retList S s t

/-- A cell of the state scratch whose last store is one pair's block. -/
theorem canon_s (p : Fin 4) (W : V3) (L : PS) (p' : Fin 4) (r l : Fin 128) :
    View.canon ((⟨Rect.unit (s := S4x128x128) ![p.val, 0, 0] S1x128x128.size (inbT p), W⟩ : View.Piece (Elt Ideal) S4x128x128 .f32) :: L) (ix3 p' r l)
    = if p' = p then W (ix3 (0 : Fin 1) r l) else View.canon L (ix3 p' r l) := by
  split_ifs with h
  · subst h
    have he : ix3 p' r l = (Rect.unit (s := S4x128x128) ![p'.val, 0, 0] S1x128x128.size (inbT p')).emb (ix3 (0 : Fin 1) r l) := by
      funext x; apply Fin.ext
      match x with
      | ⟨0, _⟩ => simp [Rect.emb, Rect.unit, ix3, LoadRect.idx]
      | ⟨1, _⟩ => simp [Rect.emb, Rect.unit, ix3, LoadRect.idx]
      | ⟨2, _⟩ => simp [Rect.emb, Rect.unit, ix3, LoadRect.idx]
    rw [he, View.canon_cons_emb]
  · refine View.canon_cons_of_not_mem _ L ?_
    intro hm
    obtain ⟨i0, hi0, he0⟩ := (LoadRect.mem_set _).mp hm (0 : Fin 3)
    apply h
    apply Fin.ext
    simp [Rect.unit, ix3] at hi0 he0
    omega

/-- A cell of the state scratch after `t` steps. -/
theorem canon_stList (S : Src) (s : Fin 4 → Fin 4 → V3) (T : PS) (t : ℕ) (ht : t ≤ 16) (p : Fin 4) (r l : Fin 128) :
    View.canon (stList S s T t) (ix3 p r l)
    = if 4 * p.val < t then stPay S p ⟨min (t - 4 * p.val) 4 - 1, by omega⟩ (s p ⟨min (t - 4 * p.val) 4 - 1, by omega⟩) (ix3 (0 : Fin 1) r l)
      else View.canon T (ix3 p r l) := by
  induction t with
  | zero => simp [stList]
  | succ t ih =>
    rw [stList, canon_s, ih (by omega)]
    by_cases h : p.val = t / 4
    · have hp : p = ⟨t / 4 % 4, by omega⟩ := Fin.ext (by dsimp only; omega)
      rw [if_pos hp, if_pos (by omega)]
      have hn : (⟨min (t + 1 - 4 * p.val) 4 - 1, by omega⟩ : Fin 4) = ⟨t % 4, by omega⟩ := Fin.ext (by dsimp only; omega)
      rw [hn, ← hp]
    · have hp : ¬ p = ⟨t / 4 % 4, by omega⟩ := fun e => h (by have := congrArg Fin.val e; dsimp only at this; omega)
      rw [if_neg hp]
      by_cases h2 : 4 * p.val < t
      · have hn : (⟨min (t + 1 - 4 * p.val) 4 - 1, by omega⟩ : Fin 4) = ⟨min (t - 4 * p.val) 4 - 1, by omega⟩ := Fin.ext (by dsimp only; omega)
        rw [if_pos h2, if_pos (by omega), hn]
      · rw [if_neg h2, if_neg (by omega)]

/-- A cell of the retention's rows whose last store is one head's chunk. -/
theorem canon_r (a b : ℕ) (inb : ∀ x, (![a, b] : Fin 2 → ℕ) x + S128x128.size x ≤ S512x1024.size x)
    (W : Vec Ideal S128x128 .f32) (L : PR) (r : Fin 512) (q : Fin 1024) :
    View.canon ((⟨Rect.unit (s := S512x1024) ![a, b] S128x128.size inb, W⟩ : View.Piece (Elt Ideal) S512x1024 .f32) :: L) (ix2 r q)
    = if hh : (a ≤ r.val ∧ r.val < a + 128) ∧ (b ≤ q.val ∧ q.val < b + 128) then
        W (ix2 (⟨r.val - a, by omega⟩ : Fin 128) (⟨q.val - b, by omega⟩ : Fin 128))
      else View.canon L (ix2 r q) :=
  Mixer.canon_rect a b inb W L r q

/-- A cell of the retention's rows after `t` heads' chunks. -/
theorem canon_retList (S : Src) (s : Fin 4 → Fin 4 → V3) (t : ℕ) (ht : t ≤ 32) (r : Fin 512) (q : Fin 1024) (hlt : 8 * (q.val / 256) + 2 * (r.val / 128) + q.val / 128 % 2 < t) :
    View.canon (retList S s t) (ix2 r q)
    = retPay S ⟨q.val / 256, by omega⟩ ⟨r.val / 128, by omega⟩ (s ⟨q.val / 256, by omega⟩ ⟨r.val / 128, by omega⟩) (q.val / 128 % 2)
        (ix2 (⟨r.val % 128, by omega⟩ : Fin 128) (⟨q.val % 128, by omega⟩ : Fin 128)) := by
  induction t with
  | zero => omega
  | succ t ih =>
    rw [retList, canon_r]
    by_cases h : 8 * (q.val / 256) + 2 * (r.val / 128) + q.val / 128 % 2 = t
    · rw [dif_pos (by omega)]
      have e1 : (⟨t / 8 % 4, by omega⟩ : Fin 4) = ⟨q.val / 256, by omega⟩ := Fin.ext (by dsimp only; omega)
      have e2 : (⟨t / 2 % 4, by omega⟩ : Fin 4) = ⟨r.val / 128, by omega⟩ := Fin.ext (by dsimp only; omega)
      have e3 : t % 2 = q.val / 128 % 2 := by omega
      have e4 : (⟨r.val - 128 * (t / 2 % 4), by omega⟩ : Fin 128) = ⟨r.val % 128, by omega⟩ := Fin.ext (by dsimp only; omega)
      have e5 : (⟨q.val - (256 * (t / 8 % 4) + 128 * (t % 2)), by omega⟩ : Fin 128) = ⟨q.val % 128, by omega⟩ := Fin.ext (by dsimp only; omega)
      rw [e4, e5, e1, e2, e3]
    · rw [dif_neg (by omega)]
      exact ih (by omega) (by omega)

/-- One more store of the state. -/
theorem st_cons (S : Src) (s : Fin 4 → Fin 4 → V3) (T L : PS) (t : ℕ) (p n : Fin 4) (hp : p.val = t / 4 % 4) (hn : n.val = t % 4) {a : ℕ} {inb} {W v : V3}
    (ha : a = p.val) (hv : s p n = v) (hW : W = stPay S p n v) (hL : L = stList S s T t) :
    (⟨Rect.unit (s := S4x128x128) ![a, 0, 0] S1x128x128.size inb, W⟩ : View.Piece (Elt Ideal) S4x128x128 .f32) :: L = stList S s T (t + 1) := by
  obtain ⟨p, hp0⟩ := p
  obtain ⟨n, hn0⟩ := n
  dsimp only at hp hn
  subst hp hn
  subst ha hv hW hL
  rfl

/-- One more store of the retention's rows. -/
theorem ret_cons (S : Src) (s : Fin 4 → Fin 4 → V3) (L : PR) (t : ℕ) (p n : Fin 4) (h : ℕ) (hp : p.val = t / 8 % 4) (hn : n.val = t / 2 % 4) (hh : h = t % 2)
    {a b : ℕ} {inb} {W : Vec Ideal S128x128 .f32} {v : V3}
    (ha : a = 128 * n.val) (hb : b = 256 * p.val + 128 * h) (hv : s p n = v)
    (hW : W = retPay S p n v h) (hL : L = retList S s t) :
    (⟨Rect.unit (s := S512x1024) ![a, b] S128x128.size inb, W⟩ : View.Piece (Elt Ideal) S512x1024 .f32) :: L = retList S s (t + 1) := by
  obtain ⟨p, hp0⟩ := p
  obtain ⟨n, hn0⟩ := n
  dsimp only at hp hn
  subst hp hn
  subst hh ha hb hv hW hL
  rfl

end Cert.KernelIdeal.Mix
end
-- ==== Proof.MixerStep.lean ====
module

public import proofs.«01_k».proof.Proof.MixerState

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

/-- The state of pair `p` after `n` chunks. -/
def stv (Z : VZ) (wk gs : V4) (S0 : Fin 4 → Fin 128 → Fin 128 → EReal) (p : Fin 4) : ℕ → Fin 128 → Fin 128 → EReal
  | 0 => S0 p
  | n + 1 => fun r l => stv Z wk gs S0 p n r l * gs (ix3 p r l)
      + ∑ i : Fin 128, Z (ix2 (⟨(128 * n + i.val) % 512, by omega⟩ : Fin 512) (⟨512 + 128 * p.val + r.val, by omega⟩ : Fin 5632)) * wk (ix3 p i r)
          * Z (ix2 (⟨(128 * n + i.val) % 512, by omega⟩ : Fin 512) (⟨1024 + 256 * p.val + 128 * (r.val / 64) + l.val, by omega⟩ : Fin 5632))

/-- Head `H`'s retention in chunk `n`, before its norm. -/
def attnZ (Z : VZ) (xi : V4) (dm : V8) (st : Fin 4 → ℕ → Fin 128 → Fin 128 → EReal) (H : Fin 8) (n : Fin 4) (i l : Fin 128) : EReal :=
  ∑ j : Fin 128, (∑ r : Fin 64, Z (ix2 (⟨128 * n.val + i.val, by omega⟩ : Fin 512) (⟨64 * H.val + r.val, by omega⟩ : Fin 5632))
        * Z (ix2 (⟨128 * n.val + j.val, by omega⟩ : Fin 512) (⟨512 + 64 * H.val + r.val, by omega⟩ : Fin 5632))) * dm (ix3 H i j)
      * Z (ix2 (⟨128 * n.val + j.val, by omega⟩ : Fin 512) (⟨1024 + 128 * H.val + l.val, by omega⟩ : Fin 5632))
    + ∑ r : Fin 64, Z (ix2 (⟨128 * n.val + i.val, by omega⟩ : Fin 512) (⟨64 * H.val + r.val, by omega⟩ : Fin 5632))
        * xi (ix3 (⟨H.val / 2, by omega⟩ : Fin 4) i (⟨64 * (H.val % 2) + r.val, by omega⟩ : Fin 128))
        * st ⟨H.val / 2, by omega⟩ n.val ⟨64 * (H.val % 2) + r.val, by omega⟩ l

/-- The gated retention's row. -/
def retv (Z : VZ) (xi : V4) (dm : V8) (st : Fin 4 → ℕ → Fin 128 → Fin 128 → EReal) (r : Fin 512) (q : Fin 1024) : EReal :=
  gated (attnZ Z xi dm st ⟨q.val / 128, by omega⟩ ⟨r.val / 128, by omega⟩ ⟨r.val % 128, by omega⟩)
    (fun x => Z (ix2 r (⟨2048 + 128 * (q.val / 128) + x.val, by omega⟩ : Fin 5632))) ⟨q.val % 128, by omega⟩

/-- An entry of a pair's block. -/
theorem tB_at (arg : MT) (harg : arg.IsWhole) (x : V4) (p : Fin 4) (r l : Fin 128) : tB arg harg x p (ix3 (0 : Fin 1) r l) = x (ix3 p r l) := by
  rw [tB, Mixer.readAt_ld]
  exact View.ld_unit_apply_of x _ _ _ (ix3 (0 : Fin 1) r l) _ (fun a => by match a with | ⟨0, _⟩ => simp [ix3] | ⟨1, _⟩ => simp [ix3] | ⟨2, _⟩ => simp [ix3])

/-- An entry of a head's block. -/
theorem dB_at (arg : MD) (harg : arg.IsWhole) (x : V8) (p : Fin 4) (h : ℕ) (hh : h < 2) (r l : Fin 128) :
    dB arg harg x p h hh (ix3 (0 : Fin 1) r l) = x (ix3 (⟨2 * p.val + h, by omega⟩ : Fin 8) r l) := by
  rw [dB, Mixer.readAt_ld]
  exact View.ld_unit_apply_of x _ _ _ (ix3 (0 : Fin 1) r l) _ (fun a => by match a with | ⟨0, _⟩ => simp [ix3] | ⟨1, _⟩ => simp [ix3] | ⟨2, _⟩ => simp [ix3])

/-- A block of the projections' scratch. -/
theorem zB_at (arg17 : MZ) (L0 : PZ) {h w : ℕ} (a b : ℕ) (inb : ∀ x, (![a, b] : Fin 2 → ℕ) x + (![h, w] : Fin 2 → ℕ) x ≤ S512x5632.size x)
    (i : Fin h) (r : Fin w) (i' : Fin 512) (r' : Fin 5632) (hi : i'.val = a + i.val) (hr : r'.val = b + r.val) :
    arg17.view.readCov L0 (Rect.unit (s := S512x5632) ![a, b] ![h, w] inb).toLoadRect (ix2 i r) = View.canon L0 (ix2 i' r') := by
  rw [Mixer.readCov_ld]
  exact ld_z a b inb _ i r i' r' hi hr

/-- What a step stores, from a state already known. -/
theorem stPay_val (S : Src) (S0 : Fin 4 → Fin 128 → Fin 128 → EReal) (p n : Fin 4) (s : V3)
    (hs : ∀ r l, s (ix3 (0 : Fin 1) r l) = stv (View.canon S.L0) S.x10 S.x11 S0 p n.val r l) (r l : Fin 128) :
    stPay S p n s (ix3 (0 : Fin 1) r l) = stv (View.canon S.L0) S.x10 S.x11 S0 p (n.val + 1) r l := by
  rw [stPay, pay40_at, hs, tB_at, stv]
  refine Ideal.add_congr rfl (Finset.sum_congr rfl fun i _ => ?_)
  rw [tB_at]
  refine Ideal.mul_congr (Ideal.mul_congr ?_ rfl) ?_
  · exact zB_at _ _ _ _ _ _ _ _ _ (by dsimp only; omega) (by dsimp only)
  · exact zB_at _ _ _ _ _ _ _ _ _ (by dsimp only; omega) (by dsimp only; omega)

/-- The states read back are the states after each chunk. -/
theorem reads_val (S : Src) (S0 : Fin 4 → Fin 128 → Fin 128 → EReal) (s : Fin 4 → Fin 4 → V3)
    (h0 : ∀ p r l, s p 0 (ix3 (0 : Fin 1) r l) = S0 p r l)
    (hc : ∀ (p : Fin 4) (n : Fin 3), s p n.succ = stPay S p n.castSucc (s p n.castSucc)) (p n : Fin 4) :
    ∀ r l, s p n (ix3 (0 : Fin 1) r l) = stv (View.canon S.L0) S.x10 S.x11 S0 p n.val r l := by
  induction n using Fin.induction with
  | zero => exact h0 p
  | succ n ih => intro r l; rw [hc]; exact stPay_val S S0 p n.castSucc _ ih r l

/-- The state after a point's four chunks. -/
theorem st_val (S : Src) (S0 : Fin 4 → Fin 128 → Fin 128 → EReal) (s : Fin 4 → Fin 4 → V3) (T : PS)
    (h0 : ∀ p r l, s p 0 (ix3 (0 : Fin 1) r l) = S0 p r l)
    (hc : ∀ (p : Fin 4) (n : Fin 3), s p n.succ = stPay S p n.castSucc (s p n.castSucc)) (p : Fin 4) (r l : Fin 128) :
    View.canon (stList S s T 16) (ix3 p r l) = stv (View.canon S.L0) S.x10 S.x11 S0 p 4 r l := by
  rw [canon_stList S s T 16 (le_refl _), if_pos (by omega)]
  have hn : (⟨min (16 - 4 * p.val) 4 - 1, by omega⟩ : Fin 4) = 3 := Fin.ext (by show min (16 - 4 * p.val) 4 - 1 = 3; omega)
  rw [hn]
  exact stPay_val S S0 p 3 _ (reads_val S S0 s h0 hc p 3) r l

/-- One head's retention over loads of the scratch. -/
theorem attn_val (S : Src) (S0 : Fin 4 → Fin 128 → Fin 128 → EReal) (p n : Fin 4) (h : Fin 2) (s : V3)
    (hs : ∀ r l, s (ix3 (0 : Fin 1) r l) = stv (View.canon S.L0) S.x10 S.x11 S0 p n.val r l) (H : Fin 8) (hH : H.val = 2 * p.val + h.val) (i l : Fin 128) :
    attn h (qB S.arg17 S.L0 p n) (kB S.arg17 S.L0 p n) (vB S.arg17 S.L0 p n) s (tB S.arg11 S.h11 S.x9 p) (dB S.arg10 S.h10 S.x8 p h.val h.isLt) i l
      = attnZ (View.canon S.L0) S.x9 S.x8 (stv (View.canon S.L0) S.x10 S.x11 S0) H n i l := by
  have hq : ∀ (i' : Fin 128) (r : Fin 64), qB S.arg17 S.L0 p n (ix2 i' (lane h r)) = View.canon S.L0 (ix2 (⟨128 * n.val + i'.val, by omega⟩ : Fin 512) (⟨64 * H.val + r.val, by omega⟩ : Fin 5632)) :=
    fun i' r => zB_at _ _ _ _ _ _ _ _ _ (by dsimp only) (by dsimp only [lane]; omega)
  have hk : ∀ (i' : Fin 128) (r : Fin 64), kB S.arg17 S.L0 p n (ix2 i' (lane h r)) = View.canon S.L0 (ix2 (⟨128 * n.val + i'.val, by omega⟩ : Fin 512) (⟨512 + 64 * H.val + r.val, by omega⟩ : Fin 5632)) :=
    fun i' r => zB_at _ _ _ _ _ _ _ _ _ (by dsimp only) (by dsimp only [lane]; omega)
  have hv : ∀ (i' : Fin 128), vB S.arg17 S.L0 p n (ix2 i' (⟨128 * h.val + l.val, by omega⟩ : Fin 256)) = View.canon S.L0 (ix2 (⟨128 * n.val + i'.val, by omega⟩ : Fin 512) (⟨1024 + 128 * H.val + l.val, by omega⟩ : Fin 5632)) :=
    fun i' => zB_at _ _ _ _ _ _ _ _ _ (by dsimp only) (by dsimp only; omega)
  have hl : ∀ r : Fin 64, lane h r = ⟨64 * (H.val % 2) + r.val, by omega⟩ := fun r => Fin.ext (by dsimp only [lane]; omega)
  have hp : (⟨H.val / 2, by omega⟩ : Fin 4) = p := Fin.ext (by dsimp only; omega)
  have hd : (⟨2 * p.val + h.val, by omega⟩ : Fin 8) = H := Fin.ext (by dsimp only; omega)
  unfold attn attnZ
  simp only [hq, hk, hv, tB_at, dB_at, hs, hp, hd]
  simp only [hl]

/-- One head's block of the gated retention. -/
theorem retPay_val (S : Src) (S0 : Fin 4 → Fin 128 → Fin 128 → EReal) (p n : Fin 4) (h : Fin 2) (s : V3)
    (hs : ∀ r l, s (ix3 (0 : Fin 1) r l) = stv (View.canon S.L0) S.x10 S.x11 S0 p n.val r l) (r : Fin 512) (q : Fin 1024)
    (hp : p.val = q.val / 256) (hn : n.val = r.val / 128) (hh : h.val = q.val / 128 % 2) :
    retPay S p n s h.val (ix2 (⟨r.val % 128, by omega⟩ : Fin 128) (⟨q.val % 128, by omega⟩ : Fin 128))
      = retv (View.canon S.L0) S.x9 S.x8 (stv (View.canon S.L0) S.x10 S.x11 S0) r q := by
  have hg : ∀ x : Fin 128, gB S.arg17 S.L0 p n h.val h.isLt (ix2 (⟨r.val % 128, by omega⟩ : Fin 128) x)
      = View.canon S.L0 (ix2 r (⟨2048 + 128 * (q.val / 128) + x.val, by omega⟩ : Fin 5632)) :=
    fun x => zB_at _ _ _ _ _ _ _ _ _ (by dsimp only; omega) (by dsimp only; omega)
  have ha : ∀ l, _ := fun l => attn_val S S0 p n h s hs ⟨q.val / 128, by omega⟩ (by dsimp only; omega) ⟨r.val % 128, by omega⟩ l
  have hn' : (⟨r.val / 128, by omega⟩ : Fin 4) = n := Fin.ext hn.symm
  unfold retv
  rw [hn', ← funext ha, ← funext hg]
  obtain rfl | rfl : h = 0 ∨ h = 1 := by omega
  · exact even_at ..
  · exact odd_at ..

/-- The gated retention's rows after a point. -/
theorem ret_val (S : Src) (S0 : Fin 4 → Fin 128 → Fin 128 → EReal) (s : Fin 4 → Fin 4 → V3)
    (h0 : ∀ p r l, s p 0 (ix3 (0 : Fin 1) r l) = S0 p r l)
    (hc : ∀ (p : Fin 4) (n : Fin 3), s p n.succ = stPay S p n.castSucc (s p n.castSucc)) (r : Fin 512) (q : Fin 1024) :
    View.canon (retList S s 32) (ix2 r q) = retv (View.canon S.L0) S.x9 S.x8 (stv (View.canon S.L0) S.x10 S.x11 S0) r q := by
  rw [canon_retList S s 32 (le_refl _) r q (by omega)]
  exact retPay_val S S0 _ _ ⟨q.val / 128 % 2, by omega⟩ _ (reads_val S S0 s h0 hc _ _) r q rfl rfl rfl

end Cert.KernelIdeal.Mix
end
-- ==== Proof.MixerRunA.lean ====
module

public import proofs.«01_k».proof.Proof.MixerState

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

variable (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
  (arg8 : Memref sig .tc .vmem S512x128 .f32) (harg8 : arg8.IsWhole) (arg9 : Memref sig .tc .vmem S512x128 .f32) (harg9 : arg9.IsWhole)
  (arg10 : MD) (harg10 : arg10.IsWhole) (arg11 : MT) (harg11 : arg11.IsWhole) (arg12 : MT) (harg12 : arg12.IsWhole) (arg13 : MT) (harg13 : arg13.IsWhole)
  (arg17 : MZ) (arg18 : MT) (harg18 : arg18.IsWhole)
  (x0 : Vec Ideal S1x512x1024 .f32) (x1 : Vec Ideal S1x1024 .f32) (x2 : Vec Ideal S1024x5632 .bf16) (x6 x7 : Vec Ideal S512x128 .f32) (x8 : V8) (x9 x10 x11 xs1 : V4)

/-- What the retention reads in the last chunk block of a sequence (the run's own names), and in the first. -/
def srcA : Src := ⟨arg17, kernelRun0_A.sl.HS0_14 c arg2 harg2 arg3 harg3 arg4 harg4 arg8 harg8 arg9 harg9 arg17 x0 x1 x2 x6 x7, arg10, harg10, x8, arg11, harg11, x9, arg12, harg12, x10, arg13, harg13, x11⟩
/-- The states the run reads back, pair by chunk. -/
def readsA : Fin 4 → Fin 4 → V3 := ![![kernelRun0_A.sl.v193 c arg18,
    kernelRun0_A.sl.v282 c arg2 harg2 arg3 harg3 arg4 harg4 arg8 harg8 arg9 harg9 arg12 harg12 arg13 harg13 arg17 arg18 x0 x1 x2 x6 x7 x10 x11,
    kernelRun0_A.sl.v371 c arg2 harg2 arg3 harg3 arg4 harg4 arg8 harg8 arg9 harg9 arg12 harg12 arg13 harg13 arg17 arg18 x0 x1 x2 x6 x7 x10 x11,
    kernelRun0_A.sl.v460 c arg2 harg2 arg3 harg3 arg4 harg4 arg8 harg8 arg9 harg9 arg12 harg12 arg13 harg13 arg17 arg18 x0 x1 x2 x6 x7 x10 x11],
  ![kernelRun0_A.sl.v549 c arg2 harg2 arg3 harg3 arg4 harg4 arg8 harg8 arg9 harg9 arg12 harg12 arg13 harg13 arg17 arg18 x0 x1 x2 x6 x7 x10 x11,
    kernelRun0_A.sl.v638 c arg2 harg2 arg3 harg3 arg4 harg4 arg8 harg8 arg9 harg9 arg12 harg12 arg13 harg13 arg17 arg18 x0 x1 x2 x6 x7 x10 x11,
    kernelRun0_A.sl.v727 c arg2 harg2 arg3 harg3 arg4 harg4 arg8 harg8 arg9 harg9 arg12 harg12 arg13 harg13 arg17 arg18 x0 x1 x2 x6 x7 x10 x11,
    kernelRun0_A.sl.v816 c arg2 harg2 arg3 harg3 arg4 harg4 arg8 harg8 arg9 harg9 arg12 harg12 arg13 harg13 arg17 arg18 x0 x1 x2 x6 x7 x10 x11],
  ![kernelRun0_A.sl.v905 c arg2 harg2 arg3 harg3 arg4 harg4 arg8 harg8 arg9 harg9 arg12 harg12 arg13 harg13 arg17 arg18 x0 x1 x2 x6 x7 x10 x11,
    kernelRun0_A.sl.v994 c arg2 harg2 arg3 harg3 arg4 harg4 arg8 harg8 arg9 harg9 arg12 harg12 arg13 harg13 arg17 arg18 x0 x1 x2 x6 x7 x10 x11,
    kernelRun0_A.sl.v1083 c arg2 harg2 arg3 harg3 arg4 harg4 arg8 harg8 arg9 harg9 arg12 harg12 arg13 harg13 arg17 arg18 x0 x1 x2 x6 x7 x10 x11,
    kernelRun0_A.sl.v1172 c arg2 harg2 arg3 harg3 arg4 harg4 arg8 harg8 arg9 harg9 arg12 harg12 arg13 harg13 arg17 arg18 x0 x1 x2 x6 x7 x10 x11],
  ![kernelRun0_A.sl.v1261 c arg2 harg2 arg3 harg3 arg4 harg4 arg8 harg8 arg9 harg9 arg12 harg12 arg13 harg13 arg17 arg18 x0 x1 x2 x6 x7 x10 x11,
    kernelRun0_A.sl.v1350 c arg2 harg2 arg3 harg3 arg4 harg4 arg8 harg8 arg9 harg9 arg12 harg12 arg13 harg13 arg17 arg18 x0 x1 x2 x6 x7 x10 x11,
    kernelRun0_A.sl.v1439 c arg2 harg2 arg3 harg3 arg4 harg4 arg8 harg8 arg9 harg9 arg12 harg12 arg13 harg13 arg17 arg18 x0 x1 x2 x6 x7 x10 x11,
    kernelRun0_A.sl.v1528 c arg2 harg2 arg3 harg3 arg4 harg4 arg8 harg8 arg9 harg9 arg12 harg12 arg13 harg13 arg17 arg18 x0 x1 x2 x6 x7 x10 x11]]

set_option maxHeartbeats 4000000 in
/-- The stores of the first 1 pairs. -/
theorem st_A4 : kernelRun0_A.sl.HS1_5 (F := Ideal) c arg2 harg2 arg3 harg3 arg4 harg4 arg8 harg8 arg9 harg9 arg12 harg12 arg13 harg13 arg17 arg18 x0 x1 x2 x6 x7 x10 x11 = stList (srcA c arg2 harg2 arg3 harg3 arg4 harg4 arg8 harg8 arg9 harg9 arg10 harg10 arg11 harg11 arg12 harg12 arg13 harg13 arg17 x0 x1 x2 x6 x7 x8 x9 x10 x11) (readsA c arg2 harg2 arg3 harg3 arg4 harg4 arg8 harg8 arg9 harg9 arg12 harg12 arg13 harg13 arg17 arg18 x0 x1 x2 x6 x7 x10 x11) kernelRun0_A.sl.HS1_1 4 := by
  refine st_cons _ _ _ _ 3 0 3 rfl rfl rfl rfl rfl ?_
  refine st_cons _ _ _ _ 2 0 2 rfl rfl rfl rfl rfl ?_
  refine st_cons _ _ _ _ 1 0 1 rfl rfl rfl rfl rfl ?_
  refine st_cons _ _ _ _ 0 0 0 rfl rfl rfl rfl rfl ?_
  rfl

set_option maxHeartbeats 4000000 in
/-- The stores of the first 2 pairs. -/
theorem st_A8 : kernelRun0_A.sl.HS1_9 (F := Ideal) c arg2 harg2 arg3 harg3 arg4 harg4 arg8 harg8 arg9 harg9 arg12 harg12 arg13 harg13 arg17 arg18 x0 x1 x2 x6 x7 x10 x11 = stList (srcA c arg2 harg2 arg3 harg3 arg4 harg4 arg8 harg8 arg9 harg9 arg10 harg10 arg11 harg11 arg12 harg12 arg13 harg13 arg17 x0 x1 x2 x6 x7 x8 x9 x10 x11) (readsA c arg2 harg2 arg3 harg3 arg4 harg4 arg8 harg8 arg9 harg9 arg12 harg12 arg13 harg13 arg17 arg18 x0 x1 x2 x6 x7 x10 x11) kernelRun0_A.sl.HS1_1 8 := by
  refine st_cons _ _ _ _ 7 1 3 rfl rfl rfl rfl rfl ?_
  refine st_cons _ _ _ _ 6 1 2 rfl rfl rfl rfl rfl ?_
  refine st_cons _ _ _ _ 5 1 1 rfl rfl rfl rfl rfl ?_
  refine st_cons _ _ _ _ 4 1 0 rfl rfl rfl rfl rfl ?_
  exact st_A4 c arg2 harg2 arg3 harg3 arg4 harg4 arg8 harg8 arg9 harg9 arg10 harg10 arg11 harg11 arg12 harg12 arg13 harg13 arg17 arg18 x0 x1 x2 x6 x7 x8 x9 x10 x11

set_option maxHeartbeats 4000000 in
/-- The stores of the first 3 pairs. -/
theorem st_A12 : kernelRun0_A.sl.HS1_13 (F := Ideal) c arg2 harg2 arg3 harg3 arg4 harg4 arg8 harg8 arg9 harg9 arg12 harg12 arg13 harg13 arg17 arg18 x0 x1 x2 x6 x7 x10 x11 = stList (srcA c arg2 harg2 arg3 harg3 arg4 harg4 arg8 harg8 arg9 harg9 arg10 harg10 arg11 harg11 arg12 harg12 arg13 harg13 arg17 x0 x1 x2 x6 x7 x8 x9 x10 x11) (readsA c arg2 harg2 arg3 harg3 arg4 harg4 arg8 harg8 arg9 harg9 arg12 harg12 arg13 harg13 arg17 arg18 x0 x1 x2 x6 x7 x10 x11) kernelRun0_A.sl.HS1_1 12 := by
  refine st_cons _ _ _ _ 11 2 3 rfl rfl rfl rfl rfl ?_
  refine st_cons _ _ _ _ 10 2 2 rfl rfl rfl rfl rfl ?_
  refine st_cons _ _ _ _ 9 2 1 rfl rfl rfl rfl rfl ?_
  refine st_cons _ _ _ _ 8 2 0 rfl rfl rfl rfl rfl ?_
  exact st_A8 c arg2 harg2 arg3 harg3 arg4 harg4 arg8 harg8 arg9 harg9 arg10 harg10 arg11 harg11 arg12 harg12 arg13 harg13 arg17 arg18 x0 x1 x2 x6 x7 x8 x9 x10 x11

set_option maxHeartbeats 4000000 in
/-- The run's stores of the state are the sixteen steps. -/
theorem st_A : (⟨Rect.unit (s := S4x128x128) ![3, 0, 0] S1x128x128.size inb_S4x128x128_S1x128x128_3_0_0,
    k0_pay199 (F := Ideal) (kernelRun0_A.sl.v1525 c arg2 harg2 arg3 harg3 arg4 harg4 arg8 harg8 arg9 harg9 arg17 x0 x1 x2 x6 x7) (kernelRun0_A.sl.r_118 c arg2 harg2 arg3 harg3 arg4 harg4 arg8 harg8 arg9 harg9 arg17 x0 x1 x2 x6 x7) (kernelRun0_A.sl.r_119 c arg2 harg2 arg3 harg3 arg4 harg4 arg8 harg8 arg9 harg9 arg12 harg12 arg13 harg13 arg17 arg18 x0 x1 x2 x6 x7 x10 x11)
      (tB arg12 harg12 x10 3) (tB arg13 harg13 x11 3)⟩ : View.Piece (Elt Ideal) S4x128x128 .f32) :: kernelRun0_A.sl.HS1_16 c arg2 harg2 arg3 harg3 arg4 harg4 arg8 harg8 arg9 harg9 arg12 harg12 arg13 harg13 arg17 arg18 x0 x1 x2 x6 x7 x10 x11
    = stList (srcA c arg2 harg2 arg3 harg3 arg4 harg4 arg8 harg8 arg9 harg9 arg10 harg10 arg11 harg11 arg12 harg12 arg13 harg13 arg17 x0 x1 x2 x6 x7 x8 x9 x10 x11) (readsA c arg2 harg2 arg3 harg3 arg4 harg4 arg8 harg8 arg9 harg9 arg12 harg12 arg13 harg13 arg17 arg18 x0 x1 x2 x6 x7 x10 x11) kernelRun0_A.sl.HS1_1 16 := by
  refine st_cons _ _ _ _ 15 3 3 rfl rfl rfl rfl rfl ?_
  refine st_cons _ _ _ _ 14 3 2 rfl rfl rfl rfl rfl ?_
  refine st_cons _ _ _ _ 13 3 1 rfl rfl rfl rfl rfl ?_
  refine st_cons _ _ _ _ 12 3 0 rfl rfl rfl rfl rfl ?_
  exact st_A12 c arg2 harg2 arg3 harg3 arg4 harg4 arg8 harg8 arg9 harg9 arg10 harg10 arg11 harg11 arg12 harg12 arg13 harg13 arg17 arg18 x0 x1 x2 x6 x7 x8 x9 x10 x11

set_option maxHeartbeats 4000000 in
/-- The run's stores of the retention's rows are the heads' chunks. -/
theorem ret_A : kernelRun0_A.sl.HS3_32 (F := Ideal) c arg2 harg2 arg3 harg3 arg4 harg4 arg8 harg8 arg9 harg9 arg10 harg10 arg11 harg11 arg12 harg12 arg13 harg13 arg17 arg18 x0 x1 x2 x6 x7 x8 x9 x10 x11 = retList (srcA c arg2 harg2 arg3 harg3 arg4 harg4 arg8 harg8 arg9 harg9 arg10 harg10 arg11 harg11 arg12 harg12 arg13 harg13 arg17 x0 x1 x2 x6 x7 x8 x9 x10 x11) (readsA c arg2 harg2 arg3 harg3 arg4 harg4 arg8 harg8 arg9 harg9 arg12 harg12 arg13 harg13 arg17 arg18 x0 x1 x2 x6 x7 x10 x11) 32 := by
  refine ret_cons _ _ _ 31 3 3 1 rfl rfl rfl rfl rfl rfl rfl ?_
  refine ret_cons _ _ _ 30 3 3 0 rfl rfl rfl rfl rfl rfl rfl ?_
  refine ret_cons _ _ _ 29 3 2 1 rfl rfl rfl rfl rfl rfl rfl ?_
  refine ret_cons _ _ _ 28 3 2 0 rfl rfl rfl rfl rfl rfl rfl ?_
  refine ret_cons _ _ _ 27 3 1 1 rfl rfl rfl rfl rfl rfl rfl ?_
  refine ret_cons _ _ _ 26 3 1 0 rfl rfl rfl rfl rfl rfl rfl ?_
  refine ret_cons _ _ _ 25 3 0 1 rfl rfl rfl rfl rfl rfl rfl ?_
  refine ret_cons _ _ _ 24 3 0 0 rfl rfl rfl rfl rfl rfl rfl ?_
  refine ret_cons _ _ _ 23 2 3 1 rfl rfl rfl rfl rfl rfl rfl ?_
  refine ret_cons _ _ _ 22 2 3 0 rfl rfl rfl rfl rfl rfl rfl ?_
  refine ret_cons _ _ _ 21 2 2 1 rfl rfl rfl rfl rfl rfl rfl ?_
  refine ret_cons _ _ _ 20 2 2 0 rfl rfl rfl rfl rfl rfl rfl ?_
  refine ret_cons _ _ _ 19 2 1 1 rfl rfl rfl rfl rfl rfl rfl ?_
  refine ret_cons _ _ _ 18 2 1 0 rfl rfl rfl rfl rfl rfl rfl ?_
  refine ret_cons _ _ _ 17 2 0 1 rfl rfl rfl rfl rfl rfl rfl ?_
  refine ret_cons _ _ _ 16 2 0 0 rfl rfl rfl rfl rfl rfl rfl ?_
  refine ret_cons _ _ _ 15 1 3 1 rfl rfl rfl rfl rfl rfl rfl ?_
  refine ret_cons _ _ _ 14 1 3 0 rfl rfl rfl rfl rfl rfl rfl ?_
  refine ret_cons _ _ _ 13 1 2 1 rfl rfl rfl rfl rfl rfl rfl ?_
  refine ret_cons _ _ _ 12 1 2 0 rfl rfl rfl rfl rfl rfl rfl ?_
  refine ret_cons _ _ _ 11 1 1 1 rfl rfl rfl rfl rfl rfl rfl ?_
  refine ret_cons _ _ _ 10 1 1 0 rfl rfl rfl rfl rfl rfl rfl ?_
  refine ret_cons _ _ _ 9 1 0 1 rfl rfl rfl rfl rfl rfl rfl ?_
  refine ret_cons _ _ _ 8 1 0 0 rfl rfl rfl rfl rfl rfl rfl ?_
  refine ret_cons _ _ _ 7 0 3 1 rfl rfl rfl rfl rfl rfl rfl ?_
  refine ret_cons _ _ _ 6 0 3 0 rfl rfl rfl rfl rfl rfl rfl ?_
  refine ret_cons _ _ _ 5 0 2 1 rfl rfl rfl rfl rfl rfl rfl ?_
  refine ret_cons _ _ _ 4 0 2 0 rfl rfl rfl rfl rfl rfl rfl ?_
  refine ret_cons _ _ _ 3 0 1 1 rfl rfl rfl rfl rfl rfl rfl ?_
  refine ret_cons _ _ _ 2 0 1 0 rfl rfl rfl rfl rfl rfl rfl ?_
  refine ret_cons _ _ _ 1 0 0 1 rfl rfl rfl rfl rfl rfl rfl ?_
  refine ret_cons _ _ _ 0 0 0 0 rfl rfl rfl rfl rfl rfl rfl ?_
  rfl

end Cert.KernelIdeal.Mix
end
-- ==== Proof.MixerRunC.lean ====
module

public import proofs.«01_k».proof.Proof.MixerState

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

variable (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
  (arg8 : Memref sig .tc .vmem S512x128 .f32) (harg8 : arg8.IsWhole) (arg9 : Memref sig .tc .vmem S512x128 .f32) (harg9 : arg9.IsWhole)
  (arg10 : MD) (harg10 : arg10.IsWhole) (arg11 : MT) (harg11 : arg11.IsWhole) (arg12 : MT) (harg12 : arg12.IsWhole) (arg13 : MT) (harg13 : arg13.IsWhole)
  (arg17 : MZ) (arg18 : MT) (harg18 : arg18.IsWhole)
  (x0 : Vec Ideal S1x512x1024 .f32) (x1 : Vec Ideal S1x1024 .f32) (x2 : Vec Ideal S1024x5632 .bf16) (x6 x7 : Vec Ideal S512x128 .f32) (x8 : V8) (x9 x10 x11 xs1 : V4)

/-- What the retention reads in the last chunk block of a sequence (the run's own names), and in the first. -/
def srcC : Src := ⟨arg17, kernelRun0_C.sl.HS0_14 c arg2 harg2 arg3 harg3 arg4 harg4 arg8 harg8 arg9 harg9 arg17 x0 x1 x2 x6 x7, arg10, harg10, x8, arg11, harg11, x9, arg12, harg12, x10, arg13, harg13, x11⟩
/-- The states the run reads back, pair by chunk. -/
def readsC : Fin 4 → Fin 4 → V3 := ![![tB arg18 harg18 xs1 0,
    kernelRun0_C.sl.v282 c arg2 harg2 arg3 harg3 arg4 harg4 arg8 harg8 arg9 harg9 arg12 harg12 arg13 harg13 arg17 arg18 harg18 x0 x1 x2 x6 x7 x10 x11 xs1,
    kernelRun0_C.sl.v371 c arg2 harg2 arg3 harg3 arg4 harg4 arg8 harg8 arg9 harg9 arg12 harg12 arg13 harg13 arg17 arg18 harg18 x0 x1 x2 x6 x7 x10 x11 xs1,
    kernelRun0_C.sl.v460 c arg2 harg2 arg3 harg3 arg4 harg4 arg8 harg8 arg9 harg9 arg12 harg12 arg13 harg13 arg17 arg18 harg18 x0 x1 x2 x6 x7 x10 x11 xs1],
  ![kernelRun0_C.sl.v549 c arg18 harg18 xs1,
    kernelRun0_C.sl.v638 c arg2 harg2 arg3 harg3 arg4 harg4 arg8 harg8 arg9 harg9 arg12 harg12 arg13 harg13 arg17 arg18 harg18 x0 x1 x2 x6 x7 x10 x11 xs1,
    kernelRun0_C.sl.v727 c arg2 harg2 arg3 harg3 arg4 harg4 arg8 harg8 arg9 harg9 arg12 harg12 arg13 harg13 arg17 arg18 harg18 x0 x1 x2 x6 x7 x10 x11 xs1,
    kernelRun0_C.sl.v816 c arg2 harg2 arg3 harg3 arg4 harg4 arg8 harg8 arg9 harg9 arg12 harg12 arg13 harg13 arg17 arg18 harg18 x0 x1 x2 x6 x7 x10 x11 xs1],
  ![kernelRun0_C.sl.v905 c arg18 harg18 xs1,
    kernelRun0_C.sl.v994 c arg2 harg2 arg3 harg3 arg4 harg4 arg8 harg8 arg9 harg9 arg12 harg12 arg13 harg13 arg17 arg18 harg18 x0 x1 x2 x6 x7 x10 x11 xs1,
    kernelRun0_C.sl.v1083 c arg2 harg2 arg3 harg3 arg4 harg4 arg8 harg8 arg9 harg9 arg12 harg12 arg13 harg13 arg17 arg18 harg18 x0 x1 x2 x6 x7 x10 x11 xs1,
    kernelRun0_C.sl.v1172 c arg2 harg2 arg3 harg3 arg4 harg4 arg8 harg8 arg9 harg9 arg12 harg12 arg13 harg13 arg17 arg18 harg18 x0 x1 x2 x6 x7 x10 x11 xs1],
  ![kernelRun0_C.sl.v1261 c arg18 harg18 xs1,
    kernelRun0_C.sl.v1350 c arg2 harg2 arg3 harg3 arg4 harg4 arg8 harg8 arg9 harg9 arg12 harg12 arg13 harg13 arg17 arg18 harg18 x0 x1 x2 x6 x7 x10 x11 xs1,
    kernelRun0_C.sl.v1439 c arg2 harg2 arg3 harg3 arg4 harg4 arg8 harg8 arg9 harg9 arg12 harg12 arg13 harg13 arg17 arg18 harg18 x0 x1 x2 x6 x7 x10 x11 xs1,
    kernelRun0_C.sl.v1528 c arg2 harg2 arg3 harg3 arg4 harg4 arg8 harg8 arg9 harg9 arg12 harg12 arg13 harg13 arg17 arg18 harg18 x0 x1 x2 x6 x7 x10 x11 xs1]]

set_option maxHeartbeats 4000000 in
/-- The run's stores of the state are the sixteen steps. -/
theorem st_C : kernelRun0_C.sl.HS1_16 (F := Ideal) c arg2 harg2 arg3 harg3 arg4 harg4 arg8 harg8 arg9 harg9 arg12 harg12 arg13 harg13 arg17 arg18 harg18 x0 x1 x2 x6 x7 x10 x11 xs1 = stList (srcC c arg2 harg2 arg3 harg3 arg4 harg4 arg8 harg8 arg9 harg9 arg10 harg10 arg11 harg11 arg12 harg12 arg13 harg13 arg17 x0 x1 x2 x6 x7 x8 x9 x10 x11) (readsC c arg2 harg2 arg3 harg3 arg4 harg4 arg8 harg8 arg9 harg9 arg12 harg12 arg13 harg13 arg17 arg18 harg18 x0 x1 x2 x6 x7 x10 x11 xs1) [] 16 := by
  refine st_cons _ _ _ _ 15 3 3 rfl rfl rfl rfl rfl ?_
  refine st_cons _ _ _ _ 14 3 2 rfl rfl rfl rfl rfl ?_
  refine st_cons _ _ _ _ 13 3 1 rfl rfl rfl rfl rfl ?_
  refine st_cons _ _ _ _ 12 3 0 rfl rfl rfl rfl rfl ?_
  refine st_cons _ _ _ _ 11 2 3 rfl rfl rfl rfl rfl ?_
  refine st_cons _ _ _ _ 10 2 2 rfl rfl rfl rfl rfl ?_
  refine st_cons _ _ _ _ 9 2 1 rfl rfl rfl rfl rfl ?_
  refine st_cons _ _ _ _ 8 2 0 rfl rfl rfl rfl rfl ?_
  refine st_cons _ _ _ _ 7 1 3 rfl rfl rfl rfl rfl ?_
  refine st_cons _ _ _ _ 6 1 2 rfl rfl rfl rfl rfl ?_
  refine st_cons _ _ _ _ 5 1 1 rfl rfl rfl rfl rfl ?_
  refine st_cons _ _ _ _ 4 1 0 rfl rfl rfl rfl rfl ?_
  refine st_cons _ _ _ _ 3 0 3 rfl rfl rfl rfl rfl ?_
  refine st_cons _ _ _ _ 2 0 2 rfl rfl rfl rfl rfl ?_
  refine st_cons _ _ _ _ 1 0 1 rfl rfl rfl rfl rfl ?_
  refine st_cons _ _ _ _ 0 0 0 rfl rfl rfl rfl rfl ?_
  rfl

set_option maxHeartbeats 4000000 in
/-- The run's stores of the retention's rows are the heads' chunks. -/
theorem ret_C : kernelRun0_C.sl.HS3_32 (F := Ideal) c arg2 harg2 arg3 harg3 arg4 harg4 arg8 harg8 arg9 harg9 arg10 harg10 arg11 harg11 arg12 harg12 arg13 harg13 arg17 arg18 harg18 x0 x1 x2 x6 x7 x8 x9 x10 x11 xs1 = retList (srcC c arg2 harg2 arg3 harg3 arg4 harg4 arg8 harg8 arg9 harg9 arg10 harg10 arg11 harg11 arg12 harg12 arg13 harg13 arg17 x0 x1 x2 x6 x7 x8 x9 x10 x11) (readsC c arg2 harg2 arg3 harg3 arg4 harg4 arg8 harg8 arg9 harg9 arg12 harg12 arg13 harg13 arg17 arg18 harg18 x0 x1 x2 x6 x7 x10 x11 xs1) 32 := by
  refine ret_cons _ _ _ 31 3 3 1 rfl rfl rfl rfl rfl rfl rfl ?_
  refine ret_cons _ _ _ 30 3 3 0 rfl rfl rfl rfl rfl rfl rfl ?_
  refine ret_cons _ _ _ 29 3 2 1 rfl rfl rfl rfl rfl rfl rfl ?_
  refine ret_cons _ _ _ 28 3 2 0 rfl rfl rfl rfl rfl rfl rfl ?_
  refine ret_cons _ _ _ 27 3 1 1 rfl rfl rfl rfl rfl rfl rfl ?_
  refine ret_cons _ _ _ 26 3 1 0 rfl rfl rfl rfl rfl rfl rfl ?_
  refine ret_cons _ _ _ 25 3 0 1 rfl rfl rfl rfl rfl rfl rfl ?_
  refine ret_cons _ _ _ 24 3 0 0 rfl rfl rfl rfl rfl rfl rfl ?_
  refine ret_cons _ _ _ 23 2 3 1 rfl rfl rfl rfl rfl rfl rfl ?_
  refine ret_cons _ _ _ 22 2 3 0 rfl rfl rfl rfl rfl rfl rfl ?_
  refine ret_cons _ _ _ 21 2 2 1 rfl rfl rfl rfl rfl rfl rfl ?_
  refine ret_cons _ _ _ 20 2 2 0 rfl rfl rfl rfl rfl rfl rfl ?_
  refine ret_cons _ _ _ 19 2 1 1 rfl rfl rfl rfl rfl rfl rfl ?_
  refine ret_cons _ _ _ 18 2 1 0 rfl rfl rfl rfl rfl rfl rfl ?_
  refine ret_cons _ _ _ 17 2 0 1 rfl rfl rfl rfl rfl rfl rfl ?_
  refine ret_cons _ _ _ 16 2 0 0 rfl rfl rfl rfl rfl rfl rfl ?_
  refine ret_cons _ _ _ 15 1 3 1 rfl rfl rfl rfl rfl rfl rfl ?_
  refine ret_cons _ _ _ 14 1 3 0 rfl rfl rfl rfl rfl rfl rfl ?_
  refine ret_cons _ _ _ 13 1 2 1 rfl rfl rfl rfl rfl rfl rfl ?_
  refine ret_cons _ _ _ 12 1 2 0 rfl rfl rfl rfl rfl rfl rfl ?_
  refine ret_cons _ _ _ 11 1 1 1 rfl rfl rfl rfl rfl rfl rfl ?_
  refine ret_cons _ _ _ 10 1 1 0 rfl rfl rfl rfl rfl rfl rfl ?_
  refine ret_cons _ _ _ 9 1 0 1 rfl rfl rfl rfl rfl rfl rfl ?_
  refine ret_cons _ _ _ 8 1 0 0 rfl rfl rfl rfl rfl rfl rfl ?_
  refine ret_cons _ _ _ 7 0 3 1 rfl rfl rfl rfl rfl rfl rfl ?_
  refine ret_cons _ _ _ 6 0 3 0 rfl rfl rfl rfl rfl rfl rfl ?_
  refine ret_cons _ _ _ 5 0 2 1 rfl rfl rfl rfl rfl rfl rfl ?_
  refine ret_cons _ _ _ 4 0 2 0 rfl rfl rfl rfl rfl rfl rfl ?_
  refine ret_cons _ _ _ 3 0 1 1 rfl rfl rfl rfl rfl rfl rfl ?_
  refine ret_cons _ _ _ 2 0 1 0 rfl rfl rfl rfl rfl rfl rfl ?_
  refine ret_cons _ _ _ 1 0 0 1 rfl rfl rfl rfl rfl rfl rfl ?_
  refine ret_cons _ _ _ 0 0 0 0 rfl rfl rfl rfl rfl rfl rfl ?_
  rfl

end Cert.KernelIdeal.Mix
end
-- ==== Proof.MixerChain.lean ====
module

public import proofs.«01_k».proof.Proof.MixerStep
public import proofs.«01_k».proof.Proof.MixerRunA
public import proofs.«01_k».proof.Proof.MixerRunC

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

variable (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
  (arg8 : Memref sig .tc .vmem S512x128 .f32) (harg8 : arg8.IsWhole) (arg9 : Memref sig .tc .vmem S512x128 .f32) (harg9 : arg9.IsWhole)
  (arg10 : MD) (harg10 : arg10.IsWhole) (arg11 : MT) (harg11 : arg11.IsWhole) (arg12 : MT) (harg12 : arg12.IsWhole) (arg13 : MT) (harg13 : arg13.IsWhole)
  (arg17 : MZ) (arg18 : MT) (harg18 : arg18.IsWhole)
  (x0 : Vec Ideal S1x512x1024 .f32) (x1 : Vec Ideal S1x1024 .f32) (x2 : Vec Ideal S1024x5632 .bf16) (x6 x7 : Vec Ideal S512x128 .f32) (x8 : V8) (x9 x10 x11 xs1 : V4)

/-- A block of the state read back just after it was stored. -/
theorem read_back (arg18 : MT) (p : Fin 4) (W : V3) (L : PS) :
    arg18.view.readCov ((⟨Rect.unit (s := S4x128x128) ![p.val, 0, 0] S1x128x128.size (inbT p), W⟩ : View.Piece (Elt Ideal) S4x128x128 .f32) :: L)
      (Rect.unit (s := S4x128x128) ![p.val, 0, 0] S1x128x128.size (inbT p)).toLoadRect = W :=
  View.readCov_cons_toLoadRect ..

/-- A block of the state read back. -/
theorem read_s (arg18 : MT) (p : Fin 4) (L : PS) (r l : Fin 128) :
    arg18.view.readCov L (Rect.unit (s := S4x128x128) ![p.val, 0, 0] S1x128x128.size (inbT p)).toLoadRect (ix3 (0 : Fin 1) r l) = View.canon L (ix3 p r l) := by
  rw [Mixer.readCov_ld]
  exact View.ld_unit_apply_of (View.canon L) _ _ (inbT p) (ix3 (0 : Fin 1) r l) (ix3 p r l) (fun a => by match a with | ⟨0, _⟩ => simp [ix3] | ⟨1, _⟩ => simp [ix3] | ⟨2, _⟩ => simp [ix3])

set_option maxHeartbeats 4000000 in
/-- Each chunk after a pair's first reads what the chunk before it stored. -/
theorem chain_C (p : Fin 4) (n : Fin 3) : readsC c arg2 harg2 arg3 harg3 arg4 harg4 arg8 harg8 arg9 harg9 arg12 harg12 arg13 harg13 arg17 arg18 harg18 x0 x1 x2 x6 x7 x10 x11 xs1 p n.succ = stPay (srcC c arg2 harg2 arg3 harg3 arg4 harg4 arg8 harg8 arg9 harg9 arg10 harg10 arg11 harg11 arg12 harg12 arg13 harg13 arg17 x0 x1 x2 x6 x7 x8 x9 x10 x11) p n.castSucc (readsC c arg2 harg2 arg3 harg3 arg4 harg4 arg8 harg8 arg9 harg9 arg12 harg12 arg13 harg13 arg17 arg18 harg18 x0 x1 x2 x6 x7 x10 x11 xs1 p n.castSucc) := by
  match p, n with
  | ⟨0, _⟩, ⟨0, _⟩ => exact read_back arg18 0 _ _
  | ⟨0, _⟩, ⟨1, _⟩ => exact read_back arg18 0 _ _
  | ⟨0, _⟩, ⟨2, _⟩ => exact read_back arg18 0 _ _
  | ⟨1, _⟩, ⟨0, _⟩ => exact read_back arg18 1 _ _
  | ⟨1, _⟩, ⟨1, _⟩ => exact read_back arg18 1 _ _
  | ⟨1, _⟩, ⟨2, _⟩ => exact read_back arg18 1 _ _
  | ⟨2, _⟩, ⟨0, _⟩ => exact read_back arg18 2 _ _
  | ⟨2, _⟩, ⟨1, _⟩ => exact read_back arg18 2 _ _
  | ⟨2, _⟩, ⟨2, _⟩ => exact read_back arg18 2 _ _
  | ⟨3, _⟩, ⟨0, _⟩ => exact read_back arg18 3 _ _
  | ⟨3, _⟩, ⟨1, _⟩ => exact read_back arg18 3 _ _
  | ⟨3, _⟩, ⟨2, _⟩ => exact read_back arg18 3 _ _

set_option maxHeartbeats 4000000 in
/-- Each chunk after a pair's first reads what the chunk before it stored. -/
theorem chain_A (p : Fin 4) (n : Fin 3) : readsA c arg2 harg2 arg3 harg3 arg4 harg4 arg8 harg8 arg9 harg9 arg12 harg12 arg13 harg13 arg17 arg18 x0 x1 x2 x6 x7 x10 x11 p n.succ = stPay (srcA c arg2 harg2 arg3 harg3 arg4 harg4 arg8 harg8 arg9 harg9 arg10 harg10 arg11 harg11 arg12 harg12 arg13 harg13 arg17 x0 x1 x2 x6 x7 x8 x9 x10 x11) p n.castSucc (readsA c arg2 harg2 arg3 harg3 arg4 harg4 arg8 harg8 arg9 harg9 arg12 harg12 arg13 harg13 arg17 arg18 x0 x1 x2 x6 x7 x10 x11 p n.castSucc) := by
  match p, n with
  | ⟨0, _⟩, ⟨0, _⟩ => exact read_back arg18 0 _ _
  | ⟨0, _⟩, ⟨1, _⟩ => exact read_back arg18 0 _ _
  | ⟨0, _⟩, ⟨2, _⟩ => exact read_back arg18 0 _ _
  | ⟨1, _⟩, ⟨0, _⟩ => exact read_back arg18 1 _ _
  | ⟨1, _⟩, ⟨1, _⟩ => exact read_back arg18 1 _ _
  | ⟨1, _⟩, ⟨2, _⟩ => exact read_back arg18 1 _ _
  | ⟨2, _⟩, ⟨0, _⟩ => exact read_back arg18 2 _ _
  | ⟨2, _⟩, ⟨1, _⟩ => exact read_back arg18 2 _ _
  | ⟨2, _⟩, ⟨2, _⟩ => exact read_back arg18 2 _ _
  | ⟨3, _⟩, ⟨0, _⟩ => exact read_back arg18 3 _ _
  | ⟨3, _⟩, ⟨1, _⟩ => exact read_back arg18 3 _ _
  | ⟨3, _⟩, ⟨2, _⟩ => exact read_back arg18 3 _ _

include arg10 harg10 arg11 harg11 x8 x9 in
/-- The last block's first reads are the incoming state. -/
theorem first_C (p : Fin 4) (r l : Fin 128) : readsC c arg2 harg2 arg3 harg3 arg4 harg4 arg8 harg8 arg9 harg9 arg12 harg12 arg13 harg13 arg17 arg18 harg18 x0 x1 x2 x6 x7 x10 x11 xs1 p 0 (ix3 (0 : Fin 1) r l) = xs1 (ix3 p r l) := by
  match p with
  | ⟨0, _⟩ => exact tB_at arg18 harg18 xs1 0 r l
  | ⟨1, _⟩ => exact tB_at arg18 harg18 xs1 1 r l
  | ⟨2, _⟩ => exact tB_at arg18 harg18 xs1 2 r l
  | ⟨3, _⟩ => exact tB_at arg18 harg18 xs1 3 r l

/-- The sequence starts from a zero state. -/
theorem zero_A (p : Fin 4) (r l : Fin 128) : View.canon (kernelRun0_A.sl.HS1_1 (F := Ideal)) (ix3 p r l) = 0 := by
  have he : ix3 p r l = (Rect.unit (s := S4x128x128) ![0, 0, 0] S4x128x128.size inb_S4x128x128_S4x128x128_0_0_0).emb (ix3 p r l) := by
    funext x; apply Fin.ext
    match x with
    | ⟨0, _⟩ => simp [Rect.emb, Rect.unit, ix3, LoadRect.idx]
    | ⟨1, _⟩ => simp [Rect.emb, Rect.unit, ix3, LoadRect.idx]
    | ⟨2, _⟩ => simp [Rect.emb, Rect.unit, ix3, LoadRect.idx]
  rw [kernelRun0_A.sl.HS1_1, he, View.canon_cons_emb]
  pointwise [k0_pay4]

include arg10 harg10 arg11 harg11 x8 x9 in
/-- The first block's first reads are zero. -/
theorem first_A (p : Fin 4) (r l : Fin 128) : readsA c arg2 harg2 arg3 harg3 arg4 harg4 arg8 harg8 arg9 harg9 arg12 harg12 arg13 harg13 arg17 arg18 x0 x1 x2 x6 x7 x10 x11 p 0 (ix3 (0 : Fin 1) r l) = 0 := by
  match p with
  | ⟨0, _⟩ => exact (read_s arg18 0 _ r l).trans (zero_A 0 r l)
  | ⟨1, _⟩ => exact (read_s arg18 1 _ r l).trans ((congrArg (fun L => View.canon L (ix3 (1 : Fin 4) r l)) (st_A4 c arg2 harg2 arg3 harg3 arg4 harg4 arg8 harg8 arg9 harg9 arg10 harg10 arg11 harg11 arg12 harg12 arg13 harg13 arg17 arg18 x0 x1 x2 x6 x7 x8 x9 x10 x11)).trans ((canon_stList _ _ _ 4 (by decide) 1 r l).trans ((if_neg (by decide)).trans (zero_A 1 r l))))
  | ⟨2, _⟩ => exact (read_s arg18 2 _ r l).trans ((congrArg (fun L => View.canon L (ix3 (2 : Fin 4) r l)) (st_A8 c arg2 harg2 arg3 harg3 arg4 harg4 arg8 harg8 arg9 harg9 arg10 harg10 arg11 harg11 arg12 harg12 arg13 harg13 arg17 arg18 x0 x1 x2 x6 x7 x8 x9 x10 x11)).trans ((canon_stList _ _ _ 8 (by decide) 2 r l).trans ((if_neg (by decide)).trans (zero_A 2 r l))))
  | ⟨3, _⟩ => exact (read_s arg18 3 _ r l).trans ((congrArg (fun L => View.canon L (ix3 (3 : Fin 4) r l)) (st_A12 c arg2 harg2 arg3 harg3 arg4 harg4 arg8 harg8 arg9 harg9 arg10 harg10 arg11 harg11 arg12 harg12 arg13 harg13 arg17 arg18 x0 x1 x2 x6 x7 x8 x9 x10 x11)).trans ((canon_stList _ _ _ 12 (by decide) 3 r l).trans ((if_neg (by decide)).trans (zero_A 3 r l))))

include arg10 harg10 arg11 harg11 x8 x9 in
/-- The state after the last block. -/
theorem stv_C (p : Fin 4) (r l : Fin 128) : View.canon (kernelRun0_C.sl.HS1_16 (F := Ideal) c arg2 harg2 arg3 harg3 arg4 harg4 arg8 harg8 arg9 harg9 arg12 harg12 arg13 harg13 arg17 arg18 harg18 x0 x1 x2 x6 x7 x10 x11 xs1) (ix3 p r l)
    = stv (zarr x0 x1 x2 x6 x7) x10 x11 (fun p r l => xs1 (ix3 p r l)) p 4 r l := by
  rw [st_C c arg2 harg2 arg3 harg3 arg4 harg4 arg8 harg8 arg9 harg9 arg10 harg10 arg11 harg11 arg12 harg12 arg13 harg13 arg17 arg18 harg18 x0 x1 x2 x6 x7 x8 x9 x10 x11 xs1]
  exact (st_val _ _ _ _ (first_C c arg2 harg2 arg3 harg3 arg4 harg4 arg8 harg8 arg9 harg9 arg10 harg10 arg11 harg11 arg12 harg12 arg13 harg13 arg17 arg18 harg18 x0 x1 x2 x6 x7 x8 x9 x10 x11 xs1) (chain_C c arg2 harg2 arg3 harg3 arg4 harg4 arg8 harg8 arg9 harg9 arg10 harg10 arg11 harg11 arg12 harg12 arg13 harg13 arg17 arg18 harg18 x0 x1 x2 x6 x7 x8 x9 x10 x11 xs1) p r l).trans (by
    rw [← z14_C c arg2 harg2 arg3 harg3 arg4 harg4 arg8 harg8 arg9 harg9 arg17 x0 x1 x2 x6 x7]; rfl)

/-- The gated retention of the last block. -/
theorem retv_C (r : Fin 512) (q : Fin 1024) : View.canon (kernelRun0_C.sl.HS3_32 (F := Ideal) c arg2 harg2 arg3 harg3 arg4 harg4 arg8 harg8 arg9 harg9 arg10 harg10 arg11 harg11 arg12 harg12 arg13 harg13 arg17 arg18 harg18 x0 x1 x2 x6 x7 x8 x9 x10 x11 xs1) (ix2 r q)
    = retv (zarr x0 x1 x2 x6 x7) x9 x8 (stv (zarr x0 x1 x2 x6 x7) x10 x11 (fun p r l => xs1 (ix3 p r l))) r q := by
  rw [ret_C c arg2 harg2 arg3 harg3 arg4 harg4 arg8 harg8 arg9 harg9 arg10 harg10 arg11 harg11 arg12 harg12 arg13 harg13 arg17 arg18 harg18 x0 x1 x2 x6 x7 x8 x9 x10 x11 xs1]
  exact (ret_val _ _ _ (first_C c arg2 harg2 arg3 harg3 arg4 harg4 arg8 harg8 arg9 harg9 arg10 harg10 arg11 harg11 arg12 harg12 arg13 harg13 arg17 arg18 harg18 x0 x1 x2 x6 x7 x8 x9 x10 x11 xs1) (chain_C c arg2 harg2 arg3 harg3 arg4 harg4 arg8 harg8 arg9 harg9 arg10 harg10 arg11 harg11 arg12 harg12 arg13 harg13 arg17 arg18 harg18 x0 x1 x2 x6 x7 x8 x9 x10 x11 xs1) r q).trans (by
    rw [← z14_C c arg2 harg2 arg3 harg3 arg4 harg4 arg8 harg8 arg9 harg9 arg17 x0 x1 x2 x6 x7]; rfl)

include arg10 harg10 arg11 harg11 x8 x9 in
/-- The state after the first block. -/
theorem stv_A (p : Fin 4) (r l : Fin 128) : View.canon ((⟨Rect.unit (s := S4x128x128) ![3, 0, 0] S1x128x128.size inb_S4x128x128_S1x128x128_3_0_0,
    k0_pay199 (F := Ideal) (kernelRun0_A.sl.v1525 c arg2 harg2 arg3 harg3 arg4 harg4 arg8 harg8 arg9 harg9 arg17 x0 x1 x2 x6 x7) (kernelRun0_A.sl.r_118 c arg2 harg2 arg3 harg3 arg4 harg4 arg8 harg8 arg9 harg9 arg17 x0 x1 x2 x6 x7) (kernelRun0_A.sl.r_119 c arg2 harg2 arg3 harg3 arg4 harg4 arg8 harg8 arg9 harg9 arg12 harg12 arg13 harg13 arg17 arg18 x0 x1 x2 x6 x7 x10 x11)
      (tB arg12 harg12 x10 3) (tB arg13 harg13 x11 3)⟩ : View.Piece (Elt Ideal) S4x128x128 .f32) :: kernelRun0_A.sl.HS1_16 c arg2 harg2 arg3 harg3 arg4 harg4 arg8 harg8 arg9 harg9 arg12 harg12 arg13 harg13 arg17 arg18 x0 x1 x2 x6 x7 x10 x11) (ix3 p r l)
    = stv (zarr x0 x1 x2 x6 x7) x10 x11 (fun _ _ _ => 0) p 4 r l := by
  rw [st_A c arg2 harg2 arg3 harg3 arg4 harg4 arg8 harg8 arg9 harg9 arg10 harg10 arg11 harg11 arg12 harg12 arg13 harg13 arg17 arg18 x0 x1 x2 x6 x7 x8 x9 x10 x11]
  exact (st_val _ _ _ _ (first_A c arg2 harg2 arg3 harg3 arg4 harg4 arg8 harg8 arg9 harg9 arg10 harg10 arg11 harg11 arg12 harg12 arg13 harg13 arg17 arg18 x0 x1 x2 x6 x7 x8 x9 x10 x11) (chain_A c arg2 harg2 arg3 harg3 arg4 harg4 arg8 harg8 arg9 harg9 arg10 harg10 arg11 harg11 arg12 harg12 arg13 harg13 arg17 arg18 x0 x1 x2 x6 x7 x8 x9 x10 x11) p r l).trans (by
    rw [← z14_A c arg2 harg2 arg3 harg3 arg4 harg4 arg8 harg8 arg9 harg9 arg17 x0 x1 x2 x6 x7]; rfl)

/-- The gated retention of the first block. -/
theorem retv_A (r : Fin 512) (q : Fin 1024) : View.canon (kernelRun0_A.sl.HS3_32 (F := Ideal) c arg2 harg2 arg3 harg3 arg4 harg4 arg8 harg8 arg9 harg9 arg10 harg10 arg11 harg11 arg12 harg12 arg13 harg13 arg17 arg18 x0 x1 x2 x6 x7 x8 x9 x10 x11) (ix2 r q)
    = retv (zarr x0 x1 x2 x6 x7) x9 x8 (stv (zarr x0 x1 x2 x6 x7) x10 x11 (fun _ _ _ => 0)) r q := by
  rw [ret_A c arg2 harg2 arg3 harg3 arg4 harg4 arg8 harg8 arg9 harg9 arg10 harg10 arg11 harg11 arg12 harg12 arg13 harg13 arg17 arg18 x0 x1 x2 x6 x7 x8 x9 x10 x11]
  exact (ret_val _ _ _ (first_A c arg2 harg2 arg3 harg3 arg4 harg4 arg8 harg8 arg9 harg9 arg10 harg10 arg11 harg11 arg12 harg12 arg13 harg13 arg17 arg18 x0 x1 x2 x6 x7 x8 x9 x10 x11) (chain_A c arg2 harg2 arg3 harg3 arg4 harg4 arg8 harg8 arg9 harg9 arg10 harg10 arg11 harg11 arg12 harg12 arg13 harg13 arg17 arg18 x0 x1 x2 x6 x7 x8 x9 x10 x11) r q).trans (by
    rw [← z14_A c arg2 harg2 arg3 harg3 arg4 harg4 arg8 harg8 arg9 harg9 arg17 x0 x1 x2 x6 x7]; rfl)

end Cert.KernelIdeal.Mix
end
-- ==== Proof.MixerPool.lean ====
module

public import proofs.«01_k».proof.Proof.MixerState

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

/-- The pooling scratch. -/
abbrev ME := Memref sig .tc .vmem S528x512 .f32
/-- Contents of the pooling scratch. -/
abbrev VE := Vec Ideal S528x512 .f32
/-- A window of one group of channels. -/
abbrev VW := Vec Ideal S512x128 .f32

/-- The inputs with the sixteen rows before them. -/
def uext (E : VE) (u : Vec Ideal S512x512 .f32) : VE := fun y =>
  if h : (y 0).val < 16 then E y else u (ix2 (⟨(y 0).val - 16, by have := (y 0).isLt; change (y 0).val < 528 at this; omega⟩ : Fin 512) (y 1))

/-- One column group's trailing sum, newest row first. -/
def wacc (X : VE) (r : Fin 512) (k : Fin 512) : ℕ → EReal
  | 0 => X (ix2 (⟨16 + r.val, by omega⟩ : Fin 528) k)
  | j + 1 => wacc X r k j + X (ix2 (⟨16 + r.val - (j + 1), by omega⟩ : Fin 528) k)

/-- A window lies inside the pooling scratch. -/
theorem inbE (a b : ℕ) (ha : a ≤ 16) (hb : b ≤ 384) :
    ∀ x, (![a, b] : Fin 2 → ℕ) x + S512x128.size x ≤ S528x512.size x := by
  intro x; match x with | ⟨0, _⟩ => show a + 512 ≤ 528; omega | ⟨1, _⟩ => show b + 128 ≤ 512; omega

/-- The rows `j` earlier, one column group. -/
def win (X : VE) (g : Fin 4) (j : ℕ) : VW := View.ld X (Rect.unit (s := S528x512) ![16 - j, 128 * g.val] S512x128.size (inbE _ _ (by omega) (by omega)))

/-- An entry of a shifted window of one group. -/
theorem win_at (X : VE) (g : Fin 4) (j : ℕ) (r : Fin 512) (k : Fin 128) (hj : j ≤ 16) :
    win X g j (ix2 r k) = X (ix2 (⟨16 + r.val - j, by omega⟩ : Fin 528) (⟨128 * g.val + k.val, by omega⟩ : Fin 512)) :=
  View.ld_unit_apply_of X _ _ (inbE _ _ (by omega) (by omega)) (ix2 r k) _ (fun a => by match a with | ⟨0, _⟩ => simp [ix2]; omega | ⟨1, _⟩ => simp [ix2])

/-- The number of rows a trailing mean divides by, as the kernel counts them. -/
def cntv (b : BitVec 32) (r : Fin 512) (w : BitVec 32) : EReal :=
  FloatOps.sitofp (F := Ideal) FTy.f32 (IntOp.minsi (IntOp.addi (IntOp.addi (Scalar.muli b 512#32) (BitVec.ofNat 32 r.val)) 1#32) w)

/-- One group's pooled output: trailing mean less the input, times the group's weights, scaled. -/
def poolg (X : VE) (b : BitVec 32) (x3 : Vec Ideal S4x128x256 .bf16) (x4 : Vec Ideal S1x1024 .f32) (g : Fin 4) (r : Fin 512) (q : Fin 256) : EReal :=
  (∑ k : Fin 128, (Ideal.div (wacc X r (⟨128 * g.val + k.val, by omega⟩ : Fin 512) (2 ^ (g.val + 1) - 1)) (cntv b r (BitVec.ofNat 32 (2 ^ (g.val + 1))))
      - X (ix2 (⟨16 + r.val, by omega⟩ : Fin 528) (⟨128 * g.val + k.val, by omega⟩ : Fin 512))) * x3 (ix3 g k q))
    * x4 (ix2 (0 : Fin 1) (⟨256 * g.val + q.val, by omega⟩ : Fin 1024))

/-- The pooling branch at a row and an output lane. -/
def poolv (X : VE) (b : BitVec 32) (x3 : Vec Ideal S4x128x256 .bf16) (x4 : Vec Ideal S1x1024 .f32) (r : Fin 512) (q : Fin 1024) : EReal :=
  poolg X b x3 x4 ⟨q.val / 256, by omega⟩ r ⟨q.val % 256, by omega⟩

variable (X : VE) (b : BitVec 32) (x3 : Vec Ideal S4x128x256 .bf16) (x4 : Vec Ideal S1x1024 .f32)

/-- The group with windows of 2 rows. -/
theorem pool_0 (c : Vec Ideal S1x128x256 .bf16) (d : Vec Ideal S1x256 .f32) (hc : ∀ (k : Fin 128) (q : Fin 256), c (ix3 (0 : Fin 1) k q) = x3 (ix3 (0 : Fin 4) k q))
    (hd : ∀ q : Fin 256, d (ix2 (0 : Fin 1) q) = x4 (ix2 (0 : Fin 1) (⟨256 * (0 : Fin 4).val + q.val, by show 256 * 0 + q.val < 1024; omega⟩ : Fin 1024))) (r : Fin 512) (q : Fin 256) :
    k0_pay202 (F := Ideal) (k0_pay201 b) (win X 0 0) (win X 0 1) c d (ix2 r q)
      = poolg X b x3 x4 0 r q := by
  pointwise [k0_pay201, k0_pay202, k0_pay203, k0_pay204, k0_pay205, k0_pay206, k0_pay207, k0_pay208]
  rw [hd q, poolg]
  refine Ideal.mul_congr (Finset.sum_congr rfl fun k _ => ?_) rfl
  rw [hc k q]
  simp (discharger := decide) only [win_at]
  rfl

/-- The group with windows of 4 rows. -/
theorem pool_1 (c : Vec Ideal S1x128x256 .bf16) (d : Vec Ideal S1x256 .f32) (hc : ∀ (k : Fin 128) (q : Fin 256), c (ix3 (0 : Fin 1) k q) = x3 (ix3 (1 : Fin 4) k q))
    (hd : ∀ q : Fin 256, d (ix2 (0 : Fin 1) q) = x4 (ix2 (0 : Fin 1) (⟨256 * (1 : Fin 4).val + q.val, by show 256 * 1 + q.val < 1024; omega⟩ : Fin 1024))) (r : Fin 512) (q : Fin 256) :
    k0_pay204 (F := Ideal) (k0_pay203 (k0_pay201 b) (win X 1 0) (win X 1 1) (win X 1 2) (win X 1 3)) c d (ix2 r q)
      = poolg X b x3 x4 1 r q := by
  pointwise [k0_pay201, k0_pay202, k0_pay203, k0_pay204, k0_pay205, k0_pay206, k0_pay207, k0_pay208]
  rw [hd q, poolg]
  refine Ideal.mul_congr (Finset.sum_congr rfl fun k _ => ?_) rfl
  rw [hc k q]
  simp (discharger := decide) only [win_at]
  rfl

/-- The group with windows of 8 rows. -/
theorem pool_2 (c : Vec Ideal S1x128x256 .bf16) (d : Vec Ideal S1x256 .f32) (hc : ∀ (k : Fin 128) (q : Fin 256), c (ix3 (0 : Fin 1) k q) = x3 (ix3 (2 : Fin 4) k q))
    (hd : ∀ q : Fin 256, d (ix2 (0 : Fin 1) q) = x4 (ix2 (0 : Fin 1) (⟨256 * (2 : Fin 4).val + q.val, by show 256 * 2 + q.val < 1024; omega⟩ : Fin 1024))) (r : Fin 512) (q : Fin 256) :
    k0_pay206 (F := Ideal) (k0_pay205 (k0_pay201 b) (win X 2 0) (win X 2 1) (win X 2 2) (win X 2 3) (win X 2 4) (win X 2 5) (win X 2 6) (win X 2 7)) c d (ix2 r q)
      = poolg X b x3 x4 2 r q := by
  pointwise [k0_pay201, k0_pay202, k0_pay203, k0_pay204, k0_pay205, k0_pay206, k0_pay207, k0_pay208]
  rw [hd q, poolg]
  refine Ideal.mul_congr (Finset.sum_congr rfl fun k _ => ?_) rfl
  rw [hc k q]
  simp (discharger := decide) only [win_at]
  rfl

/-- The group with windows of 16 rows. -/
theorem pool_3 (c : Vec Ideal S1x128x256 .bf16) (d : Vec Ideal S1x256 .f32) (hc : ∀ (k : Fin 128) (q : Fin 256), c (ix3 (0 : Fin 1) k q) = x3 (ix3 (3 : Fin 4) k q))
    (hd : ∀ q : Fin 256, d (ix2 (0 : Fin 1) q) = x4 (ix2 (0 : Fin 1) (⟨256 * (3 : Fin 4).val + q.val, by show 256 * 3 + q.val < 1024; omega⟩ : Fin 1024))) (r : Fin 512) (q : Fin 256) :
    k0_pay208 (F := Ideal) (k0_pay201 b) (win X 3 0) (k0_pay207 (win X 3 0) (win X 3 1) (win X 3 2) (win X 3 3) (win X 3 4) (win X 3 5) (win X 3 6) (win X 3 7) (win X 3 8) (win X 3 9)) (win X 3 10) (win X 3 11) (win X 3 12) (win X 3 13) (win X 3 14) (win X 3 15) c d (ix2 r q)
      = poolg X b x3 x4 3 r q := by
  pointwise [k0_pay201, k0_pay202, k0_pay203, k0_pay204, k0_pay205, k0_pay206, k0_pay207, k0_pay208]
  rw [hd q, poolg]
  refine Ideal.mul_congr (Finset.sum_congr rfl fun k _ => ?_) rfl
  rw [hc k q]
  simp (discharger := decide) only [win_at]
  rfl

end Cert.KernelIdeal.Mix
end
-- ==== Proof.MixerRunP.lean ====
module

public import proofs.«01_k».proof.Proof.MixerPool
public import proofs.«01_k».proof.Proof.MixerZ
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

/-- Writes to the pooling scratch. -/
abbrev PE := List (View.Piece (Elt Ideal) S528x512 .f32)

/-- The inputs' store into the extended rows. -/
def pieceU (u : Vec Ideal S512x512 .f32) : View.Piece (Elt Ideal) S528x512 .f32 :=
  ⟨Rect.unit (s := S528x512) ![16, 0] S512x512.size inb_S528x512_S512x512_16_0, u⟩

/-- The new pooling columns, read back under later writes. -/
theorem canon_u (u : Vec Ideal S512x512 .f32) (L : PE) (r : Fin 528) (q : Fin 512) :
    View.canon (pieceU u :: L) (ix2 r q) = if h : 16 ≤ r.val then u (ix2 (⟨r.val - 16, by omega⟩ : Fin 512) q) else View.canon L (ix2 r q) := by
  refine (Mixer.canon_rect 16 0 inb_S528x512_S512x512_16_0 u L r q).trans ?_
  by_cases h : 16 ≤ r.val
  · rw [dif_pos h, dif_pos ⟨⟨h, by omega⟩, by omega, by omega⟩]
    rfl
  · rw [dif_neg h, dif_neg (fun hh => h hh.1.1)]

/-- A window wholly inside the newly stored rows. -/
theorem read_cov16 (arg19 : ME) (E : VE) (u : Vec Ideal S512x512 .f32) (g : Fin 4) :
    arg19.view.readCov [pieceU u] (Rect.unit (s := S528x512) ![16 - 0, 128 * g.val] S512x128.size (inbE _ _ (by omega) (by omega))).toLoadRect = win (uext E u) g 0 := by
  suffices hs : ∀ (r : Fin 512) (k : Fin 128), arg19.view.readCov [pieceU u] (Rect.unit (s := S528x512) ![16 - 0, 128 * g.val] S512x128.size (inbE _ _ (by omega) (by omega))).toLoadRect (ix2 r k) = win (uext E u) g 0 (ix2 r k) from
    funext fun j => by rw [eq_ix2 j]; exact hs _ _
  intro r k
  rw [Mixer.readCov_ld]
  refine Eq.trans (b := View.canon [pieceU u] (ix2 (⟨16 + r.val - 0, by omega⟩ : Fin 528) (⟨128 * g.val + k.val, by omega⟩ : Fin 512))) ?_ (Eq.trans ?_ (win_at (uext E u) g 0 r k (by decide)).symm)
  · exact View.ld_unit_apply_of (View.canon [pieceU u]) _ _ (inbE (16 - 0) (128 * g.val) (by omega) (by omega)) (ix2 r k) _ (fun a => by match a with | ⟨0, _⟩ => simp [ix2] | ⟨1, _⟩ => simp [ix2])
  · rw [canon_u, dif_pos (by dsimp only; omega), uext, dif_neg (by simp [ix2])]
    rfl

/-- A window over the stored rows and the older rows under them. -/
theorem read_over (arg19 : ME) (h : arg19.IsWhole) (E : VE) (u : Vec Ideal S512x512 .f32) (R : Rect S528x512) :
    View.readAt (Elt Ideal) arg19.view R.toLoadRect (arg19.view.writes (Elt Ideal) (h.unread E) [pieceU u]) = View.ld (uext E u) R := by
  funext j
  rw [View.readAt_apply]
  show arg19.view.read (Elt Ideal) _ (R.emb j) = uext E u (R.emb j)
  generalize R.emb j = y
  by_cases hy : (y 0).val < 16
  · rw [uext, dif_pos hy, pieceU, View.read_writes_cons_unit_of_not_mem _ _ _ _ _ _ rfl 0 (Or.inl hy), View.writes_nil, h.read_unread]
  · rw [uext, dif_neg hy, pieceU]
    refine View.read_writes_cons_unit_of_mem arg19.view _ _ _ _ _ _ rfl (fun a => ?_)
    match a with
    | ⟨0, _⟩ => simp [ix2]; omega
    | ⟨1, _⟩ => simp [ix2]

/-- The same over a zero tail. -/
theorem read_zero (arg19 : ME) (u : Vec Ideal S512x512 .f32) (R : Rect S528x512) :
    arg19.view.readCov [pieceU u, ⟨Rect.unit (s := S528x512) ![0, 0] S16x512.size inb_S528x512_S16x512_0_0, k0_pay5 (F := Ideal)⟩] R.toLoadRect
      = View.ld (uext (fun _ => 0) u) R := by
  rw [Mixer.readCov_ld]
  congr 1
  funext y
  rw [eq_ix2 y]
  generalize y 0 = r
  generalize y 1 = q
  have hr : r.val < 528 := r.isLt
  refine (canon_u u _ r q).trans ?_
  by_cases h : 16 ≤ r.val
  · rw [dif_pos h, uext, dif_neg (by simpa [ix2] using h)]
    rfl
  · rw [dif_neg h, uext, dif_pos (by simpa [ix2] using h)]
    refine (Mixer.canon_rect 0 0 inb_S528x512_S16x512_0_0 _ [] r q).trans ?_
    rw [dif_pos ⟨⟨by omega, by omega⟩, by omega, by have : q.val < 512 := q.isLt; omega⟩]
    pointwise [k0_pay5]

/-- The pooled rows, four column blocks. -/
theorem canon_pool (P0 P1 P2 P3 : Vec Ideal S512x256 .f32) (G : Fin 4 → Fin 512 → Fin 256 → EReal) (h0 : ∀ r q, P0 (ix2 r q) = G 0 r q)
    (h1 : ∀ r q, P1 (ix2 r q) = G 1 r q) (h2 : ∀ r q, P2 (ix2 r q) = G 2 r q) (h3 : ∀ r q, P3 (ix2 r q) = G 3 r q) (r : Fin 512) (q : Fin 1024) :
    View.canon ([⟨Rect.unit (s := S512x1024) ![0, 768] S512x256.size inb_S512x1024_S512x256_0_768, P3⟩,
      ⟨Rect.unit (s := S512x1024) ![0, 512] S512x256.size inb_S512x1024_S512x256_0_512, P2⟩,
      ⟨Rect.unit (s := S512x1024) ![0, 256] S512x256.size inb_S512x1024_S512x256_0_256, P1⟩,
      ⟨Rect.unit (s := S512x1024) ![0, 0] S512x256.size inb_S512x1024_S512x256_0_0, P0⟩] : List (View.Piece (Elt Ideal) S512x1024 .f32)) (ix2 r q)
    = G ⟨q.val / 256, by omega⟩ r ⟨q.val % 256, by omega⟩ := by
  have step : ∀ (g : Fin 4) (a : ℕ) (ha : a = 256 * g.val) (inb : ∀ x, (![0, a] : Fin 2 → ℕ) x + S512x256.size x ≤ S512x1024.size x) (P : Vec Ideal S512x256 .f32)
      (L : List (View.Piece (Elt Ideal) S512x1024 .f32)) (hP : ∀ r q, P (ix2 r q) = G g r q) (X : EReal) (hX : q.val < a → View.canon L (ix2 r q) = X)
      (hXX : a ≤ q.val → q.val < a + 256 → G ⟨q.val / 256, by omega⟩ r ⟨q.val % 256, by omega⟩ = X) (hlt : q.val < a + 256),
      View.canon ((⟨Rect.unit (s := S512x1024) ![0, a] S512x256.size inb, P⟩ : View.Piece (Elt Ideal) S512x1024 .f32) :: L) (ix2 r q) = X := by
    intro g a ha inb P L hP X hX hXX hlt
    refine (Mixer.canon_rect 0 a inb P L r q).trans ?_
    by_cases h : a ≤ q.val
    · rw [dif_pos ⟨⟨by omega, by omega⟩, h, hlt⟩, ← hXX h hlt]
      refine (hP _ _).trans ?_
      have e1 : (⟨q.val / 256, by omega⟩ : Fin 4) = g := Fin.ext (by dsimp only; omega)
      have e2 : (⟨q.val - a, by omega⟩ : Fin 256) = ⟨q.val % 256, by omega⟩ := Fin.ext (by dsimp only; omega)
      rw [e1, e2]
      rfl
    · rw [dif_neg (fun hh => h hh.2.1)]
      exact hX (by omega)
  refine step 3 768 rfl _ _ _ h3 _ (fun _ => ?_) (fun _ _ => rfl) (by omega)
  refine step 2 512 rfl _ _ _ h2 _ (fun _ => ?_) (fun _ _ => rfl) (by omega)
  refine step 1 256 rfl _ _ _ h1 _ (fun _ => ?_) (fun _ _ => rfl) (by omega)
  exact step 0 0 rfl _ _ _ h0 _ (fun hq => absurd hq (by omega)) (fun _ _ => rfl) (by omega)

/-- A group's weights and scales as loaded. -/
theorem ld_p3 (arg5 : Memref sig .tc .vmem S4x128x256 .bf16) (harg5 : arg5.IsWhole) (x3 : Vec Ideal S4x128x256 .bf16) (g : Fin 4)
    (inb : ∀ x, (![g.val, 0, 0] : Fin 3 → ℕ) x + S1x128x256.size x ≤ S4x128x256.size x) (k : Fin 128) (q : Fin 256) :
    View.readAt (Elt Ideal) arg5.view (Rect.unit (s := S4x128x256) ![g.val, 0, 0] S1x128x256.size inb).toLoadRect (harg5.unread x3) (ix3 (0 : Fin 1) k q) = x3 (ix3 g k q) := by
  rw [Mixer.readAt_ld]
  exact View.ld_unit_apply_of x3 _ _ inb (ix3 (0 : Fin 1) k q) _ (fun a => by match a with | ⟨0, _⟩ => simp [ix3] | ⟨1, _⟩ => simp [ix3] | ⟨2, _⟩ => simp [ix3])

/-- The loaded scale of the pooling branch. -/
theorem ld_p4 (arg6 : Memref sig .tc .vmem S1x1024 .f32) (harg6 : arg6.IsWhole) (x4 : Vec Ideal S1x1024 .f32) (b : ℕ)
    (inb : ∀ x, (![0, b] : Fin 2 → ℕ) x + S1x256.size x ≤ S1x1024.size x) (q : Fin 256) (q' : Fin 1024) (hq : q'.val = b + q.val) :
    View.readAt (Elt Ideal) arg6.view (Rect.unit (s := S1x1024) ![0, b] S1x256.size inb).toLoadRect (harg6.unread x4) (ix2 (0 : Fin 1) q) = x4 (ix2 (0 : Fin 1) q') := by
  rw [Mixer.readAt_ld]
  exact View.ld_unit_apply_of x4 _ _ inb (ix2 (0 : Fin 1) q) _ (fun a => by match a with | ⟨0, _⟩ => simp [ix2] | ⟨1, _⟩ => simpa [ix2] using hq)

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole)
  (arg5 : Memref sig .tc .vmem S4x128x256 .bf16) (harg5 : arg5.IsWhole) (arg6 : Memref sig .tc .vmem S1x1024 .f32) (harg6 : arg6.IsWhole)
  (arg8 : Memref sig .tc .vmem S512x128 .f32) (harg8 : arg8.IsWhole) (arg9 : Memref sig .tc .vmem S512x128 .f32) (harg9 : arg9.IsWhole)
  (arg17 : MZ) (arg19 : ME) (harg19 : arg19.IsWhole)
  (x0 : Vec Ideal S1x512x1024 .f32) (x1 : Vec Ideal S1x1024 .f32) (x2 : Vec Ideal S1024x5632 .bf16) (x3 : Vec Ideal S4x128x256 .bf16) (x4 : Vec Ideal S1x1024 .f32) (x6 x7 : Vec Ideal S512x128 .f32) (xs2 : VE)

set_option maxHeartbeats 2000000 in
/-- The pooled rows of a block after the first. -/
theorem poolv_C (r : Fin 512) (q : Fin 1024) : View.canon (kernelRun0_C.sl.HS4_4 (F := Ideal) c i arg2 harg2 arg3 harg3 arg4 harg4 arg5 harg5 arg6 harg6 arg8 harg8 arg9 harg9 arg17 arg19 harg19 x0 x1 x2 x3 x4 x6 x7 xs2) (ix2 r q)
    = poolv (uext xs2 (k0_pay200 (F := Ideal) (kernelRun0_C.sl.v1613 c arg2 harg2 arg3 harg3 arg4 harg4 arg8 harg8 arg9 harg9 arg17 x0 x1 x2 x6 x7))) (BitVec.ofNat 32 (i 1).val) x3 x4 r q := by
  have h1621 : kernelRun0_C.sl.v1621 (F := Ideal) c arg2 harg2 arg3 harg3 arg4 harg4 arg8 harg8 arg9 harg9 arg17 arg19 x0 x1 x2 x6 x7 = win (uext xs2 (k0_pay200 (F := Ideal) (kernelRun0_C.sl.v1613 c arg2 harg2 arg3 harg3 arg4 harg4 arg8 harg8 arg9 harg9 arg17 x0 x1 x2 x6 x7))) 0 0 := read_cov16 arg19 xs2 _ 0
  have h1622 : kernelRun0_C.sl.v1622 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 0 1 := read_over arg19 harg19 xs2 _ _
  have h1643 : kernelRun0_C.sl.v1643 (F := Ideal) c arg2 harg2 arg3 harg3 arg4 harg4 arg8 harg8 arg9 harg9 arg17 arg19 x0 x1 x2 x6 x7 = win (uext xs2 (k0_pay200 (F := Ideal) (kernelRun0_C.sl.v1613 c arg2 harg2 arg3 harg3 arg4 harg4 arg8 harg8 arg9 harg9 arg17 x0 x1 x2 x6 x7))) 1 0 := read_cov16 arg19 xs2 _ 1
  have h1644 : kernelRun0_C.sl.v1644 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 1 1 := read_over arg19 harg19 xs2 _ _
  have h1646 : kernelRun0_C.sl.v1646 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 1 2 := read_over arg19 harg19 xs2 _ _
  have h1648 : kernelRun0_C.sl.v1648 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 1 3 := read_over arg19 harg19 xs2 _ _
  have h1669 : kernelRun0_C.sl.v1669 (F := Ideal) c arg2 harg2 arg3 harg3 arg4 harg4 arg8 harg8 arg9 harg9 arg17 arg19 x0 x1 x2 x6 x7 = win (uext xs2 (k0_pay200 (F := Ideal) (kernelRun0_C.sl.v1613 c arg2 harg2 arg3 harg3 arg4 harg4 arg8 harg8 arg9 harg9 arg17 x0 x1 x2 x6 x7))) 2 0 := read_cov16 arg19 xs2 _ 2
  have h1670 : kernelRun0_C.sl.v1670 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 2 1 := read_over arg19 harg19 xs2 _ _
  have h1672 : kernelRun0_C.sl.v1672 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 2 2 := read_over arg19 harg19 xs2 _ _
  have h1674 : kernelRun0_C.sl.v1674 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 2 3 := read_over arg19 harg19 xs2 _ _
  have h1676 : kernelRun0_C.sl.v1676 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 2 4 := read_over arg19 harg19 xs2 _ _
  have h1678 : kernelRun0_C.sl.v1678 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 2 5 := read_over arg19 harg19 xs2 _ _
  have h1680 : kernelRun0_C.sl.v1680 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 2 6 := read_over arg19 harg19 xs2 _ _
  have h1682 : kernelRun0_C.sl.v1682 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 2 7 := read_over arg19 harg19 xs2 _ _
  have h1703 : kernelRun0_C.sl.v1703 (F := Ideal) c arg2 harg2 arg3 harg3 arg4 harg4 arg8 harg8 arg9 harg9 arg17 arg19 x0 x1 x2 x6 x7 = win (uext xs2 (k0_pay200 (F := Ideal) (kernelRun0_C.sl.v1613 c arg2 harg2 arg3 harg3 arg4 harg4 arg8 harg8 arg9 harg9 arg17 x0 x1 x2 x6 x7))) 3 0 := read_cov16 arg19 xs2 _ 3
  have h1704 : kernelRun0_C.sl.v1704 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 1 := read_over arg19 harg19 xs2 _ _
  have h1706 : kernelRun0_C.sl.v1706 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 2 := read_over arg19 harg19 xs2 _ _
  have h1708 : kernelRun0_C.sl.v1708 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 3 := read_over arg19 harg19 xs2 _ _
  have h1710 : kernelRun0_C.sl.v1710 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 4 := read_over arg19 harg19 xs2 _ _
  have h1712 : kernelRun0_C.sl.v1712 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 5 := read_over arg19 harg19 xs2 _ _
  have h1714 : kernelRun0_C.sl.v1714 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 6 := read_over arg19 harg19 xs2 _ _
  have h1716 : kernelRun0_C.sl.v1716 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 7 := read_over arg19 harg19 xs2 _ _
  have h1718 : kernelRun0_C.sl.v1718 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 8 := read_over arg19 harg19 xs2 _ _
  have h1720 : kernelRun0_C.sl.v1720 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 9 := read_over arg19 harg19 xs2 _ _
  have h1722 : kernelRun0_C.sl.v1722 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 10 := read_over arg19 harg19 xs2 _ _
  have h1724 : kernelRun0_C.sl.v1724 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 11 := read_over arg19 harg19 xs2 _ _
  have h1726 : kernelRun0_C.sl.v1726 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 12 := read_over arg19 harg19 xs2 _ _
  have h1728 : kernelRun0_C.sl.v1728 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 13 := read_over arg19 harg19 xs2 _ _
  have h1730 : kernelRun0_C.sl.v1730 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 14 := read_over arg19 harg19 xs2 _ _
  have h1732 : kernelRun0_C.sl.v1732 (F := Ideal) c arg2 harg2 arg3 harg3 arg4 harg4 arg8 harg8 arg9 harg9 arg17 arg19 harg19 x0 x1 x2 x6 x7 xs2 = win (uext xs2 (k0_pay200 (F := Ideal) (kernelRun0_C.sl.v1613 c arg2 harg2 arg3 harg3 arg4 harg4 arg8 harg8 arg9 harg9 arg17 x0 x1 x2 x6 x7))) 3 15 := read_over arg19 harg19 xs2 _ _
  simp only [kernelRun0_C.sl.HS4_4, kernelRun0_C.sl.r_126, kernelRun0_C.sl.r_127, kernelRun0_C.sl.r_128, kernelRun0_C.sl.r_129, h1621, h1622, h1643, h1644, h1646, h1648, h1669, h1670, h1672, h1674, h1676, h1678, h1680, h1682, h1703, h1704, h1706, h1708, h1710, h1712, h1714, h1716, h1718, h1720, h1722, h1724, h1726, h1728, h1730, h1732]
  exact canon_pool _ _ _ _ (poolg (uext xs2 (k0_pay200 (F := Ideal) (kernelRun0_C.sl.v1613 c arg2 harg2 arg3 harg3 arg4 harg4 arg8 harg8 arg9 harg9 arg17 x0 x1 x2 x6 x7))) (BitVec.ofNat 32 (i 1).val) x3 x4)
    (pool_0 _ _ x3 x4 _ _ (ld_p3 arg5 harg5 x3 0 _) (fun q => ld_p4 arg6 harg6 x4 _ _ q _ rfl))
    (pool_1 _ _ x3 x4 _ _ (ld_p3 arg5 harg5 x3 1 _) (fun q => ld_p4 arg6 harg6 x4 _ _ q _ rfl))
    (pool_2 _ _ x3 x4 _ _ (ld_p3 arg5 harg5 x3 2 _) (fun q => ld_p4 arg6 harg6 x4 _ _ q _ rfl))
    (pool_3 _ _ x3 x4 _ _ (ld_p3 arg5 harg5 x3 3 _) (fun q => ld_p4 arg6 harg6 x4 _ _ q _ rfl))
    r q

set_option maxHeartbeats 2000000 in
/-- The pooled rows of a block, the first. -/
theorem poolv_A (r : Fin 512) (q : Fin 1024) : View.canon (kernelRun0_A.sl.HS4_4 (F := Ideal) c i arg2 harg2 arg3 harg3 arg4 harg4 arg5 harg5 arg6 harg6 arg8 harg8 arg9 harg9 arg17 arg19 x0 x1 x2 x3 x4 x6 x7) (ix2 r q)
    = poolv (uext (fun _ => 0) (k0_pay200 (F := Ideal) (kernelRun0_A.sl.v1613 c arg2 harg2 arg3 harg3 arg4 harg4 arg8 harg8 arg9 harg9 arg17 x0 x1 x2 x6 x7))) (BitVec.ofNat 32 (i 1).val) x3 x4 r q := by
  have h1621 : kernelRun0_A.sl.v1621 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 0 0 := read_zero arg19 _ _
  have h1622 : kernelRun0_A.sl.v1622 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 0 1 := read_zero arg19 _ _
  have h1643 : kernelRun0_A.sl.v1643 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 1 0 := read_zero arg19 _ _
  have h1644 : kernelRun0_A.sl.v1644 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 1 1 := read_zero arg19 _ _
  have h1646 : kernelRun0_A.sl.v1646 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 1 2 := read_zero arg19 _ _
  have h1648 : kernelRun0_A.sl.v1648 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 1 3 := read_zero arg19 _ _
  have h1669 : kernelRun0_A.sl.v1669 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 0 := read_zero arg19 _ _
  have h1670 : kernelRun0_A.sl.v1670 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 1 := read_zero arg19 _ _
  have h1672 : kernelRun0_A.sl.v1672 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 2 := read_zero arg19 _ _
  have h1674 : kernelRun0_A.sl.v1674 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 3 := read_zero arg19 _ _
  have h1676 : kernelRun0_A.sl.v1676 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 4 := read_zero arg19 _ _
  have h1678 : kernelRun0_A.sl.v1678 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 5 := read_zero arg19 _ _
  have h1680 : kernelRun0_A.sl.v1680 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 6 := read_zero arg19 _ _
  have h1682 : kernelRun0_A.sl.v1682 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 2 7 := read_zero arg19 _ _
  have h1703 : kernelRun0_A.sl.v1703 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 0 := read_zero arg19 _ _
  have h1704 : kernelRun0_A.sl.v1704 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 1 := read_zero arg19 _ _
  have h1706 : kernelRun0_A.sl.v1706 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 2 := read_zero arg19 _ _
  have h1708 : kernelRun0_A.sl.v1708 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 3 := read_zero arg19 _ _
  have h1710 : kernelRun0_A.sl.v1710 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 4 := read_zero arg19 _ _
  have h1712 : kernelRun0_A.sl.v1712 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 5 := read_zero arg19 _ _
  have h1714 : kernelRun0_A.sl.v1714 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 6 := read_zero arg19 _ _
  have h1716 : kernelRun0_A.sl.v1716 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 7 := read_zero arg19 _ _
  have h1718 : kernelRun0_A.sl.v1718 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 8 := read_zero arg19 _ _
  have h1720 : kernelRun0_A.sl.v1720 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 9 := read_zero arg19 _ _
  have h1722 : kernelRun0_A.sl.v1722 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 10 := read_zero arg19 _ _
  have h1724 : kernelRun0_A.sl.v1724 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 11 := read_zero arg19 _ _
  have h1726 : kernelRun0_A.sl.v1726 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 12 := read_zero arg19 _ _
  have h1728 : kernelRun0_A.sl.v1728 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 13 := read_zero arg19 _ _
  have h1730 : kernelRun0_A.sl.v1730 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 14 := read_zero arg19 _ _
  have h1732 : kernelRun0_A.sl.v1732 (F := Ideal) c arg2 harg2 arg3 harg3 arg4 harg4 arg8 harg8 arg9 harg9 arg17 arg19 x0 x1 x2 x6 x7 = win (uext (fun _ => 0) (k0_pay200 (F := Ideal) (kernelRun0_A.sl.v1613 c arg2 harg2 arg3 harg3 arg4 harg4 arg8 harg8 arg9 harg9 arg17 x0 x1 x2 x6 x7))) 3 15 := read_zero arg19 _ _
  simp only [kernelRun0_A.sl.HS4_4, kernelRun0_A.sl.r_126, kernelRun0_A.sl.r_127, kernelRun0_A.sl.r_128, kernelRun0_A.sl.r_129, h1621, h1622, h1643, h1644, h1646, h1648, h1669, h1670, h1672, h1674, h1676, h1678, h1680, h1682, h1703, h1704, h1706, h1708, h1710, h1712, h1714, h1716, h1718, h1720, h1722, h1724, h1726, h1728, h1730, h1732]
  exact canon_pool _ _ _ _ (poolg (uext (fun _ => 0) (k0_pay200 (F := Ideal) (kernelRun0_A.sl.v1613 c arg2 harg2 arg3 harg3 arg4 harg4 arg8 harg8 arg9 harg9 arg17 x0 x1 x2 x6 x7))) (BitVec.ofNat 32 (i 1).val) x3 x4)
    (pool_0 _ _ x3 x4 _ _ (ld_p3 arg5 harg5 x3 0 _) (fun q => ld_p4 arg6 harg6 x4 _ _ q _ rfl))
    (pool_1 _ _ x3 x4 _ _ (ld_p3 arg5 harg5 x3 1 _) (fun q => ld_p4 arg6 harg6 x4 _ _ q _ rfl))
    (pool_2 _ _ x3 x4 _ _ (ld_p3 arg5 harg5 x3 2 _) (fun q => ld_p4 arg6 harg6 x4 _ _ q _ rfl))
    (pool_3 _ _ x3 x4 _ _ (ld_p3 arg5 harg5 x3 3 _) (fun q => ld_p4 arg6 harg6 x4 _ _ q _ rfl))
    r q

end Cert.KernelIdeal.Mix
end
-- ==== Proof.MixerBody.lean ====
module

public import proofs.«01_k».proof.Proof.MixerChain
public import proofs.«01_k».proof.Proof.MixerRunP
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

/-- A block's pooling inputs among its projections. -/
def ublk (Z : VZ) : Vec Ideal S512x512 .f32 := fun y => Z (ix2 (y 0) (⟨3072 + (y 1).val, by have : (y 1).val < 512 := (y 1).isLt; omega⟩ : Fin 5632))

/-- A block's output rows: the input plus the gated branches through the output weights. -/
def mixrow (x0 : Vec Ideal S1x512x1024 .f32) (x5 : Vec Ideal S1024x1024 .bf16) (Z : VZ) (ret pool : Fin 512 → Fin 1024 → EReal) (r : Fin 512) (q : Fin 1024) : EReal :=
  x0 (ix3 (0 : Fin 1) r q) + ∑ k : Fin 1024, (Ideal.logistic (Z (ix2 r (⟨3584 + k.val, by omega⟩ : Fin 5632))) * ret r k
    + Ideal.logistic (Z (ix2 r (⟨4608 + k.val, by omega⟩ : Fin 5632))) * pool r k) * x5 (ix2 k q)

/-- An entry of the merged output: the row plus the gated branches through the output weights. -/
theorem pay1_at (v4 v1757 v1758 v1759 v1760 : Vec Ideal S512x1024 .f32) (w : Vec Ideal S1024x1024 .bf16) (r : Fin 512) (q : Fin 1024) :
    k0_pay1 (F := Ideal) v4 v1757 v1758 v1759 v1760 w (ix3 (0 : Fin 1) r q)
    = v4 (ix2 r q) + ∑ k : Fin 1024, (Ideal.logistic (v1759 (ix2 r k)) * v1757 (ix2 r k) + Ideal.logistic (v1760 (ix2 r k)) * v1758 (ix2 r k)) * w (ix2 k q) := by
  pointwise [k0_pay1]

/-- The input block read as a matrix of rows. -/
theorem pay6_at (v : Vec Ideal S1x512x1024 .f32) (r : Fin 512) (q : Fin 1024) : k0_pay6 (F := Ideal) v (ix2 r q) = v (ix3 (0 : Fin 1) r q) := by
  pointwise [k0_pay6]

/-- The pooling columns are stored as they are. -/
theorem pay200_eq (v : Vec Ideal S512x512 .f32) : k0_pay200 (F := Ideal) v = v := by
  funext y
  rw [eq_ix2 y]
  pointwise [k0_pay200]

/-- The pooling inputs as loaded from the projections' scratch. -/
theorem u_of (arg17 : MZ) (L0 : PZ) (Z : VZ) (hZ : View.canon L0 = Z) :
    k0_pay200 (F := Ideal) (arg17.view.readCov L0 (Rect.unit (s := S512x5632) ![0, 3072] S512x512.size inb_S512x5632_S512x512_0_3072).toLoadRect) = ublk Z := by
  rw [pay200_eq]
  suffices h : ∀ (r q : Fin 512), arg17.view.readCov L0 (Rect.unit (s := S512x5632) ![0, 3072] S512x512.size inb_S512x5632_S512x512_0_3072).toLoadRect (ix2 r q) = ublk Z (ix2 r q) from
    funext fun y => by rw [eq_ix2 y]; exact h _ _
  intro r q
  rw [← hZ]
  exact zB_at arg17 L0 0 3072 inb_S512x5632_S512x512_0_3072 r q r (⟨3072 + q.val, by omega⟩ : Fin 5632) (by omega) (by dsimp only)

/-- The output rows from what the block's scratch holds. -/
theorem y_of (arg2 : Memref sig .tc .vmem S1x512x1024 .f32) (harg2 : arg2.IsWhole) (arg7 : Memref sig .tc .vmem S1024x1024 .bf16) (harg7 : arg7.IsWhole) (arg17 : MZ) (arg20 arg21 : Memref sig .tc .vmem S512x1024 .f32)
    (x0 : Vec Ideal S1x512x1024 .f32) (x5 : Vec Ideal S1024x1024 .bf16) (L0 : PZ) (Lr Lp : PR) (Z : VZ) (ret pool : Fin 512 → Fin 1024 → EReal) (hZ : View.canon L0 = Z)
    (hr : ∀ r q, View.canon Lr (ix2 r q) = ret r q) (hp : ∀ r q, View.canon Lp (ix2 r q) = pool r q) (r : Fin 512) (q : Fin 1024) :
    View.canon ([⟨Rect.unit (s := S1x512x1024) ![0, 0, 0] ![1, 512, 1024] inb_S1x512x1024_S1x512x1024_0_0_0,
      k0_pay1 (F := Ideal) (k0_pay6 (View.readAt (Elt Ideal) arg2.view (Rect.unit (s := S1x512x1024) ![0, 0, 0] S1x512x1024.size inb_S1x512x1024_S1x512x1024_0_0_0).toLoadRect (harg2.unread x0)))
        (arg20.view.readCov Lr (Rect.unit (s := S512x1024) ![0, 0] S512x1024.size inb_S512x1024_S512x1024_0_0).toLoadRect)
        (arg21.view.readCov Lp (Rect.unit (s := S512x1024) ![0, 0] S512x1024.size inb_S512x1024_S512x1024_0_0).toLoadRect)
        (arg17.view.readCov L0 (Rect.unit (s := S512x5632) ![0, 3584] S512x1024.size inb_S512x5632_S512x1024_0_3584).toLoadRect)
        (arg17.view.readCov L0 (Rect.unit (s := S512x5632) ![0, 4608] S512x1024.size inb_S512x5632_S512x1024_0_4608).toLoadRect)
        (View.readAt (Elt Ideal) arg7.view (Rect.unit (s := S1024x1024) ![0, 0] ![1024, 1024] inb_S1024x1024_S1024x1024_0_0).toLoadRect (harg7.unread x5))⟩] : List (View.Piece (Elt Ideal) S1x512x1024 .f32)) (ix3 (0 : Fin 1) r q)
    = mixrow x0 x5 Z ret pool r q := by
  have he : ix3 (0 : Fin 1) r q = (Rect.unit (s := S1x512x1024) ![0, 0, 0] ![1, 512, 1024] inb_S1x512x1024_S1x512x1024_0_0_0).emb (ix3 (0 : Fin 1) r q) := by
    funext x; apply Fin.ext
    match x with
    | ⟨0, _⟩ => simp [Rect.emb, Rect.unit, ix3, LoadRect.idx]
    | ⟨1, _⟩ => simp [Rect.emb, Rect.unit, ix3, LoadRect.idx]
    | ⟨2, _⟩ => simp [Rect.emb, Rect.unit, ix3, LoadRect.idx]
  have h0 : View.readAt (Elt Ideal) arg2.view (Rect.unit (s := S1x512x1024) ![0, 0, 0] S1x512x1024.size inb_S1x512x1024_S1x512x1024_0_0_0).toLoadRect (harg2.unread x0) = x0 :=
    (Mixer.readAt_ld ..).trans (View.ld_unit_lit _ _ (by decide))
  have h7 : View.readAt (Elt Ideal) arg7.view (Rect.unit (s := S1024x1024) ![0, 0] ![1024, 1024] inb_S1024x1024_S1024x1024_0_0).toLoadRect (harg7.unread x5) = x5 :=
    (Mixer.readAt_ld ..).trans (View.ld_unit_lit _ _ (by decide))
  have h20 : ∀ (a : Memref sig .tc .vmem S512x1024 .f32) (L : PR), a.view.readCov L (Rect.unit (s := S512x1024) ![0, 0] S512x1024.size inb_S512x1024_S512x1024_0_0).toLoadRect = View.canon L :=
    fun a L => (Mixer.readCov_ld ..).trans (View.ld_unit_lit _ _ (by decide))
  refine (congrArg _ he).trans ((View.canon_cons_emb _ _ _ _).trans ?_)
  rw [h0, h7, h20, h20]
  refine (pay1_at ..).trans ?_
  rw [pay6_at, mixrow]
  refine Ideal.add_congr rfl (Finset.sum_congr rfl fun k _ => Ideal.mul_congr (Ideal.add_congr (Ideal.mul_congr ?_ (hr r k)) (Ideal.mul_congr ?_ (hp r k))) rfl)
  · rw [← hZ]
    exact congrArg _ (zB_at arg17 L0 0 3584 inb_S512x5632_S512x1024_0_3584 r k r (⟨3584 + k.val, by omega⟩ : Fin 5632) (by omega) (by dsimp only))
  · rw [← hZ]
    exact congrArg _ (zB_at arg17 L0 0 4608 inb_S512x5632_S512x1024_0_4608 r k r (⟨4608 + k.val, by omega⟩ : Fin 5632) (by omega) (by dsimp only))

/-- The last sixteen inputs, kept for the next block. -/
theorem tail_of (arg19 : ME) (u : Vec Ideal S512x512 .f32) (L : PE) (r : Fin 16) (q : Fin 512) :
    arg19.view.readCov (pieceU u :: L) (Rect.unit (s := S528x512) ![512, 0] S16x512.size inb_S528x512_S16x512_512_0).toLoadRect (ix2 r q)
    = u (ix2 (⟨496 + r.val, by omega⟩ : Fin 512) q) := by
  rw [Mixer.readCov_ld]
  refine (View.ld_unit_apply_of (View.canon (pieceU u :: L)) _ _ inb_S528x512_S16x512_512_0 (ix2 r q) (ix2 (⟨512 + r.val, by omega⟩ : Fin 528) q)
    (fun a => by match a with | ⟨0, _⟩ => simp [ix2] | ⟨1, _⟩ => simp [ix2])).trans ?_
  rw [canon_u, dif_pos (by dsimp only; omega)]
  congr 2
  apply Fin.ext
  dsimp only
  omega

/-- The first sixteen rows of the pooling scratch, under the new columns. -/
theorem e_of (arg19 : ME) (u : Vec Ideal S512x512 .f32) (L : PE) (r : Fin 528) (q : Fin 512) (hr : r.val < 16) :
    View.canon ((⟨Rect.unit (s := S528x512) ![0, 0] S16x512.size inb_S528x512_S16x512_0_0,
      k0_pay209 (F := Ideal) (arg19.view.readCov (pieceU u :: L) (Rect.unit (s := S528x512) ![512, 0] S16x512.size inb_S528x512_S16x512_512_0).toLoadRect)⟩ : View.Piece (Elt Ideal) S528x512 .f32) :: pieceU u :: L) (ix2 r q)
    = u (ix2 (⟨496 + r.val, by omega⟩ : Fin 512) q) := by
  refine (Mixer.canon_rect 0 0 inb_S528x512_S16x512_0_0 _ _ r q).trans ?_
  rw [dif_pos ⟨⟨by omega, by omega⟩, by omega, by have := q.isLt; omega⟩]
  have h := tail_of arg19 u L ⟨r.val, hr⟩ q
  generalize arg19.view.readCov (pieceU u :: L) _ = v at h ⊢
  refine Eq.trans ?_ h
  have hv : ∀ (a : Fin 16) (b : Fin 512), k0_pay209 (F := Ideal) v (ix2 a b) = v (ix2 a b) := fun a b => by pointwise [k0_pay209]
  exact hv ⟨r.val, hr⟩ q

/-- The new state as written out, head pairs flattened. -/
theorem sret_of (arg18 : MT) (L : PS) (st : Fin 4 → Fin 128 → Fin 128 → EReal) (hs : ∀ p r l, View.canon L (ix3 p r l) = st p r l) (a : Fin 512) (l : Fin 128) :
    View.canon ([⟨Rect.unit (s := S1x512x128) ![0, 0, 0] ![1, 512, 128] inb_S1x512x128_S1x512x128_0_0_0,
      k0_pay2 (F := Ideal) (arg18.view.readCov L (Rect.unit (s := S4x128x128) ![0, 0, 0] ![4, 128, 128] inb_S4x128x128_S4x128x128_0_0_0).toLoadRect)⟩] : List (View.Piece (Elt Ideal) S1x512x128 .f32)) (ix3 (0 : Fin 1) a l)
    = st ⟨a.val / 128, by omega⟩ ⟨a.val % 128, by omega⟩ l := by
  have he : ix3 (0 : Fin 1) a l = (Rect.unit (s := S1x512x128) ![0, 0, 0] ![1, 512, 128] inb_S1x512x128_S1x512x128_0_0_0).emb (ix3 (0 : Fin 1) a l) := by
    funext x; apply Fin.ext
    match x with
    | ⟨0, _⟩ => simp [Rect.emb, Rect.unit, ix3, LoadRect.idx]
    | ⟨1, _⟩ => simp [Rect.emb, Rect.unit, ix3, LoadRect.idx]
    | ⟨2, _⟩ => simp [Rect.emb, Rect.unit, ix3, LoadRect.idx]
  have h18 : arg18.view.readCov L (Rect.unit (s := S4x128x128) ![0, 0, 0] ![4, 128, 128] inb_S4x128x128_S4x128x128_0_0_0).toLoadRect = View.canon L :=
    (Mixer.readCov_ld ..).trans (View.ld_unit_lit _ _ (by decide))
  refine (congrArg _ he).trans ((View.canon_cons_emb _ _ _ _).trans ?_)
  rw [h18, ← hs]
  generalize View.canon L = X
  pointwise [k0_pay2]

/-- The new trailing inputs as written out. -/
theorem spool_of (arg19 : ME) (u : Vec Ideal S512x512 .f32) (L : PE) (j : Fin 15) (q : Fin 512) :
    View.canon ([⟨Rect.unit (s := S1x15x512) ![0, 0, 0] ![1, 15, 512] inb_S1x15x512_S1x15x512_0_0_0,
      k0_pay3 (F := Ideal) (arg19.view.readCov (pieceU u :: L) (Rect.unit (s := S528x512) ![512, 0] S16x512.size inb_S528x512_S16x512_512_0).toLoadRect)⟩] : List (View.Piece (Elt Ideal) S1x15x512 .f32)) (ix3 (0 : Fin 1) j q)
    = u (ix2 (⟨497 + j.val, by omega⟩ : Fin 512) q) := by
  have he : ix3 (0 : Fin 1) j q = (Rect.unit (s := S1x15x512) ![0, 0, 0] ![1, 15, 512] inb_S1x15x512_S1x15x512_0_0_0).emb (ix3 (0 : Fin 1) j q) := by
    funext x; apply Fin.ext
    match x with
    | ⟨0, _⟩ => simp [Rect.emb, Rect.unit, ix3, LoadRect.idx]
    | ⟨1, _⟩ => simp [Rect.emb, Rect.unit, ix3, LoadRect.idx]
    | ⟨2, _⟩ => simp [Rect.emb, Rect.unit, ix3, LoadRect.idx]
  have h := tail_of arg19 u L ⟨1 + j.val, by omega⟩ q
  refine (congrArg _ he).trans ((View.canon_cons_emb _ _ _ _).trans ?_)
  generalize arg19.view.readCov (pieceU u :: L) _ = v at h ⊢
  have e : (⟨497 + j.val, by omega⟩ : Fin 512) = ⟨496 + (1 + j.val), by omega⟩ := Fin.ext (by dsimp only; omega)
  rw [e]
  refine Eq.trans ?_ h
  pointwise [k0_pay3]

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x5632 .bf16) (harg4 : arg4.IsWhole)
  (arg5 : Memref sig .tc .vmem S4x128x256 .bf16) (harg5 : arg5.IsWhole)
  (arg6 : Memref sig .tc .vmem S1x1024 .f32) (harg6 : arg6.IsWhole)
  (arg7 : Memref sig .tc .vmem S1024x1024 .bf16) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S8x128x128 .f32) (harg10 : arg10.IsWhole)
  (arg11 : Memref sig .tc .vmem S4x128x128 .f32) (harg11 : arg11.IsWhole)
  (arg12 : Memref sig .tc .vmem S4x128x128 .f32) (harg12 : arg12.IsWhole)
  (arg13 : Memref sig .tc .vmem S4x128x128 .f32) (harg13 : arg13.IsWhole)
  (arg14 : Memref sig .tc .vmem S1x512x1024 .f32) (harg14 : arg14.IsWhole)
  (arg15 : Memref sig .tc .vmem S1x512x128 .f32) (harg15 : arg15.IsWhole)
  (arg16 : Memref sig .tc .vmem S1x15x512 .f32) (harg16 : arg16.IsWhole)
  (arg17 : Memref sig .tc .vmem S512x5632 .f32) (harg17 : arg17.IsWhole)
  (arg18 : Memref sig .tc .vmem S4x128x128 .f32) (harg18 : arg18.IsWhole)
  (arg19 : Memref sig .tc .vmem S528x512 .f32) (harg19 : arg19.IsWhole)
  (arg20 : Memref sig .tc .vmem S512x1024 .f32) (harg20 : arg20.IsWhole)
  (arg21 : Memref sig .tc .vmem S512x1024 .f32) (harg21 : arg21.IsWhole)
  (x0 : Vec Ideal S1x512x1024 .f32) (x1 : Vec Ideal S1x1024 .f32) (x2 : Vec Ideal S1024x5632 .bf16) (x3 : Vec Ideal S4x128x256 .bf16) (x4 : Vec Ideal S1x1024 .f32) (x5 : Vec Ideal S1024x1024 .bf16) (x6 : Vec Ideal S512x128 .f32) (x7 : Vec Ideal S512x128 .f32) (x8 : Vec Ideal S8x128x128 .f32) (x9 : Vec Ideal S4x128x128 .f32) (x10 : Vec Ideal S4x128x128 .f32) (x11 : Vec Ideal S4x128x128 .f32) (xs1 : V4) (xs2 : VE)

set_option maxHeartbeats 8000000 in
/-- Case C's output rows. -/
theorem y_C (hc0 : ¬cond0_0 i) (hc1 : cond0_1 i) (r : Fin 512) (q : Fin 1024) : out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix3 (0 : Fin 1) r q)
    = mixrow x0 x5 (zarr x0 x1 x2 x6 x7) (retv (zarr x0 x1 x2 x6 x7) x9 x8 (stv (zarr x0 x1 x2 x6 x7) x10 x11 (fun p r l => xs1 (ix3 p r l)))) (poolv (uext xs2 (ublk (zarr x0 x1 x2 x6 x7))) (BitVec.ofNat 32 (i 1).val) x3 x4) r q := by
  unfold out0_C_12
  rw [View.read_writes_junk_eq_canon]
  refine (y_of arg2 harg2 arg7 harg7 arg17 arg20 arg21 x0 x5 (kernelRun0_C.sl.HS0_14 (F := Ideal) c arg2 harg2 arg3 harg3 arg4 harg4 arg8 harg8 arg9 harg9 arg17 x0 x1 x2 x6 x7) (kernelRun0_C.sl.HS3_32 (F := Ideal) c arg2 harg2 arg3 harg3 arg4 harg4 arg8 harg8 arg9 harg9 arg10 harg10 arg11 harg11 arg12 harg12 arg13 harg13 arg17 arg18 harg18 x0 x1 x2 x6 x7 x8 x9 x10 x11 xs1) (kernelRun0_C.sl.HS4_4 (F := Ideal) c i arg2 harg2 arg3 harg3 arg4 harg4 arg5 harg5 arg6 harg6 arg8 harg8 arg9 harg9 arg17 arg19 harg19 x0 x1 x2 x3 x4 x6 x7 xs2) (zarr x0 x1 x2 x6 x7) _ _ (z14_C c arg2 harg2 arg3 harg3 arg4 harg4 arg8 harg8 arg9 harg9 arg17 x0 x1 x2 x6 x7) (retv_C c arg2 harg2 arg3 harg3 arg4 harg4 arg8 harg8 arg9 harg9 arg10 harg10 arg11 harg11 arg12 harg12 arg13 harg13 arg17 arg18 harg18 x0 x1 x2 x6 x7 x8 x9 x10 x11 xs1) (fun r q => (poolv_C c i arg2 harg2 arg3 harg3 arg4 harg4 arg5 harg5 arg6 harg6 arg8 harg8 arg9 harg9 arg17 arg19 harg19 x0 x1 x2 x3 x4 x6 x7 xs2 r q).trans ?_) r q)
  rw [show (k0_pay200 (F := Ideal) (kernelRun0_C.sl.v1613 c arg2 harg2 arg3 harg3 arg4 harg4 arg8 harg8 arg9 harg9 arg17 x0 x1 x2 x6 x7)) = ublk (zarr x0 x1 x2 x6 x7) from u_of arg17 _ _ (z14_C c arg2 harg2 arg3 harg3 arg4 harg4 arg8 harg8 arg9 harg9 arg17 x0 x1 x2 x6 x7)]

set_option maxHeartbeats 8000000 in
/-- Case C's state. -/
theorem s_C (hc0 : ¬cond0_0 i) (hc1 : cond0_1 i) (p : Fin 4) (r l : Fin 128) : sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix3 p r l) = stv (zarr x0 x1 x2 x6 x7) x10 x11 (fun p r l => xs1 (ix3 p r l)) p 4 r l := by
  unfold sout0_C_1
  rw [View.read_writes_junk_eq_canon]
  exact stv_C c arg2 harg2 arg3 harg3 arg4 harg4 arg8 harg8 arg9 harg9 arg10 harg10 arg11 harg11 arg12 harg12 arg13 harg13 arg17 arg18 harg18 x0 x1 x2 x6 x7 x8 x9 x10 x11 xs1 p r l

set_option maxHeartbeats 8000000 in
/-- Case C's kept inputs. -/
theorem e_C (hc0 : ¬cond0_0 i) (hc1 : cond0_1 i) (r : Fin 528) (q : Fin 512) (hr : r.val < 16) : sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix2 r q) = (zarr x0 x1 x2 x6 x7) (ix2 (⟨496 + r.val, by omega⟩ : Fin 512) (⟨3072 + q.val, by omega⟩ : Fin 5632)) := by
  unfold sout0_C_2
  rw [View.read_writes_junk_eq_canon]
  refine (e_of arg19 (k0_pay200 (F := Ideal) (kernelRun0_C.sl.v1613 c arg2 harg2 arg3 harg3 arg4 harg4 arg8 harg8 arg9 harg9 arg17 x0 x1 x2 x6 x7)) [] r q hr).trans ?_
  rw [show (k0_pay200 (F := Ideal) (kernelRun0_C.sl.v1613 c arg2 harg2 arg3 harg3 arg4 harg4 arg8 harg8 arg9 harg9 arg17 x0 x1 x2 x6 x7)) = ublk (zarr x0 x1 x2 x6 x7) from u_of arg17 _ _ (z14_C c arg2 harg2 arg3 harg3 arg4 harg4 arg8 harg8 arg9 harg9 arg17 x0 x1 x2 x6 x7)]
  rfl

set_option maxHeartbeats 8000000 in
/-- The state as written out. -/
theorem sret_C (hc0 : ¬cond0_0 i) (hc1 : cond0_1 i) (a : Fin 512) (l : Fin 128) : out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix3 (0 : Fin 1) a l) = (stv (zarr x0 x1 x2 x6 x7) x10 x11 (fun p r l => xs1 (ix3 p r l))) ⟨a.val / 128, by omega⟩ 4 ⟨a.val % 128, by omega⟩ l := by
  unfold out0_C_13
  rw [View.read_writes_junk_eq_canon]
  exact sret_of arg18 (kernelRun0_C.sl.HS1_16 (F := Ideal) c arg2 harg2 arg3 harg3 arg4 harg4 arg8 harg8 arg9 harg9 arg12 harg12 arg13 harg13 arg17 arg18 harg18 x0 x1 x2 x6 x7 x10 x11 xs1) (fun p r l => (stv (zarr x0 x1 x2 x6 x7) x10 x11 (fun p r l => xs1 (ix3 p r l))) p 4 r l) (stv_C c arg2 harg2 arg3 harg3 arg4 harg4 arg8 harg8 arg9 harg9 arg10 harg10 arg11 harg11 arg12 harg12 arg13 harg13 arg17 arg18 harg18 x0 x1 x2 x6 x7 x8 x9 x10 x11 xs1) a l

set_option maxHeartbeats 8000000 in
/-- The trailing inputs as written out. -/
theorem spool_C (hc0 : ¬cond0_0 i) (hc1 : cond0_1 i) (j : Fin 15) (q : Fin 512) : out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix3 (0 : Fin 1) j q) = (zarr x0 x1 x2 x6 x7) (ix2 (⟨497 + j.val, by omega⟩ : Fin 512) (⟨3072 + q.val, by omega⟩ : Fin 5632)) := by
  unfold out0_C_14
  rw [View.read_writes_junk_eq_canon]
  refine (spool_of arg19 (k0_pay200 (F := Ideal) (kernelRun0_C.sl.v1613 c arg2 harg2 arg3 harg3 arg4 harg4 arg8 harg8 arg9 harg9 arg17 x0 x1 x2 x6 x7)) [] j q).trans ?_
  rw [show (k0_pay200 (F := Ideal) (kernelRun0_C.sl.v1613 c arg2 harg2 arg3 harg3 arg4 harg4 arg8 harg8 arg9 harg9 arg17 x0 x1 x2 x6 x7)) = ublk (zarr x0 x1 x2 x6 x7) from u_of arg17 _ _ (z14_C c arg2 harg2 arg3 harg3 arg4 harg4 arg8 harg8 arg9 harg9 arg17 x0 x1 x2 x6 x7)]
  rfl

set_option maxHeartbeats 8000000 in
/-- Case B's output rows. -/
theorem y_B (hc0 : ¬cond0_0 i) (hc1 : ¬cond0_1 i) (r : Fin 512) (q : Fin 1024) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix3 (0 : Fin 1) r q)
    = mixrow x0 x5 (zarr x0 x1 x2 x6 x7) (retv (zarr x0 x1 x2 x6 x7) x9 x8 (stv (zarr x0 x1 x2 x6 x7) x10 x11 (fun p r l => xs1 (ix3 p r l)))) (poolv (uext xs2 (ublk (zarr x0 x1 x2 x6 x7))) (BitVec.ofNat 32 (i 1).val) x3 x4) r q := by
  unfold out0_B_12
  rw [View.read_writes_junk_eq_canon]
  refine (y_of arg2 harg2 arg7 harg7 arg17 arg20 arg21 x0 x5 (kernelRun0_C.sl.HS0_14 (F := Ideal) c arg2 harg2 arg3 harg3 arg4 harg4 arg8 harg8 arg9 harg9 arg17 x0 x1 x2 x6 x7) (kernelRun0_C.sl.HS3_32 (F := Ideal) c arg2 harg2 arg3 harg3 arg4 harg4 arg8 harg8 arg9 harg9 arg10 harg10 arg11 harg11 arg12 harg12 arg13 harg13 arg17 arg18 harg18 x0 x1 x2 x6 x7 x8 x9 x10 x11 xs1) (kernelRun0_C.sl.HS4_4 (F := Ideal) c i arg2 harg2 arg3 harg3 arg4 harg4 arg5 harg5 arg6 harg6 arg8 harg8 arg9 harg9 arg17 arg19 harg19 x0 x1 x2 x3 x4 x6 x7 xs2) (zarr x0 x1 x2 x6 x7) _ _ (z14_C c arg2 harg2 arg3 harg3 arg4 harg4 arg8 harg8 arg9 harg9 arg17 x0 x1 x2 x6 x7) (retv_C c arg2 harg2 arg3 harg3 arg4 harg4 arg8 harg8 arg9 harg9 arg10 harg10 arg11 harg11 arg12 harg12 arg13 harg13 arg17 arg18 harg18 x0 x1 x2 x6 x7 x8 x9 x10 x11 xs1) (fun r q => (poolv_C c i arg2 harg2 arg3 harg3 arg4 harg4 arg5 harg5 arg6 harg6 arg8 harg8 arg9 harg9 arg17 arg19 harg19 x0 x1 x2 x3 x4 x6 x7 xs2 r q).trans ?_) r q)
  rw [show (k0_pay200 (F := Ideal) (kernelRun0_C.sl.v1613 c arg2 harg2 arg3 harg3 arg4 harg4 arg8 harg8 arg9 harg9 arg17 x0 x1 x2 x6 x7)) = ublk (zarr x0 x1 x2 x6 x7) from u_of arg17 _ _ (z14_C c arg2 harg2 arg3 harg3 arg4 harg4 arg8 harg8 arg9 harg9 arg17 x0 x1 x2 x6 x7)]

set_option maxHeartbeats 8000000 in
/-- Case B's state. -/
theorem s_B (hc0 : ¬cond0_0 i) (hc1 : ¬cond0_1 i) (p : Fin 4) (r l : Fin 128) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix3 p r l) = stv (zarr x0 x1 x2 x6 x7) x10 x11 (fun p r l => xs1 (ix3 p r l)) p 4 r l := by
  unfold sout0_B_1
  rw [View.read_writes_junk_eq_canon]
  exact stv_C c arg2 harg2 arg3 harg3 arg4 harg4 arg8 harg8 arg9 harg9 arg10 harg10 arg11 harg11 arg12 harg12 arg13 harg13 arg17 arg18 harg18 x0 x1 x2 x6 x7 x8 x9 x10 x11 xs1 p r l

set_option maxHeartbeats 8000000 in
/-- Case B's kept inputs. -/
theorem e_B (hc0 : ¬cond0_0 i) (hc1 : ¬cond0_1 i) (r : Fin 528) (q : Fin 512) (hr : r.val < 16) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs1 xs2 (ix2 r q) = (zarr x0 x1 x2 x6 x7) (ix2 (⟨496 + r.val, by omega⟩ : Fin 512) (⟨3072 + q.val, by omega⟩ : Fin 5632)) := by
  unfold sout0_B_2
  rw [View.read_writes_junk_eq_canon]
  refine (e_of arg19 (k0_pay200 (F := Ideal) (kernelRun0_C.sl.v1613 c arg2 harg2 arg3 harg3 arg4 harg4 arg8 harg8 arg9 harg9 arg17 x0 x1 x2 x6 x7)) [] r q hr).trans ?_
  rw [show (k0_pay200 (F := Ideal) (kernelRun0_C.sl.v1613 c arg2 harg2 arg3 harg3 arg4 harg4 arg8 harg8 arg9 harg9 arg17 x0 x1 x2 x6 x7)) = ublk (zarr x0 x1 x2 x6 x7) from u_of arg17 _ _ (z14_C c arg2 harg2 arg3 harg3 arg4 harg4 arg8 harg8 arg9 harg9 arg17 x0 x1 x2 x6 x7)]
  rfl

set_option maxHeartbeats 8000000 in
/-- Case A's output rows. -/
theorem y_A (hc0 : cond0_0 i) (hc1 : ¬cond0_1 i) (r : Fin 512) (q : Fin 1024) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix3 (0 : Fin 1) r q)
    = mixrow x0 x5 (zarr x0 x1 x2 x6 x7) (retv (zarr x0 x1 x2 x6 x7) x9 x8 (stv (zarr x0 x1 x2 x6 x7) x10 x11 (fun _ _ _ => 0))) (poolv (uext (fun _ => 0) (ublk (zarr x0 x1 x2 x6 x7))) (BitVec.ofNat 32 (i 1).val) x3 x4) r q := by
  unfold out0_A_12
  rw [View.read_writes_junk_eq_canon]
  refine (y_of arg2 harg2 arg7 harg7 arg17 arg20 arg21 x0 x5 (kernelRun0_A.sl.HS0_14 (F := Ideal) c arg2 harg2 arg3 harg3 arg4 harg4 arg8 harg8 arg9 harg9 arg17 x0 x1 x2 x6 x7) (kernelRun0_A.sl.HS3_32 (F := Ideal) c arg2 harg2 arg3 harg3 arg4 harg4 arg8 harg8 arg9 harg9 arg10 harg10 arg11 harg11 arg12 harg12 arg13 harg13 arg17 arg18 x0 x1 x2 x6 x7 x8 x9 x10 x11) (kernelRun0_A.sl.HS4_4 (F := Ideal) c i arg2 harg2 arg3 harg3 arg4 harg4 arg5 harg5 arg6 harg6 arg8 harg8 arg9 harg9 arg17 arg19 x0 x1 x2 x3 x4 x6 x7) (zarr x0 x1 x2 x6 x7) _ _ (z14_A c arg2 harg2 arg3 harg3 arg4 harg4 arg8 harg8 arg9 harg9 arg17 x0 x1 x2 x6 x7) (retv_A c arg2 harg2 arg3 harg3 arg4 harg4 arg8 harg8 arg9 harg9 arg10 harg10 arg11 harg11 arg12 harg12 arg13 harg13 arg17 arg18 x0 x1 x2 x6 x7 x8 x9 x10 x11) (fun r q => (poolv_A c i arg2 harg2 arg3 harg3 arg4 harg4 arg5 harg5 arg6 harg6 arg8 harg8 arg9 harg9 arg17 arg19  x0 x1 x2 x3 x4 x6 x7  r q).trans ?_) r q)
  rw [show (k0_pay200 (F := Ideal) (kernelRun0_A.sl.v1613 c arg2 harg2 arg3 harg3 arg4 harg4 arg8 harg8 arg9 harg9 arg17 x0 x1 x2 x6 x7)) = ublk (zarr x0 x1 x2 x6 x7) from u_of arg17 _ _ (z14_A c arg2 harg2 arg3 harg3 arg4 harg4 arg8 harg8 arg9 harg9 arg17 x0 x1 x2 x6 x7)]

set_option maxHeartbeats 8000000 in
/-- Case A's state. -/
theorem s_A (hc0 : cond0_0 i) (hc1 : ¬cond0_1 i) (p : Fin 4) (r l : Fin 128) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix3 p r l) = stv (zarr x0 x1 x2 x6 x7) x10 x11 (fun _ _ _ => 0) p 4 r l := by
  unfold sout0_A_1
  rw [View.read_writes_junk_eq_canon]
  exact stv_A c arg2 harg2 arg3 harg3 arg4 harg4 arg8 harg8 arg9 harg9 arg10 harg10 arg11 harg11 arg12 harg12 arg13 harg13 arg17 arg18 x0 x1 x2 x6 x7 x8 x9 x10 x11 p r l

set_option maxHeartbeats 8000000 in
/-- Case A's kept inputs. -/
theorem e_A (hc0 : cond0_0 i) (hc1 : ¬cond0_1 i) (r : Fin 528) (q : Fin 512) (hr : r.val < 16) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix2 r q) = (zarr x0 x1 x2 x6 x7) (ix2 (⟨496 + r.val, by omega⟩ : Fin 512) (⟨3072 + q.val, by omega⟩ : Fin 5632)) := by
  unfold sout0_A_2
  rw [View.read_writes_junk_eq_canon]
  refine (e_of arg19 (k0_pay200 (F := Ideal) (kernelRun0_A.sl.v1613 c arg2 harg2 arg3 harg3 arg4 harg4 arg8 harg8 arg9 harg9 arg17 x0 x1 x2 x6 x7)) [⟨Rect.unit (s := S528x512) ![0, 0] S16x512.size inb_S528x512_S16x512_0_0, k0_pay5 (F := Ideal)⟩] r q hr).trans ?_
  rw [show (k0_pay200 (F := Ideal) (kernelRun0_A.sl.v1613 c arg2 harg2 arg3 harg3 arg4 harg4 arg8 harg8 arg9 harg9 arg17 x0 x1 x2 x6 x7)) = ublk (zarr x0 x1 x2 x6 x7) from u_of arg17 _ _ (z14_A c arg2 harg2 arg3 harg3 arg4 harg4 arg8 harg8 arg9 harg9 arg17 x0 x1 x2 x6 x7)]
  rfl

end Cert.KernelIdeal.Mix
end
-- ==== Proof.MixerPoint.lean ====
module

public import proofs.«01_k».proof.Proof.MixerBody
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen

variable (m : (ℓ : Loc nD τ sig) → Buf (Elt Ideal) ℓ)

/-- First part of a pair. -/
theorem fst_of {α β : Type} {o : α × β} {a : α} {b : β} (h : o = (a, b)) : o.1 = a := by rw [h]

/-- Second part of a pair. -/
theorem snd_of {α β : Type} {o : α × β} {a : α} {b : β} (h : o = (a, b)) : o.2 = b := by rw [h]

/-- A grid point's projections. -/
def Zt (c : Dev nD) (t : Fin cfg0.N) : VZ := zarr (iblk m c 0 t) (iblk m c 1 t) (iblk m c 2 t) (iblk m c 6 t) (iblk m c 7 t)

/-- The state a grid point starts from: nothing at a sequence's first block, what the point before left otherwise. -/
def S0t (c : Dev nD) (t : Fin cfg0.N) : Fin 4 → Fin 128 → Fin 128 → EReal := fun p r l =>
  if t.val % 4 = 0 then 0 else (outsAt0 m c (t.val - 1) (Nat.lt_of_le_of_lt (Nat.sub_le _ _) t.isLt)).2.2.2.1 (ix3 p r l)

/-- The rows a grid point pools over from the block before. -/
def Et (c : Dev nD) (t : Fin cfg0.N) : VE := fun y =>
  if t.val % 4 = 0 then 0 else (outsAt0 m c (t.val - 1) (Nat.lt_of_le_of_lt (Nat.sub_le _ _) t.isLt)).2.2.2.2 y

/-- The state entering a sequence is zero. -/
theorem S0t_first (c : Dev nD) (t : Fin cfg0.N) (h : t.val % 4 = 0) : S0t m c t = fun _ _ _ => 0 := by
  funext p r l; exact if_pos h

/-- The state entering a later block is what the one before left. -/
theorem S0t_later (c : Dev nD) (t : Fin cfg0.N) (h : ¬t.val % 4 = 0) : S0t m c t
    = fun p r l => (outsAt0 m c (t.val - 1) (Nat.lt_of_le_of_lt (Nat.sub_le _ _) t.isLt)).2.2.2.1 (ix3 p r l) := by
  funext p r l; exact if_neg h

/-- The rows handed to the first block of a sequence are zero. -/
theorem Et_first (c : Dev nD) (t : Fin cfg0.N) (h : t.val % 4 = 0) : Et m c t = fun _ => 0 := by
  funext y; exact if_pos h

/-- The rows handed to a later block are the last ones of the block before. -/
theorem Et_later (c : Dev nD) (t : Fin cfg0.N) (h : ¬t.val % 4 = 0) : Et m c t
    = (outsAt0 m c (t.val - 1) (Nat.lt_of_le_of_lt (Nat.sub_le _ _) t.isLt)).2.2.2.2 := by
  funext y; exact if_neg h

/-- The layer's output rows a grid point stores. -/
theorem y_at (c : Dev nD) (t : Fin cfg0.N) (r : Fin 512) (q : Fin 1024) :
    (outsAt0 m c t.val t.isLt).1 (ix3 (0 : Fin 1) r q)
    = mixrow (iblk m c 0 t) (iblk m c 5 t) (Zt m c t) (retv (Zt m c t) (iblk m c 9 t) (iblk m c 8 t) (stv (Zt m c t) (iblk m c 10 t) (iblk m c 11 t) (S0t m c t)))
      (poolv (uext (Et m c t) (ublk (Zt m c t))) (BitVec.ofNat 32 (grid0.coords t 1).val) (iblk m c 3 t) (iblk m c 4 t)) r q := by
  by_cases h0 : t.val % 4 = 0
  · rw [S0t_first m c t h0, Et_first m c t h0]
    refine (congrFun (fst_of (outsAt0_A m c t h0 (by omega))) _).trans ?_
    exact y_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) (fun h => (by omega : ¬t.val % 4 = 3) ((hcond0_1 t).mp h)) r q
  · by_cases h1 : t.val % 4 = 3
    · rw [S0t_later m c t h0, Et_later m c t h0]
      refine (congrFun (fst_of (outsAt0_C m c t h0 h1)) _).trans ?_
      exact y_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) r q
    · rw [S0t_later m c t h0, Et_later m c t h0]
      refine (congrFun (fst_of (outsAt0_B m c t h0 h1)) _).trans ?_
      exact y_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)) r q

/-- The retention state a grid point leaves. -/
theorem s_at (c : Dev nD) (t : Fin cfg0.N) (p : Fin 4) (r l : Fin 128) :
    (outsAt0 m c t.val t.isLt).2.2.2.1 (ix3 p r l)
    = stv (Zt m c t) (iblk m c 10 t) (iblk m c 11 t) (S0t m c t) p 4 r l := by
  by_cases h0 : t.val % 4 = 0
  · rw [S0t_first m c t h0]
    refine (congrFun (fst_of (snd_of (snd_of (snd_of (outsAt0_A m c t h0 (by omega)))))) _).trans ?_
    exact s_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) (fun h => (by omega : ¬t.val % 4 = 3) ((hcond0_1 t).mp h)) p r l
  · by_cases h1 : t.val % 4 = 3
    · rw [S0t_later m c t h0]
      refine (congrFun (fst_of (snd_of (snd_of (snd_of (outsAt0_C m c t h0 h1))))) _).trans ?_
      exact s_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) p r l
    · rw [S0t_later m c t h0]
      refine (congrFun (fst_of (snd_of (snd_of (snd_of (outsAt0_B m c t h0 h1))))) _).trans ?_
      exact s_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)) p r l

/-- The rows a grid point leaves for the next block's pooling. -/
theorem e_at (c : Dev nD) (t : Fin cfg0.N) (r : Fin 528) (q : Fin 512) (hr : r.val < 16) :
    (outsAt0 m c t.val t.isLt).2.2.2.2 (ix2 r q)
    = Zt m c t (ix2 (⟨496 + r.val, by omega⟩ : Fin 512) (⟨3072 + q.val, by omega⟩ : Fin 5632)) := by
  by_cases h0 : t.val % 4 = 0
  · refine (congrFun (snd_of (snd_of (snd_of (snd_of (outsAt0_A m c t h0 (by omega)))))) _).trans ?_
    exact e_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) (fun h => (by omega : ¬t.val % 4 = 3) ((hcond0_1 t).mp h)) r q hr
  · by_cases h1 : t.val % 4 = 3
    · refine (congrFun (snd_of (snd_of (snd_of (snd_of (outsAt0_C m c t h0 h1))))) _).trans ?_
      exact e_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) r q hr
    · refine (congrFun (snd_of (snd_of (snd_of (snd_of (outsAt0_B m c t h0 h1))))) _).trans ?_
      exact e_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (fun h => h1 ((hcond0_1 t).mp h)) r q hr

/-- The retention state a sequence's last point stores. -/
theorem sret_at (c : Dev nD) (t : Fin cfg0.N) (h0 : ¬t.val % 4 = 0) (h1 : t.val % 4 = 3) (a : Fin 512) (l : Fin 128) :
    (outsAt0 m c t.val t.isLt).2.1 (ix3 (0 : Fin 1) a l) = stv (Zt m c t) (iblk m c 10 t) (iblk m c 11 t) (S0t m c t) ⟨a.val / 128, by omega⟩ 4 ⟨a.val % 128, by omega⟩ l := by
  rw [S0t_later m c t h0]
  refine (congrFun (fst_of (snd_of (outsAt0_C m c t h0 h1))) _).trans ?_
  exact sret_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) a l

/-- The pooling rows a sequence's last point stores. -/
theorem spool_at (c : Dev nD) (t : Fin cfg0.N) (h0 : ¬t.val % 4 = 0) (h1 : t.val % 4 = 3) (j : Fin 15) (q : Fin 512) :
    (outsAt0 m c t.val t.isLt).2.2.1 (ix3 (0 : Fin 1) j q) = Zt m c t (ix2 (⟨497 + j.val, by omega⟩ : Fin 512) (⟨3072 + q.val, by omega⟩ : Fin 5632)) := by
  refine (congrFun (fst_of (snd_of (snd_of (outsAt0_C m c t h0 h1)))) _).trans ?_
  exact spool_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) ((hcond0_1 t).mpr h1) j q

end Cert.KernelIdeal.Mix

end
-- ==== Proof.MixerTab.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read

variable (m : (ℓ : Loc nD τ sig) → Buf (Elt Ideal) ℓ)

/-- The windows' block indices. -/
theorem idx : ∀ t : Fin cfg0.N, win0_0.index t = ![t.val / 4, t.val % 4, 0] ∧ win0_1.index t = ![0, 0] ∧ win0_2.index t = ![0, 0]
    ∧ win0_3.index t = ![0, 0, 0] ∧ win0_4.index t = ![0, 0] ∧ win0_5.index t = ![0, 0] ∧ win0_6.index t = ![t.val % 4, 0]
    ∧ win0_7.index t = ![t.val % 4, 0] ∧ win0_8.index t = ![0, 0, 0] ∧ win0_9.index t = ![0, 0, 0] ∧ win0_10.index t = ![0, 0, 0]
    ∧ win0_11.index t = ![0, 0, 0] ∧ win0_12.index t = ![t.val / 4, t.val % 4, 0] ∧ win0_13.index t = ![t.val / 4, 0, 0]
    ∧ win0_14.index t = ![t.val / 4, 0, 0] :=
  (by decide +kernel : ∀ t : Fin grid0.N, _)

/-- An entry of the input block is one of the input. -/
theorem x_at (c : Dev nD) (t : Fin cfg0.N) (r : Fin 512) (k : Fin 1024) :
    iblk m c 0 t (ix3 (0 : Fin 1) r k) = m ((c : Thread nD τ).loc main_arg0) (ix3 (⟨t.val / 4, by have : t.val < 32 := t.isLt; omega⟩ : Fin 8) (⟨512 * (t.val % 4) + r.val, by omega⟩ : Fin 2048) k) := by
  blk_ext [iblk, V, idx t]

/-- Window 6's block among its array. -/
theorem blk_6 (c : Dev nD) (t : Fin cfg0.N) (r : Fin 512) (l : Fin 128) : iblk m c 6 t (ix2 r l) = V m c main_v18 (ix2 (⟨512 * (t.val % 4) + r.val, by omega⟩ : Fin 2048) l) := by
  unfold iblk
  generalize V m c (Pipeline.arrRef spec0 6) = A
  blk_ext [idx t]

/-- The rotation's cosines. -/
theorem tab_6 (c : Dev nD) (T : Fin 2048) (l : Fin 128) : V m c main_v18 (ix2 T l)
    = val_main_v35 (F := Ideal) (ix2 T (⟨l.val % 32, by omega⟩ : Fin 32)) := by
  unfold V
  simp only [hostOps0, hostOps0_1, hostOps0_2, hostOps0_3, hostOps0_4, List.flatten_cons, List.flatten_nil, List.append_nil, List.cons_append,
    List.nil_append]
  after_results_simp
  after_results_loop
  simp -implicitDefEqProofs only [StableHlo.TRef.toBuf, StableHlo.TRef.ofBuf, cast_cast, cast_eq]
  pointwise [val_main_v35, val_main_v34, val_main_v33, val_main_v32, val_main_v31, val_main_v30, val_main_v29, val_main_v28, val_main_cst_6, val_main_v27, val_main_v26, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_v14, val_main_call0_v15, val_main_call0_v16, val_main_call0_cst, val_main_call0_cst_0, val_main_call0_cst_1, val_main_cst_4, val_main_cst_5, val_main_v24, val_main_v23]

/-- Window 7's block among its array. -/
theorem blk_7 (c : Dev nD) (t : Fin cfg0.N) (r : Fin 512) (l : Fin 128) : iblk m c 7 t (ix2 r l) = V m c main_v23 (ix2 (⟨512 * (t.val % 4) + r.val, by omega⟩ : Fin 2048) l) := by
  unfold iblk
  generalize V m c (Pipeline.arrRef spec0 7) = A
  blk_ext [idx t]

/-- The rotation's sines, the first halves' negated. -/
theorem tab_7 (c : Dev nD) (T : Fin 2048) (l : Fin 128) : V m c main_v23 (ix2 T l)
    = if l.val % 64 < 32 then -val_main_v37 (F := Ideal) (ix2 T (⟨l.val % 32, by omega⟩ : Fin 32)) else val_main_v37 (F := Ideal) (ix2 T (⟨l.val % 32, by omega⟩ : Fin 32)) := by
  unfold V
  simp only [hostOps0, hostOps0_1, hostOps0_2, hostOps0_3, hostOps0_4, List.flatten_cons, List.flatten_nil, List.append_nil, List.cons_append,
    List.nil_append]
  after_results_simp
  after_results_loop
  simp -implicitDefEqProofs only [StableHlo.TRef.toBuf, StableHlo.TRef.ofBuf, cast_cast, cast_eq]
  pointwise [val_main_v37, val_main_v34, val_main_v33, val_main_v32, val_main_v31, val_main_v30, val_main_v29, val_main_v28, val_main_cst_6, val_main_v27, val_main_v26, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_v14, val_main_call0_v15, val_main_call0_v16, val_main_call0_cst, val_main_call0_cst_0, val_main_call0_cst_1, val_main_cst_4, val_main_cst_5, val_main_v24, val_main_v23]
  by_cases h : l.val % 64 < 32
  · have e : l.val % 64 = l.val % 32 := by omega
    rw [dif_pos h, if_pos h]; simp only [e]
  · have e : l.val % 64 - 32 = l.val % 32 := by omega
    rw [dif_neg h, if_neg h]; simp only [e]

/-- Window 8's block among its array. -/
theorem blk_8 (c : Dev nD) (t : Fin cfg0.N) (p : Fin 8) (i j : Fin 128) : iblk m c 8 t (ix3 p i j) = V m c main_v49 (ix3 p i j) := by
  unfold iblk
  generalize V m c (Pipeline.arrRef spec0 8) = A
  blk_ext [idx t]

/-- The decay mask. -/
theorem tab_8 (c : Dev nD) (p : Fin 8) (i j : Fin 128) : V m c main_v49 (ix3 p i j)
    = val_main_v107 (F := Ideal) (ix3 p i j) := by
  unfold V
  simp only [hostOps0, hostOps0_1, hostOps0_2, hostOps0_3, hostOps0_4, List.flatten_cons, List.flatten_nil, List.append_nil, List.cons_append,
    List.nil_append]
  after_results_simp
  after_results_loop
  simp -implicitDefEqProofs only [StableHlo.TRef.toBuf, StableHlo.TRef.ofBuf, cast_cast, cast_eq]
  pointwise [val_main_v107, val_main_call2_v0, val_main_call2_v1, val_main_call2_v2, val_main_cst_15, val_main_v106, val_main_v105, val_main_v104, val_main_v103, val_main_v102, val_main_v101, val_main_v100, val_main_cst_14, val_main_v99, val_main_v98, val_main_v97, val_main_cst_13, val_main_v96, val_main_v95, val_main_v94, val_main_v93, val_main_v92, val_main_v91, val_main_v90, val_main_v89, val_main_v88, val_main_v87, val_main_v86, val_main_v85, val_main_cst_12, val_main_v84, val_main_v83, val_main_cst_11, val_main_v82]

/-- Window 9's block among its array. -/
theorem blk_9 (c : Dev nD) (t : Fin cfg0.N) (p : Fin 4) (i l : Fin 128) : iblk m c 9 t (ix3 p i l) = V m c main_v70 (ix3 p i l) := by
  unfold iblk
  generalize V m c (Pipeline.arrRef spec0 9) = A
  blk_ext [idx t]

/-- The decay from the chunk before. -/
theorem tab_9 (c : Dev nD) (p : Fin 4) (i l : Fin 128) : V m c main_v70 (ix3 p i l)
    = val_main_v115 (F := Ideal) (ix2 (⟨p.val * 2 + l.val / 64, by omega⟩ : Fin 8) i) := by
  unfold V
  simp only [hostOps0, hostOps0_1, hostOps0_2, hostOps0_3, hostOps0_4, List.flatten_cons, List.flatten_nil, List.append_nil, List.cons_append,
    List.nil_append]
  after_results_simp
  pointwise [val_main_v115, val_main_v114, val_main_v113, val_main_v112, val_main_v111, val_main_v110, val_main_v109, val_main_v108, val_main_cst_16, val_main_v90, val_main_v89, val_main_v88, val_main_v87, val_main_v86, val_main_v85, val_main_cst_12, val_main_v84, val_main_v83, val_main_cst_11, val_main_v82]

/-- Window 10's block among its array. -/
theorem blk_10 (c : Dev nD) (t : Fin cfg0.N) (p : Fin 4) (i l : Fin 128) : iblk m c 10 t (ix3 p i l) = V m c main_v75 (ix3 p i l) := by
  unfold iblk
  generalize V m c (Pipeline.arrRef spec0 10) = A
  blk_ext [idx t]

/-- The decay to the chunk after. -/
theorem tab_10 (c : Dev nD) (p : Fin 4) (i l : Fin 128) : V m c main_v75 (ix3 p i l)
    = val_main_v123 (F := Ideal) (ix2 (⟨p.val * 2 + l.val / 64, by omega⟩ : Fin 8) i) := by
  unfold V
  simp only [hostOps0, hostOps0_1, hostOps0_2, hostOps0_3, hostOps0_4, List.flatten_cons, List.flatten_nil, List.append_nil, List.cons_append,
    List.nil_append]
  after_results_simp
  pointwise [val_main_v123, val_main_v122, val_main_v121, val_main_v120, val_main_v119, val_main_v118, val_main_v117, val_main_v116, val_main_cst_17, val_main_v90, val_main_v89, val_main_v88, val_main_v87, val_main_v86, val_main_v85, val_main_cst_12, val_main_v84, val_main_v83, val_main_cst_11, val_main_v82]

/-- Window 11's block among its array. -/
theorem blk_11 (c : Dev nD) (t : Fin cfg0.N) (p : Fin 4) (r l : Fin 128) : iblk m c 11 t (ix3 p r l) = V m c main_v89 (ix3 p r l) := by
  unfold iblk
  generalize V m c (Pipeline.arrRef spec0 11) = A
  blk_ext [idx t]

/-- A whole chunk's decay. -/
theorem tab_11 (c : Dev nD) (p : Fin 4) (r l : Fin 128) : V m c main_v89 (ix3 p r l)
    = val_main_v126 (F := Ideal) (ix1 (⟨p.val * 2 + r.val / 64, by omega⟩ : Fin 8)) := by
  unfold V
  simp only [hostOps0, hostOps0_1, hostOps0_2, hostOps0_3, hostOps0_4, List.flatten_cons, List.flatten_nil, List.append_nil, List.cons_append,
    List.nil_append]
  after_results_simp
  pointwise [val_main_v126, val_main_v125, val_main_v124, val_main_cst_18, val_main_v89, val_main_v88, val_main_v87, val_main_v86, val_main_v85, val_main_cst_12, val_main_v84, val_main_v83, val_main_cst_11, val_main_v82]

/-- Window 1's block among its array. -/
theorem blk_1 (c : Dev nD) (t : Fin cfg0.N) (k : Fin 1024) : iblk m c 1 t (ix2 (0 : Fin 1) k) = V m c main_v90 (ix2 (0 : Fin 1) k) := by
  unfold iblk
  generalize V m c (Pipeline.arrRef spec0 1) = A
  blk_ext [idx t]

/-- The norm's weights. -/
theorem tab_1 (c : Dev nD) (k : Fin 1024) : V m c main_v90 (ix2 (0 : Fin 1) k)
    = m ((c : Thread nD τ).loc main_arg1) (ix1 k) := by
  unfold V
  simp only [hostOps0, hostOps0_1, hostOps0_2, hostOps0_3, hostOps0_4, List.flatten_cons, List.flatten_nil, List.append_nil, List.cons_append,
    List.nil_append]
  after_results_simp
  pointwise []

/-- Window 4's block among its array. -/
theorem blk_4 (c : Dev nD) (t : Fin cfg0.N) (k : Fin 1024) : iblk m c 4 t (ix2 (0 : Fin 1) k) = V m c main_v91 (ix2 (0 : Fin 1) k) := by
  unfold iblk
  generalize V m c (Pipeline.arrRef spec0 4) = A
  blk_ext [idx t]

/-- The pooled outputs' scale. -/
theorem tab_4 (c : Dev nD) (k : Fin 1024) : V m c main_v91 (ix2 (0 : Fin 1) k)
    = m ((c : Thread nD τ).loc main_arg4) (ix1 k) := by
  unfold V
  simp only [hostOps0, hostOps0_1, hostOps0_2, hostOps0_3, hostOps0_4, List.flatten_cons, List.flatten_nil, List.append_nil, List.cons_append,
    List.nil_append]
  after_results_simp
  pointwise []

/-- Window 2's block among its array. -/
theorem blk_2 (c : Dev nD) (t : Fin cfg0.N) (k : Fin 1024) (q : Fin 5632) : iblk m c 2 t (ix2 k q) = V m c main_v0 (ix2 k q) := by
  unfold iblk
  generalize V m c (Pipeline.arrRef spec0 2) = A
  blk_ext [idx t]

/-- The input weights. -/
theorem tab_2 (c : Dev nD) (k : Fin 1024) (q : Fin 5632) : V m c main_v0 (ix2 k q)
    = m ((c : Thread nD τ).loc main_arg2) (ix2 k q) := by
  unfold V
  simp only [hostOps0, hostOps0_1, hostOps0_2, hostOps0_3, hostOps0_4, List.flatten_cons, List.flatten_nil, List.append_nil, List.cons_append,
    List.nil_append]
  after_results_simp
  pointwise []

/-- Window 3's block among its array. -/
theorem blk_3 (c : Dev nD) (t : Fin cfg0.N) (g : Fin 4) (k : Fin 128) (q : Fin 256) : iblk m c 3 t (ix3 g k q) = V m c main_v1 (ix3 g k q) := by
  unfold iblk
  generalize V m c (Pipeline.arrRef spec0 3) = A
  blk_ext [idx t]

/-- The pooling weights. -/
theorem tab_3 (c : Dev nD) (g : Fin 4) (k : Fin 128) (q : Fin 256) : V m c main_v1 (ix3 g k q)
    = m ((c : Thread nD τ).loc main_arg3) (ix3 g k q) := by
  unfold V
  simp only [hostOps0, hostOps0_1, hostOps0_2, hostOps0_3, hostOps0_4, List.flatten_cons, List.flatten_nil, List.append_nil, List.cons_append,
    List.nil_append]
  after_results_simp
  pointwise []

/-- Window 5's block among its array. -/
theorem blk_5 (c : Dev nD) (t : Fin cfg0.N) (k q : Fin 1024) : iblk m c 5 t (ix2 k q) = V m c main_v2 (ix2 k q) := by
  unfold iblk
  generalize V m c (Pipeline.arrRef spec0 5) = A
  blk_ext [idx t]

/-- The output weights. -/
theorem tab_5 (c : Dev nD) (k q : Fin 1024) : V m c main_v2 (ix2 k q)
    = m ((c : Thread nD τ).loc main_arg5) (ix2 k q) := by
  unfold V
  simp only [hostOps0, hostOps0_1, hostOps0_2, hostOps0_3, hostOps0_4, List.flatten_cons, List.flatten_nil, List.append_nil, List.cons_append,
    List.nil_append]
  after_results_simp
  pointwise []

end Cert.KernelIdeal.Mix

end
-- ==== Proof.MixerRefQ.lean ====
module

public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Mix

open Cert.ReferenceIdeal Cert.ReferenceIdeal.Read

variable (X : (⟨S8x2048x1024, .f32⟩ : BufTy).Contents (Elt Ideal)) (G : (⟨S1024, .f32⟩ : BufTy).Contents (Elt Ideal))
  (W : (⟨S1024x5632, .f32⟩ : BufTy).Contents (Elt Ideal))

/-- The keys turn by the queries' cosines. -/
theorem cos_eq : val_main_v62 (F := Ideal) = val_main_v35 (F := Ideal) := rfl

/-- The keys turn by the queries' sines. -/
theorem sin_eq : val_main_v64 (F := Ideal) = val_main_v37 (F := Ideal) := rfl

/-- One head's lane after the rotation, of the head's projections `P`. -/
def turn (P : Fin 64 → EReal) (C S : Fin 32 → EReal) (d : Fin 64) : EReal :=
  if h : d.val < 32 then P d * C ⟨d.val, h⟩ - P ⟨32 + d.val, by omega⟩ * S ⟨d.val, h⟩
  else P ⟨d.val - 32, by omega⟩ * S ⟨d.val - 32, by omega⟩ + P ⟨32 + (d.val - 32), by omega⟩ * C ⟨d.val - 32, by omega⟩

/-- A rotated query. -/
theorem q_at (b : Fin 8) (T : Fin 2048) (H : Fin 8) (d : Fin 64) : val_main_v51 (F := Ideal) X G W (ix4 b T H d)
    = turn (fun d => val_main_v15 (F := Ideal) X G W (ix3 b T (⟨H.val * 64 + d.val, by omega⟩ : Fin 5632))) (fun l => val_main_v35 (F := Ideal) (ix2 T l))
      (fun l => val_main_v37 (F := Ideal) (ix2 T l)) d := by
  unfold turn
  pointwise [val_main_v51, val_main_v50, val_main_v49, val_main_v48, val_main_v47, val_main_v46, val_main_v45, val_main_v44, val_main_v43, val_main_v42, val_main_v41, val_main_v40, val_main_v39, val_main_v38, val_main_v36, val_main_v25, val_main_v16]

/-- A rotated key, scaled. -/
theorem k_at (b : Fin 8) (T : Fin 2048) (H : Fin 8) (d : Fin 64) : val_main_v80 (F := Ideal) X G W (ix4 b T H d)
    = turn (fun d => val_main_v15 (F := Ideal) X G W (ix3 b T (⟨512 + (H.val * 64 + d.val), by omega⟩ : Fin 5632))) (fun l => val_main_v35 (F := Ideal) (ix2 T l))
      (fun l => val_main_v37 (F := Ideal) (ix2 T l)) d * Ideal.ofBits .f32 0x3E000000#32 := by
  unfold turn
  rw [← cos_eq, ← sin_eq]
  pointwise [val_main_v80, val_main_v79, val_main_cst_10, val_main_v78, val_main_v77, val_main_v76, val_main_v75, val_main_v74, val_main_v73, val_main_v72, val_main_v71, val_main_v70, val_main_v69, val_main_v68, val_main_v67, val_main_v66, val_main_v65, val_main_v63, val_main_v52, val_main_v17]

end Cert.ReferenceIdeal.Mix

end
-- ==== Proof.MixerJoinZ.lean ====
module

public import proofs.«01_k».proof.Proof.MixerPoint
public import proofs.«01_k».proof.Proof.MixerTab
public import proofs.«01_k».proof.Proof.MixerRefQ

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read Cert.ReferenceIdeal.Mix

variable (m : (ℓ : Loc nD τ sig) → Buf (Elt Ideal) ℓ)

/-- The first three arguments, by their names in the layer: the rows, the norm's gains, the projection. -/
abbrev aX (c : Dev nD) := m ((c : Thread nD τ).loc main_arg0)
/-- The mixer's norm weights as launched. -/
abbrev aG (c : Dev nD) := m ((c : Thread nD τ).loc main_arg1)
/-- The mixer's input weights as launched. -/
abbrev aW (c : Dev nD) := m ((c : Thread nD τ).loc main_arg2)

/-- A grid point's sequence. -/
abbrev bt (t : Fin cfg0.N) : Fin 8 := ⟨t.val / 4, by have : t.val < 32 := t.isLt; omega⟩

/-- The position of a block's row. -/
abbrev Tt (t : Fin cfg0.N) (r : Fin 512) : Fin 2048 := ⟨512 * (t.val % 4) + r.val, by omega⟩

/-- A block's plain projections are the reference's. -/
theorem proj_ref (c : Dev nD) (t : Fin cfg0.N) (r : Fin 512) (q : Fin 5632) :
    proj (iblk m c 0 t) (iblk m c 1 t) (iblk m c 2 t) r q
    = val_main_v15 (F := Ideal) (aX m c) (aG m c) (aW m c) (ix3 (bt t) (Tt t r) q) := by
  unfold proj
  pointwise [k0_pay7, k0_pay6, val_main_v15, val_main_v14, val_main_v13, val_main_v12, val_main_v11, val_main_v10, val_main_v9, val_main_v8,
    val_main_v7, val_main_v6, val_main_v5, val_main_cst_3, val_main_v4, val_main_v3, val_main_cst_2, val_main_v2, val_main_cst_1]
  simp only [x_at m c t, blk_1 m c t, tab_1 m c, blk_2 m c t, tab_2 m c]

/-- Turning a lane by itself and its partner with a signed sine is the rotation of its head. -/
theorem rot_turn (P : Fin 5632 → EReal) (C S : Fin 32 → EReal) (q : Fin 5632) :
    P q * C (⟨q.val % 128 % 32, by omega⟩ : Fin 32)
      + (if q.val % 64 < 32 then P ⟨(q.val + 32) % 5632, by omega⟩ else P ⟨q.val - 32, by omega⟩)
        * (if q.val % 128 % 64 < 32 then -S (⟨q.val % 128 % 32, by omega⟩ : Fin 32) else S (⟨q.val % 128 % 32, by omega⟩ : Fin 32))
    = turn (fun d => P (⟨q.val / 64 * 64 + d.val, by omega⟩ : Fin 5632)) C S (⟨q.val % 64, by omega⟩ : Fin 64) := by
  have e : q.val % 128 % 64 = q.val % 64 := by omega
  have eq : (⟨q.val / 64 * 64 + q.val % 64, by omega⟩ : Fin 5632) = q := Fin.ext (by show q.val / 64 * 64 + q.val % 64 = q.val; omega)
  unfold turn
  by_cases h : q.val % 64 < 32
  · have ec : (⟨q.val % 128 % 32, by omega⟩ : Fin 32) = ⟨q.val % 64, h⟩ := Fin.ext (by show q.val % 128 % 32 = q.val % 64; omega)
    have ep : (⟨(q.val + 32) % 5632, by omega⟩ : Fin 5632) = ⟨q.val / 64 * 64 + (32 + q.val % 64), by omega⟩ :=
      Fin.ext (by show (q.val + 32) % 5632 = q.val / 64 * 64 + (32 + q.val % 64); omega)
    rw [dif_pos h, if_pos h, if_pos (e ▸ h), ec, ep, sub_eq_add_neg, mul_neg]
    simp only [eq]
  · have ec : (⟨q.val % 128 % 32, by omega⟩ : Fin 32) = ⟨q.val % 64 - 32, by omega⟩ := Fin.ext (by show q.val % 128 % 32 = q.val % 64 - 32; omega)
    have ep : (⟨q.val - 32, by omega⟩ : Fin 5632) = ⟨q.val / 64 * 64 + (q.val % 64 - 32), by omega⟩ :=
      Fin.ext (by show q.val - 32 = q.val / 64 * 64 + (q.val % 64 - 32); omega)
    have ex : (⟨q.val / 64 * 64 + (32 + (q.val % 64 - 32)), by omega⟩ : Fin 5632) = q :=
      Fin.ext (by show q.val / 64 * 64 + (32 + (q.val % 64 - 32)) = q.val; omega)
    rw [dif_neg h, if_neg h, if_neg (e ▸ h), ec, ep]
    simp only [ex]
    exact add_comm _ _

/-- A block's rotated lane. -/
theorem rotv_ref (c : Dev nD) (t : Fin cfg0.N) (r : Fin 512) (q : Fin 5632) :
    rotv (proj (iblk m c 0 t) (iblk m c 1 t) (iblk m c 2 t)) (iblk m c 6 t) (iblk m c 7 t) r q
    = turn (fun d => val_main_v15 (F := Ideal) (aX m c) (aG m c) (aW m c) (ix3 (bt t) (Tt t r) (⟨q.val / 64 * 64 + d.val, by omega⟩ : Fin 5632)))
        (fun l => val_main_v35 (F := Ideal) (ix2 (Tt t r) l)) (fun l => val_main_v37 (F := Ideal) (ix2 (Tt t r) l)) (⟨q.val % 64, by omega⟩ : Fin 64) := by
  unfold rotv
  simp only [proj_ref m c t, blk_6 m c t, tab_6 m c, blk_7 m c t, tab_7 m c]
  exact rot_turn (fun q => val_main_v15 (F := Ideal) (aX m c) (aG m c) (aW m c) (ix3 (bt t) (Tt t r) q))
    (fun l => val_main_v35 (F := Ideal) (ix2 (Tt t r) l)) (fun l => val_main_v37 (F := Ideal) (ix2 (Tt t r) l)) q

/-- A block's queries are the reference's. -/
theorem zq_at (c : Dev nD) (t : Fin cfg0.N) (r : Fin 512) (H : Fin 8) (l : Fin 64) :
    Zt m c t (ix2 r (⟨64 * H.val + l.val, by omega⟩ : Fin 5632)) = val_main_v51 (F := Ideal) (aX m c) (aG m c) (aW m c) (ix4 (bt t) (Tt t r) H l) := by
  show zrow _ _ _ _ _ r (⟨64 * H.val + l.val, by omega⟩ : Fin 5632) = _
  have e1 : (64 * H.val + l.val) / 64 = H.val := by omega
  have e2 : (64 * H.val + l.val) % 64 = l.val := by omega
  rw [zrow, if_pos (by show 64 * H.val + l.val < 512; omega), rotv_ref, q_at]
  simp only [e1, e2]

/-- A block's keys are the reference's. -/
theorem zk_at (c : Dev nD) (t : Fin cfg0.N) (r : Fin 512) (H : Fin 8) (l : Fin 64) :
    Zt m c t (ix2 r (⟨512 + 64 * H.val + l.val, by omega⟩ : Fin 5632)) = val_main_v80 (F := Ideal) (aX m c) (aG m c) (aW m c) (ix4 (bt t) (Tt t r) H l) := by
  show zrow _ _ _ _ _ r (⟨512 + 64 * H.val + l.val, by omega⟩ : Fin 5632) = _
  have e1 : (512 + 64 * H.val + l.val) / 64 * 64 = 512 + H.val * 64 := by omega
  have e2 : (512 + 64 * H.val + l.val) % 64 = l.val := by omega
  rw [zrow, if_neg (by show ¬512 + 64 * H.val + l.val < 512; omega), if_pos (by show 512 + 64 * H.val + l.val < 1024; omega), rotv_ref, k_at]
  simp only [e1, e2]
  simp only [Nat.add_assoc]

/-- The keys of a pair of heads side by side. -/
theorem zkk_at (c : Dev nD) (t : Fin cfg0.N) (r : Fin 512) (p : Fin 4) (l : Fin 128) :
    Zt m c t (ix2 r (⟨512 + 128 * p.val + l.val, by omega⟩ : Fin 5632))
    = val_main_v80 (F := Ideal) (aX m c) (aG m c) (aW m c) (ix4 (bt t) (Tt t r) (⟨p.val * 2 + l.val / 64, by omega⟩ : Fin 8) (⟨l.val % 64, by omega⟩ : Fin 64)) := by
  rw [← zk_at]
  exact congrArg (fun q => Zt m c t (ix2 r q)) (Fin.ext (by show 512 + 128 * p.val + l.val = 512 + 64 * (p.val * 2 + l.val / 64) + l.val % 64; omega))

/-- The other columns are the reference's projections. -/
theorem zp_at (c : Dev nD) (t : Fin cfg0.N) (r : Fin 512) (q : Fin 5632) (h : 1024 ≤ q.val) :
    Zt m c t (ix2 r q) = val_main_v15 (F := Ideal) (aX m c) (aG m c) (aW m c) (ix3 (bt t) (Tt t r) q) := by
  show zrow _ _ _ _ _ r q = _
  rw [zrow, if_neg (by omega), if_neg (by omega), proj_ref]

end Cert.KernelIdeal.Mix

end
-- ==== Proof.MixerRefP.lean ====
module

public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Mix

open Cert.ReferenceIdeal Cert.ReferenceIdeal.Read

variable (X : (⟨S8x2048x1024, .f32⟩ : BufTy).Contents (Elt Ideal)) (G : (⟨S1024, .f32⟩ : BufTy).Contents (Elt Ideal))
  (W : (⟨S1024x5632, .f32⟩ : BufTy).Contents (Elt Ideal))

/-- The pooling inputs with the empty rows before them: row `j` is position `j - 15`. -/
def eref (b : Fin 8) (j : ℕ) (k : Fin 512) : EReal :=
  if h : 15 ≤ j ∧ j < 2063 then val_main_v15 (F := Ideal) X G W (ix3 b (⟨j - 15, by omega⟩ : Fin 2048) (⟨3072 + k.val, by omega⟩ : Fin 5632)) else 0

/-- The pooling columns after fifteen rows of zeros. -/
theorem ext_at (b : Fin 8) (j : Fin 2063) (k : Fin 512) : val_main_v275 (F := Ideal) X G W (ix3 b j k) = eref X G W b j.val k := by
  have hj := j.isLt
  by_cases h : 15 ≤ j.val
  · rw [eref, dif_pos ⟨h, hj⟩]
    pointwise [val_main_v275, val_main_v20, val_main_v1, val_main_cst_0]
    exact dif_neg (by omega)
  · rw [eref, dif_neg (fun h' => h h'.1)]
    pointwise [val_main_v275, val_main_v20, val_main_v1, val_main_cst_0]
    exact dif_pos (by omega)

/-- A trailing sum, newest row first. -/
def wref (b : Fin 8) (T : Fin 2048) (k : Fin 512) : ℕ → EReal
  | 0 => eref X G W b (15 + T.val) k
  | j + 1 => wref b T k j + eref X G W b (15 + T.val - (j + 1)) k

/-- The pooling rows handed on. -/
theorem spool_ref (b : Fin 8) (j : Fin 15) (k : Fin 512) : val_main_v374 (F := Ideal) X G W (ix3 b j k)
    = val_main_v15 (F := Ideal) X G W (ix3 b (⟨2033 + j.val, by omega⟩ : Fin 2048) (⟨3072 + k.val, by omega⟩ : Fin 5632)) := by
  pointwise [val_main_v374]
  rw [ext_at, eref, dif_pos (by show 15 ≤ 2048 + j.val ∧ 2048 + j.val < 2063; omega)]
  exact congrArg (fun T => val_main_v15 (F := Ideal) X G W (ix3 b T (⟨3072 + k.val, by omega⟩ : Fin 5632))) (Fin.ext (by show 2048 + j.val - 15 = 2033 + j.val; omega))

/-- A row a few places back. -/
theorem back_at (a c T : ℕ) (h : c ≤ a) : a + T - c = a - c + T := by omega

/-- How many rows a trailing mean of at most `w` rows has at position `T`. -/
def cref (T : Fin 2048) (w : BitVec 32) : EReal :=
  FloatOps.sitofp (F := Ideal) FTy.f32 (IntOp.minsi (IntOp.addi (BitVec.ofNat 32 T.val) 1#32) w)

/-- The window sum of group 0. -/
theorem tot_0 (b : Fin 8) (T : Fin 2048) (k : Fin 128) : val_main_v279 (F := Ideal) X G W (ix3 b T k) = wref X G W b T (⟨0 + k.val, by omega⟩ : Fin 512) 1 := by
  simp only [wref]
  pointwise [val_main_v279, val_main_v278, val_main_v277]
  simp (discharger := decide) only [ext_at, back_at, Nat.reduceSub, Nat.zero_add]

/-- The window mean of group 0. -/
theorem mean_0 (b : Fin 8) (T : Fin 2048) (k : Fin 128) : val_main_v287 (F := Ideal) X G W (ix3 b T k)
    = Ideal.div (wref X G W b T (⟨0 + k.val, by omega⟩ : Fin 512) 1) (cref T 2#32) := by
  rw [← tot_0]
  unfold cref
  pointwise [val_main_v287, val_main_v286, val_main_v285, val_main_v284, val_main_v283, val_main_v282, val_main_v281, val_main_v280, val_main_v276, val_main_c, val_main_c_22]

/-- The window sum of group 1. -/
theorem tot_1 (b : Fin 8) (T : Fin 2048) (k : Fin 128) : val_main_v294 (F := Ideal) X G W (ix3 b T k) = wref X G W b T (⟨128 + k.val, by omega⟩ : Fin 512) 3 := by
  simp only [wref]
  pointwise [val_main_v294, val_main_v293, val_main_v292, val_main_v291, val_main_v290, val_main_v289, val_main_v288]
  simp (discharger := decide) only [ext_at, back_at, Nat.reduceSub, Nat.zero_add]

/-- The window mean of group 1. -/
theorem mean_1 (b : Fin 8) (T : Fin 2048) (k : Fin 128) : val_main_v302 (F := Ideal) X G W (ix3 b T k)
    = Ideal.div (wref X G W b T (⟨128 + k.val, by omega⟩ : Fin 512) 3) (cref T 4#32) := by
  rw [← tot_1]
  unfold cref
  pointwise [val_main_v302, val_main_v301, val_main_v300, val_main_v299, val_main_v298, val_main_v297, val_main_v296, val_main_v295, val_main_v276, val_main_c_23, val_main_c_24]

/-- The window sum of group 2. -/
theorem tot_2 (b : Fin 8) (T : Fin 2048) (k : Fin 128) : val_main_v317 (F := Ideal) X G W (ix3 b T k) = wref X G W b T (⟨256 + k.val, by omega⟩ : Fin 512) 7 := by
  simp only [wref]
  pointwise [val_main_v317, val_main_v316, val_main_v315, val_main_v314, val_main_v313, val_main_v312, val_main_v311, val_main_v310, val_main_v309, val_main_v308, val_main_v307, val_main_v306, val_main_v305, val_main_v304, val_main_v303]
  simp (discharger := decide) only [ext_at, back_at, Nat.reduceSub, Nat.zero_add]

/-- The window mean of group 2. -/
theorem mean_2 (b : Fin 8) (T : Fin 2048) (k : Fin 128) : val_main_v325 (F := Ideal) X G W (ix3 b T k)
    = Ideal.div (wref X G W b T (⟨256 + k.val, by omega⟩ : Fin 512) 7) (cref T 8#32) := by
  rw [← tot_2]
  unfold cref
  pointwise [val_main_v325, val_main_v324, val_main_v323, val_main_v322, val_main_v321, val_main_v320, val_main_v319, val_main_v318, val_main_v276, val_main_c_25, val_main_c_26]

/-- The window sum of group 3. -/
theorem tot_3 (b : Fin 8) (T : Fin 2048) (k : Fin 128) : val_main_v356 (F := Ideal) X G W (ix3 b T k) = wref X G W b T (⟨384 + k.val, by omega⟩ : Fin 512) 15 := by
  simp only [wref]
  pointwise [val_main_v356, val_main_v355, val_main_v354, val_main_v353, val_main_v352, val_main_v351, val_main_v350, val_main_v349, val_main_v348, val_main_v347, val_main_v346, val_main_v345, val_main_v344, val_main_v343, val_main_v342, val_main_v341, val_main_v340, val_main_v339, val_main_v338, val_main_v337, val_main_v336, val_main_v335, val_main_v334, val_main_v333, val_main_v332, val_main_v331, val_main_v330, val_main_v329, val_main_v328, val_main_v327, val_main_v326]
  simp (discharger := decide) only [ext_at, back_at, Nat.reduceSub, Nat.zero_add]

/-- The window mean of group 3. -/
theorem mean_3 (b : Fin 8) (T : Fin 2048) (k : Fin 128) : val_main_v364 (F := Ideal) X G W (ix3 b T k)
    = Ideal.div (wref X G W b T (⟨384 + k.val, by omega⟩ : Fin 512) 15) (cref T 16#32) := by
  rw [← tot_3]
  unfold cref
  pointwise [val_main_v364, val_main_v363, val_main_v362, val_main_v361, val_main_v360, val_main_v359, val_main_v358, val_main_v357, val_main_v276, val_main_c_27, val_main_c_28]

/-- The trailing means, group after group. -/
theorem mean_at (b : Fin 8) (T : Fin 2048) (g : Fin 4) (k : Fin 128) : val_main_v365 (F := Ideal) X G W (ix3 b T (⟨g.val * 128 + k.val, by omega⟩ : Fin 512))
    = Ideal.div (wref X G W b T (⟨g.val * 128 + k.val, by omega⟩ : Fin 512) (2 ^ (g.val + 1) - 1)) (cref T (BitVec.ofNat 32 (2 ^ (g.val + 1)))) := by
  match g with
  | ⟨0, _⟩ =>
    have h : val_main_v365 (F := Ideal) X G W (ix3 b T (⟨0 + k.val, by omega⟩ : Fin 512)) = val_main_v287 (F := Ideal) X G W (ix3 b T k) := by pointwise [val_main_v365]
    exact h.trans (mean_0 X G W b T k)
  | ⟨1, _⟩ =>
    have h : val_main_v365 (F := Ideal) X G W (ix3 b T (⟨128 + k.val, by omega⟩ : Fin 512)) = val_main_v302 (F := Ideal) X G W (ix3 b T k) := by pointwise [val_main_v365]
    exact h.trans (mean_1 X G W b T k)
  | ⟨2, _⟩ =>
    have h : val_main_v365 (F := Ideal) X G W (ix3 b T (⟨256 + k.val, by omega⟩ : Fin 512)) = val_main_v325 (F := Ideal) X G W (ix3 b T k) := by
      pointwise [val_main_v365]
      rw [dif_neg (by omega), dif_neg (by omega), dif_pos (by omega)]
      exact congrArg (fun k => val_main_v325 (F := Ideal) X G W (ix3 b T k)) (Fin.ext (by show 256 + k.val - 128 - 128 = k.val; omega))
    exact h.trans (mean_2 X G W b T k)
  | ⟨3, _⟩ =>
    have h : val_main_v365 (F := Ideal) X G W (ix3 b T (⟨384 + k.val, by omega⟩ : Fin 512)) = val_main_v364 (F := Ideal) X G W (ix3 b T k) := by
      pointwise [val_main_v365]
      rw [dif_neg (by omega), dif_neg (by omega), dif_neg (by omega)]
      exact congrArg (fun k => val_main_v364 (F := Ideal) X G W (ix3 b T k)) (Fin.ext (by show 384 + k.val - 128 - 128 - 128 = k.val; omega))
    exact h.trans (mean_3 X G W b T k)
  | ⟨m + 4, hm⟩ => exact absurd hm (by omega)

end Cert.ReferenceIdeal.Mix

end
-- ==== Proof.MixerRefY.lean ====
module

public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Mix

open Cert.ReferenceIdeal Cert.ReferenceIdeal.Read

variable (X : (⟨S8x2048x1024, .f32⟩ : BufTy).Contents (Elt Ideal)) (G : (⟨S1024, .f32⟩ : BufTy).Contents (Elt Ideal))
  (W : (⟨S1024x5632, .f32⟩ : BufTy).Contents (Elt Ideal))

variable (WP : (⟨S4x128x256, .f32⟩ : BufTy).Contents (Elt Ideal)) (SC : (⟨S1024, .f32⟩ : BufTy).Contents (Elt Ideal))
  (WO : (⟨S1024x1024, .f32⟩ : BufTy).Contents (Elt Ideal))

/-- The layer's output. -/
theorem y_ref (b : Fin 8) (T : Fin 2048) (q : Fin 1024) : val_main_v391 (F := Ideal) X G W WP SC WO (ix3 b T q)
    = X (ix3 b T q) + ∑ k : Fin 1024, (Ideal.logistic (val_main_v15 (F := Ideal) X G W (ix3 b T (⟨3584 + k.val, by omega⟩ : Fin 5632))) * val_main_v274 (F := Ideal) X G W (ix3 b T k)
      + Ideal.logistic (val_main_v15 (F := Ideal) X G W (ix3 b T (⟨4608 + k.val, by omega⟩ : Fin 5632))) * val_main_v373 (F := Ideal) X G W WP SC (ix3 b T k)) * WO (ix2 k q) := by
  unfold Ideal.logistic
  pointwise [val_main_v391, val_main_v390, val_main_v389, val_main_v388, val_main_v387, val_main_v386, val_main_v385, val_main_v384, val_main_v383, val_main_v382, val_main_v381, val_main_v380, val_main_v379, val_main_v378, val_main_v377, val_main_v376, val_main_v375, val_main_cst_29, val_main_cst_30, val_main_cst_31, val_main_cst_32, val_main_v21, val_main_v22]

/-- The pooled branch. -/
theorem pool_ref (b : Fin 8) (T : Fin 2048) (q : Fin 1024) : val_main_v373 (F := Ideal) X G W WP SC (ix3 b T q)
    = (∑ k : Fin 128, WP (ix3 (⟨q.val / 256, by omega⟩ : Fin 4) k (⟨q.val % 256, by omega⟩ : Fin 256))
      * (val_main_v365 (F := Ideal) X G W (ix3 b T (⟨q.val / 256 * 128 + k.val, by omega⟩ : Fin 512))
        - val_main_v15 (F := Ideal) X G W (ix3 b T (⟨3072 + (q.val / 256 * 128 + k.val), by omega⟩ : Fin 5632)))) * SC (ix1 q) := by
  pointwise [val_main_v373, val_main_v372, val_main_v371, val_main_v370, val_main_v369, val_main_v368, val_main_v367, val_main_v366, val_main_v20]

/-- The state as stored: the heads' rows one under another. -/
theorem sret_ref (b : Fin 8) (a : Fin 512) (l : Fin 128) : val_main_v392 (F := Ideal) X G W (ix3 b a l)
    = val_main_v236 (F := Ideal) X G W (ix4 b (⟨a.val / 64, by omega⟩ : Fin 8) (⟨a.val % 64, by omega⟩ : Fin 64) l) := by
  pointwise [val_main_v392]

end Cert.ReferenceIdeal.Mix

end
-- ==== Proof.MixerJoinP.lean ====
module

public import proofs.«01_k».proof.Proof.MixerJoinZ
public import proofs.«01_k».proof.Proof.MixerRefP
public import proofs.«01_k».proof.Proof.MixerRefY

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read Cert.ReferenceIdeal.Mix

variable (m : (ℓ : Loc nD τ sig) → Buf (Elt Ideal) ℓ)

/-- The point before, in the same sequence. -/
abbrev prev (t : Fin cfg0.N) : Fin cfg0.N := ⟨t.val - 1, Nat.lt_of_le_of_lt (Nat.sub_le _ _) t.isLt⟩

/-- A point and the one before it lie in the same sequence, unless it starts one. -/
theorem bt_prev (t : Fin cfg0.N) (h : ¬t.val % 4 = 0) : bt (prev t) = bt t :=
  Fin.ext (by show (t.val - 1) / 4 = t.val / 4; omega)

/-- A block's pooling rows, the sixteen before them included, are the reference's. -/
theorem ext_ref (c : Dev nD) (t : Fin cfg0.N) (s : Fin 528) (hs : 1 ≤ s.val) (k : Fin 512) :
    uext (Et m c t) (ublk (Zt m c t)) (ix2 s k) = eref (aX m c) (aG m c) (aW m c) (bt t) (s.val - 1 + 512 * (t.val % 4)) k := by
  have hN : t.val < 32 := t.isLt
  have hs' := s.isLt
  by_cases h : s.val < 16
  · refine (dif_pos h).trans ?_
    by_cases h0 : t.val % 4 = 0
    · rw [Et_first m c t h0, eref, dif_neg (by omega)]
    · rw [Et_later m c t h0, eref, dif_pos (by omega)]
      refine (e_at m c (prev t) s k h).trans ?_
      rw [zp_at m c (prev t) _ _ (by show 1024 ≤ 3072 + k.val; omega), bt_prev t h0]
      exact congrArg (fun T => val_main_v15 (F := Ideal) (aX m c) (aG m c) (aW m c) (ix3 (bt t) T (⟨3072 + k.val, by omega⟩ : Fin 5632)))
        (Fin.ext (by show 512 * ((t.val - 1) % 4) + (496 + s.val) = s.val - 1 + 512 * (t.val % 4) - 15; omega))
  · refine (dif_neg h).trans ?_
    rw [eref, dif_pos (by omega)]
    refine (zp_at m c t (⟨s.val - 16, by omega⟩ : Fin 512) (⟨3072 + k.val, by omega⟩ : Fin 5632) (by show 1024 ≤ 3072 + k.val; omega)).trans ?_
    exact congrArg (fun T => val_main_v15 (F := Ideal) (aX m c) (aG m c) (aW m c) (ix3 (bt t) T (⟨3072 + k.val, by omega⟩ : Fin 5632)))
      (Fin.ext (by show 512 * (t.val % 4) + (s.val - 16) = s.val - 1 + 512 * (t.val % 4) - 15; omega))

/-- A block's trailing sums are the reference's. -/
theorem wacc_ref (c : Dev nD) (t : Fin cfg0.N) (r : Fin 512) (k : Fin 512) (j : ℕ) (hj : j ≤ 15) :
    wacc (uext (Et m c t) (ublk (Zt m c t))) r k j = wref (aX m c) (aG m c) (aW m c) (bt t) (Tt t r) k j := by
  induction j with
  | zero =>
    refine (ext_ref m c t _ (by show 1 ≤ 16 + r.val; omega) k).trans ?_
    exact congrArg (fun j => eref (aX m c) (aG m c) (aW m c) (bt t) j k)
      (by show 16 + r.val - 1 + 512 * (t.val % 4) = 15 + (512 * (t.val % 4) + r.val); omega)
  | succ j ih =>
    refine Ideal.add_congr (ih (by omega)) ?_
    refine (ext_ref m c t _ (by show 1 ≤ 16 + r.val - (j + 1); omega) k).trans ?_
    exact congrArg (fun j => eref (aX m c) (aG m c) (aW m c) (bt t) j k)
      (by show 16 + r.val - (j + 1) - 1 + 512 * (t.val % 4) = 15 + (512 * (t.val % 4) + r.val) - (j + 1); omega)

/-- The second grid coordinate is the remainder by four. -/
theorem coord_at : ∀ t : Fin cfg0.N, (grid0.coords t 1).val = t.val % 4 := (by decide +kernel : ∀ t : Fin grid0.N, _)

/-- The position of a row, computed in machine words. -/
theorem word_at (k r : ℕ) : BitVec.ofNat 32 k * 512#32 + BitVec.ofNat 32 r = BitVec.ofNat 32 (512 * k + r) := by
  apply BitVec.eq_of_toNat_eq
  simp only [BitVec.toNat_add, BitVec.toNat_mul, BitVec.toNat_ofNat]
  omega

/-- The kernel's row counts are the reference's. -/
theorem cnt_ref (t : Fin cfg0.N) (r : Fin 512) (w : BitVec 32) : cntv (BitVec.ofNat 32 (grid0.coords t 1).val) r w = cref (Tt t r) w := by
  unfold cntv cref
  rw [coord_at t, show IntOp.addi (Scalar.muli (BitVec.ofNat 32 (t.val % 4)) 512#32) (BitVec.ofNat 32 r.val) = BitVec.ofNat 32 (512 * (t.val % 4) + r.val)
    from word_at _ _]

/-- A block's pooled branch is the reference's. -/
theorem poolv_ref (c : Dev nD) (t : Fin cfg0.N) (r : Fin 512) (q : Fin 1024) :
    poolv (uext (Et m c t) (ublk (Zt m c t))) (BitVec.ofNat 32 (grid0.coords t 1).val) (iblk m c 3 t) (iblk m c 4 t) r q
    = val_main_v373 (F := Ideal) (aX m c) (aG m c) (aW m c) (m ((c : Thread nD τ).loc main_arg3)) (m ((c : Thread nD τ).loc main_arg4)) (ix3 (bt t) (Tt t r) q) := by
  have hq := q.isLt
  rw [pool_ref]
  unfold poolv poolg
  have e4 : (⟨256 * (q.val / 256) + q.val % 256, by omega⟩ : Fin 1024) = q := Fin.ext (by show 256 * (q.val / 256) + q.val % 256 = q.val; omega)
  refine Ideal.mul_congr (Finset.sum_congr rfl fun k _ => ?_) ?_
  · have ek : (⟨128 * (q.val / 256) + k.val, by omega⟩ : Fin 512) = ⟨q.val / 256 * 128 + k.val, by omega⟩ :=
      Fin.ext (by show 128 * (q.val / 256) + k.val = q.val / 256 * 128 + k.val; omega)
    have ew : 2 ^ (q.val / 256 + 1) - 1 ≤ 15 := by
      have h4 : q.val / 256 < 4 := by omega
      generalize q.val / 256 = g at h4
      match g, h4 with
      | 0, _ => decide
      | 1, _ => decide
      | 2, _ => decide
      | 3, _ => decide
    rw [show (⟨q.val / 256 * 128 + k.val, by omega⟩ : Fin 512) = ⟨(⟨q.val / 256, by omega⟩ : Fin 4).val * 128 + k.val, by omega⟩ from rfl,
      mean_at, ← wacc_ref m c t r _ _ ew, ← cnt_ref t r]
    refine (mul_comm _ _).trans (Ideal.mul_congr ?_ ?_)
    · exact (blk_3 m c t _ _ _).trans (tab_3 m c _ _ _)
    · show Ideal.div (wacc _ r (⟨128 * (q.val / 256) + k.val, by omega⟩ : Fin 512) _) _ - wacc (uext (Et m c t) (ublk (Zt m c t))) r (⟨128 * (q.val / 256) + k.val, by omega⟩ : Fin 512) 0 = _
      rw [ek, wacc_ref m c t r _ 0 (by omega)]
      refine congrArg (fun x => Ideal.div _ _ - x) ?_
      rw [wref, eref, dif_pos (by show 15 ≤ 15 + (512 * (t.val % 4) + r.val) ∧ 15 + (512 * (t.val % 4) + r.val) < 2063; omega)]
      exact congrArg (fun T => val_main_v15 (F := Ideal) (aX m c) (aG m c) (aW m c) (ix3 (bt t) T (⟨3072 + (q.val / 256 * 128 + k.val), by omega⟩ : Fin 5632)))
        (Fin.ext (by show 15 + (512 * (t.val % 4) + r.val) - 15 = 512 * (t.val % 4) + r.val; omega))
  · refine (blk_4 m c t _).trans ((tab_4 m c _).trans ?_)
    exact congrArg (fun x => m ((c : Thread nD τ).loc main_arg4) (ix1 x)) e4

end Cert.KernelIdeal.Mix

end
-- ==== Proof.MixerRefS.lean ====
module

public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Mix

open Cert.ReferenceIdeal Cert.ReferenceIdeal.Read

variable (X : (⟨S8x2048x1024, .f32⟩ : BufTy).Contents (Elt Ideal)) (G : (⟨S1024, .f32⟩ : BufTy).Contents (Elt Ideal))
  (W : (⟨S1024x5632, .f32⟩ : BufTy).Contents (Elt Ideal))

/-- A chunk's update of the state. -/
theorem upd_at (n : Fin 16) (b H : Fin 8) (k : Fin 64) (v : Fin 128) : val_main_v140 (F := Ideal) X G W (ix5 n b H k v)
    = ∑ j : Fin 128, val_main_v80 (F := Ideal) X G W (ix4 b (⟨n.val * 128 + j.val, by omega⟩ : Fin 2048) H k) * val_main_v123 (F := Ideal) (ix2 H j)
      * val_main_v15 (F := Ideal) X G W (ix3 b (⟨n.val * 128 + j.val, by omega⟩ : Fin 2048) (⟨1024 + (H.val * 128 + v.val), by omega⟩ : Fin 5632)) := by
  pointwise [val_main_v140, val_main_v139, val_main_v138, val_main_v137, val_main_v132, val_main_v131, val_main_v130, val_main_v129, val_main_v81, val_main_v18]

/-- The retention state before chunk `n`. -/
def sref (b H : Fin 8) (k : Fin 64) (v : Fin 128) : ℕ → EReal
  | 0 => 0
  | n + 1 => sref b H k v n * val_main_v126 (F := Ideal) (ix1 H) + val_main_v140 (F := Ideal) X G W (ix5 (⟨n % 16, by omega⟩ : Fin 16) b H k v)

variable (b H : Fin 8) (k : Fin 64) (v : Fin 128)

/-- The state starts at zero. -/
theorem st_0 : val_main_v0 (F := Ideal) (ix4 b H k v) = sref X G W b H k v 0 := by
  unfold sref
  pointwise [val_main_v0, val_main_cst]

/-- The state after 1 chunk. -/
theorem st_1 : val_main_v146 (F := Ideal) X G W (ix4 b H k v) = sref X G W b H k v 1 := by
  show _ = sref X G W b H k v 0 * _ + _
  rw [← st_0]
  pointwise [val_main_v146, val_main_v145, val_main_v144, val_main_v143, val_main_v142, val_main_v141]

/-- The state after 2 chunks. -/
theorem st_2 : val_main_v152 (F := Ideal) X G W (ix4 b H k v) = sref X G W b H k v 2 := by
  show _ = sref X G W b H k v 1 * _ + _
  rw [← st_1]
  pointwise [val_main_v152, val_main_v151, val_main_v150, val_main_v149, val_main_v148, val_main_v147]

/-- The state after 3 chunks. -/
theorem st_3 : val_main_v158 (F := Ideal) X G W (ix4 b H k v) = sref X G W b H k v 3 := by
  show _ = sref X G W b H k v 2 * _ + _
  rw [← st_2]
  pointwise [val_main_v158, val_main_v157, val_main_v156, val_main_v155, val_main_v154, val_main_v153]

/-- The state after 4 chunks. -/
theorem st_4 : val_main_v164 (F := Ideal) X G W (ix4 b H k v) = sref X G W b H k v 4 := by
  show _ = sref X G W b H k v 3 * _ + _
  rw [← st_3]
  pointwise [val_main_v164, val_main_v163, val_main_v162, val_main_v161, val_main_v160, val_main_v159]

/-- The state after 5 chunks. -/
theorem st_5 : val_main_v170 (F := Ideal) X G W (ix4 b H k v) = sref X G W b H k v 5 := by
  show _ = sref X G W b H k v 4 * _ + _
  rw [← st_4]
  pointwise [val_main_v170, val_main_v169, val_main_v168, val_main_v167, val_main_v166, val_main_v165]

/-- The state after 6 chunks. -/
theorem st_6 : val_main_v176 (F := Ideal) X G W (ix4 b H k v) = sref X G W b H k v 6 := by
  show _ = sref X G W b H k v 5 * _ + _
  rw [← st_5]
  pointwise [val_main_v176, val_main_v175, val_main_v174, val_main_v173, val_main_v172, val_main_v171]

/-- The state after 7 chunks. -/
theorem st_7 : val_main_v182 (F := Ideal) X G W (ix4 b H k v) = sref X G W b H k v 7 := by
  show _ = sref X G W b H k v 6 * _ + _
  rw [← st_6]
  pointwise [val_main_v182, val_main_v181, val_main_v180, val_main_v179, val_main_v178, val_main_v177]

/-- The state after 8 chunks. -/
theorem st_8 : val_main_v188 (F := Ideal) X G W (ix4 b H k v) = sref X G W b H k v 8 := by
  show _ = sref X G W b H k v 7 * _ + _
  rw [← st_7]
  pointwise [val_main_v188, val_main_v187, val_main_v186, val_main_v185, val_main_v184, val_main_v183]

/-- The state after 9 chunks. -/
theorem st_9 : val_main_v194 (F := Ideal) X G W (ix4 b H k v) = sref X G W b H k v 9 := by
  show _ = sref X G W b H k v 8 * _ + _
  rw [← st_8]
  pointwise [val_main_v194, val_main_v193, val_main_v192, val_main_v191, val_main_v190, val_main_v189]

/-- The state after 10 chunks. -/
theorem st_10 : val_main_v200 (F := Ideal) X G W (ix4 b H k v) = sref X G W b H k v 10 := by
  show _ = sref X G W b H k v 9 * _ + _
  rw [← st_9]
  pointwise [val_main_v200, val_main_v199, val_main_v198, val_main_v197, val_main_v196, val_main_v195]

/-- The state after 11 chunks. -/
theorem st_11 : val_main_v206 (F := Ideal) X G W (ix4 b H k v) = sref X G W b H k v 11 := by
  show _ = sref X G W b H k v 10 * _ + _
  rw [← st_10]
  pointwise [val_main_v206, val_main_v205, val_main_v204, val_main_v203, val_main_v202, val_main_v201]

/-- The state after 12 chunks. -/
theorem st_12 : val_main_v212 (F := Ideal) X G W (ix4 b H k v) = sref X G W b H k v 12 := by
  show _ = sref X G W b H k v 11 * _ + _
  rw [← st_11]
  pointwise [val_main_v212, val_main_v211, val_main_v210, val_main_v209, val_main_v208, val_main_v207]

/-- The state after 13 chunks. -/
theorem st_13 : val_main_v218 (F := Ideal) X G W (ix4 b H k v) = sref X G W b H k v 13 := by
  show _ = sref X G W b H k v 12 * _ + _
  rw [← st_12]
  pointwise [val_main_v218, val_main_v217, val_main_v216, val_main_v215, val_main_v214, val_main_v213]

/-- The state after 14 chunks. -/
theorem st_14 : val_main_v224 (F := Ideal) X G W (ix4 b H k v) = sref X G W b H k v 14 := by
  show _ = sref X G W b H k v 13 * _ + _
  rw [← st_13]
  pointwise [val_main_v224, val_main_v223, val_main_v222, val_main_v221, val_main_v220, val_main_v219]

/-- The state after 15 chunks. -/
theorem st_15 : val_main_v230 (F := Ideal) X G W (ix4 b H k v) = sref X G W b H k v 15 := by
  show _ = sref X G W b H k v 14 * _ + _
  rw [← st_14]
  pointwise [val_main_v230, val_main_v229, val_main_v228, val_main_v227, val_main_v226, val_main_v225]

/-- The state after 16 chunks. -/
theorem st_16 : val_main_v236 (F := Ideal) X G W (ix4 b H k v) = sref X G W b H k v 16 := by
  show _ = sref X G W b H k v 15 * _ + _
  rw [← st_15]
  pointwise [val_main_v236, val_main_v235, val_main_v234, val_main_v233, val_main_v232, val_main_v231]

/-- The states stacked: each chunk's the one before it. -/
theorem stack_at (n : Fin 16) : val_main_v254 (F := Ideal) X G W (ix5 n b H k v) = sref X G W b H k v n.val := by
  match n with
  | ⟨0, _⟩ => rw [show val_main_v254 (F := Ideal) X G W (ix5 (⟨0, by omega⟩ : Fin 16) b H k v) = val_main_v0 (F := Ideal) (ix4 b H k v) from by pointwise [val_main_v254, val_main_v238]]; exact st_0 X G W b H k v
  | ⟨1, _⟩ => rw [show val_main_v254 (F := Ideal) X G W (ix5 (⟨1, by omega⟩ : Fin 16) b H k v) = val_main_v146 (F := Ideal) X G W (ix4 b H k v) from by pointwise [val_main_v254, val_main_v239]]; exact st_1 X G W b H k v
  | ⟨2, _⟩ => rw [show val_main_v254 (F := Ideal) X G W (ix5 (⟨2, by omega⟩ : Fin 16) b H k v) = val_main_v152 (F := Ideal) X G W (ix4 b H k v) from by pointwise [val_main_v254, val_main_v240]]; exact st_2 X G W b H k v
  | ⟨3, _⟩ => rw [show val_main_v254 (F := Ideal) X G W (ix5 (⟨3, by omega⟩ : Fin 16) b H k v) = val_main_v158 (F := Ideal) X G W (ix4 b H k v) from by pointwise [val_main_v254, val_main_v241]]; exact st_3 X G W b H k v
  | ⟨4, _⟩ => rw [show val_main_v254 (F := Ideal) X G W (ix5 (⟨4, by omega⟩ : Fin 16) b H k v) = val_main_v164 (F := Ideal) X G W (ix4 b H k v) from by pointwise [val_main_v254, val_main_v242]]; exact st_4 X G W b H k v
  | ⟨5, _⟩ => rw [show val_main_v254 (F := Ideal) X G W (ix5 (⟨5, by omega⟩ : Fin 16) b H k v) = val_main_v170 (F := Ideal) X G W (ix4 b H k v) from by pointwise [val_main_v254, val_main_v243]]; exact st_5 X G W b H k v
  | ⟨6, _⟩ => rw [show val_main_v254 (F := Ideal) X G W (ix5 (⟨6, by omega⟩ : Fin 16) b H k v) = val_main_v176 (F := Ideal) X G W (ix4 b H k v) from by pointwise [val_main_v254, val_main_v244]]; exact st_6 X G W b H k v
  | ⟨7, _⟩ => rw [show val_main_v254 (F := Ideal) X G W (ix5 (⟨7, by omega⟩ : Fin 16) b H k v) = val_main_v182 (F := Ideal) X G W (ix4 b H k v) from by pointwise [val_main_v254, val_main_v245]]; exact st_7 X G W b H k v
  | ⟨8, _⟩ => rw [show val_main_v254 (F := Ideal) X G W (ix5 (⟨8, by omega⟩ : Fin 16) b H k v) = val_main_v188 (F := Ideal) X G W (ix4 b H k v) from by pointwise [val_main_v254, val_main_v246]]; exact st_8 X G W b H k v
  | ⟨9, _⟩ => rw [show val_main_v254 (F := Ideal) X G W (ix5 (⟨9, by omega⟩ : Fin 16) b H k v) = val_main_v194 (F := Ideal) X G W (ix4 b H k v) from by pointwise [val_main_v254, val_main_v247]]; exact st_9 X G W b H k v
  | ⟨10, _⟩ => rw [show val_main_v254 (F := Ideal) X G W (ix5 (⟨10, by omega⟩ : Fin 16) b H k v) = val_main_v200 (F := Ideal) X G W (ix4 b H k v) from by pointwise [val_main_v254, val_main_v248]]; exact st_10 X G W b H k v
  | ⟨11, _⟩ => rw [show val_main_v254 (F := Ideal) X G W (ix5 (⟨11, by omega⟩ : Fin 16) b H k v) = val_main_v206 (F := Ideal) X G W (ix4 b H k v) from by pointwise [val_main_v254, val_main_v249]]; exact st_11 X G W b H k v
  | ⟨12, _⟩ => rw [show val_main_v254 (F := Ideal) X G W (ix5 (⟨12, by omega⟩ : Fin 16) b H k v) = val_main_v212 (F := Ideal) X G W (ix4 b H k v) from by pointwise [val_main_v254, val_main_v250]]; exact st_12 X G W b H k v
  | ⟨13, _⟩ => rw [show val_main_v254 (F := Ideal) X G W (ix5 (⟨13, by omega⟩ : Fin 16) b H k v) = val_main_v218 (F := Ideal) X G W (ix4 b H k v) from by pointwise [val_main_v254, val_main_v251]]; exact st_13 X G W b H k v
  | ⟨14, _⟩ => rw [show val_main_v254 (F := Ideal) X G W (ix5 (⟨14, by omega⟩ : Fin 16) b H k v) = val_main_v224 (F := Ideal) X G W (ix4 b H k v) from by pointwise [val_main_v254, val_main_v252]]; exact st_14 X G W b H k v
  | ⟨15, _⟩ => rw [show val_main_v254 (F := Ideal) X G W (ix5 (⟨15, by omega⟩ : Fin 16) b H k v) = val_main_v230 (F := Ideal) X G W (ix4 b H k v) from by pointwise [val_main_v254, val_main_v253]]; exact st_15 X G W b H k v
  | ⟨m + 16, hm⟩ => exact absurd hm (by omega)

end Cert.ReferenceIdeal.Mix

end
-- ==== Proof.MixerJoinS.lean ====
module

public import proofs.«01_k».proof.Proof.MixerJoinP
public import proofs.«01_k».proof.Proof.MixerRefS

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read Cert.ReferenceIdeal.Mix

variable (m : (ℓ : Loc nD τ sig) → Buf (Elt Ideal) ℓ)

/-- One chunk's addition to the state is the reference's. -/
theorem add_ref (c : Dev nD) (t : Fin cfg0.N) (p : Fin 4) (n : ℕ) (hn : n < 4) (r l : Fin 128) :
    ∑ i : Fin 128, Zt m c t (ix2 (⟨(128 * n + i.val) % 512, by omega⟩ : Fin 512) (⟨512 + 128 * p.val + r.val, by omega⟩ : Fin 5632)) * iblk m c 10 t (ix3 p i r)
      * Zt m c t (ix2 (⟨(128 * n + i.val) % 512, by omega⟩ : Fin 512) (⟨1024 + 256 * p.val + 128 * (r.val / 64) + l.val, by omega⟩ : Fin 5632))
    = val_main_v140 (F := Ideal) (aX m c) (aG m c) (aW m c) (ix5 (⟨(4 * (t.val % 4) + n) % 16, by omega⟩ : Fin 16) (bt t)
        (⟨p.val * 2 + r.val / 64, by omega⟩ : Fin 8) (⟨r.val % 64, by omega⟩ : Fin 64) l) := by
  rw [upd_at]
  refine Finset.sum_congr rfl fun i _ => ?_
  have eT : Tt t (⟨(128 * n + i.val) % 512, by omega⟩ : Fin 512) = (⟨(4 * (t.val % 4) + n) % 16 * 128 + i.val, by omega⟩ : Fin 2048) :=
    Fin.ext (by show 512 * (t.val % 4) + (128 * n + i.val) % 512 = (4 * (t.val % 4) + n) % 16 * 128 + i.val; omega)
  refine Ideal.mul_congr (Ideal.mul_congr ?_ ?_) ?_
  · rw [zkk_at m c t _ p r, eT]
  · exact (blk_10 m c t p i r).trans (tab_10 m c p i r)
  · rw [zp_at m c t _ _ (by show 1024 ≤ 1024 + 256 * p.val + 128 * (r.val / 64) + l.val; omega), eT]
    exact congrArg (fun q => val_main_v15 (F := Ideal) (aX m c) (aG m c) (aW m c) (ix3 (bt t) (⟨(4 * (t.val % 4) + n) % 16 * 128 + i.val, by omega⟩ : Fin 2048) q))
      (Fin.ext (by show 1024 + 256 * p.val + 128 * (r.val / 64) + l.val = 1024 + ((p.val * 2 + r.val / 64) * 128 + l.val); omega))

/-- From the state a grid point starts with, its chunks' states are the reference's. -/
theorem stv_from (c : Dev nD) (t : Fin cfg0.N)
    (h0 : ∀ (p : Fin 4) (r l : Fin 128), S0t m c t p r l = sref (aX m c) (aG m c) (aW m c) (bt t) (⟨p.val * 2 + r.val / 64, by omega⟩ : Fin 8)
      (⟨r.val % 64, by omega⟩ : Fin 64) l (4 * (t.val % 4)))
    (p : Fin 4) (n : ℕ) (hn : n ≤ 4) (r l : Fin 128) :
    stv (Zt m c t) (iblk m c 10 t) (iblk m c 11 t) (S0t m c t) p n r l
    = sref (aX m c) (aG m c) (aW m c) (bt t) (⟨p.val * 2 + r.val / 64, by omega⟩ : Fin 8) (⟨r.val % 64, by omega⟩ : Fin 64) l (4 * (t.val % 4) + n) := by
  induction n with
  | zero => exact h0 p r l
  | succ n ih =>
    refine Ideal.add_congr (Ideal.mul_congr (ih (by omega)) ?_) (add_ref m c t p n (by omega) r l)
    exact (blk_11 m c t p r l).trans (tab_11 m c p r l)

/-- The state a grid point starts with is the reference's at its first chunk. -/
theorem start_ref (c : Dev nD) (k : ℕ) : ∀ (t : Fin cfg0.N), t.val % 4 = k → ∀ (p : Fin 4) (r l : Fin 128),
    S0t m c t p r l = sref (aX m c) (aG m c) (aW m c) (bt t) (⟨p.val * 2 + r.val / 64, by omega⟩ : Fin 8) (⟨r.val % 64, by omega⟩ : Fin 64) l (4 * (t.val % 4)) := by
  induction k with
  | zero =>
    intro t ht p r l
    rw [S0t_first m c t ht, ht]
    rfl
  | succ k ih =>
    intro t ht p r l
    rw [S0t_later m c t (by omega)]
    refine (s_at m c (prev t) p r l).trans ((stv_from m c (prev t) (ih (prev t) (by show (t.val - 1) % 4 = k; omega)) p 4 (le_refl 4) r l).trans ?_)
    rw [bt_prev t (by omega)]
    exact congrArg (sref (aX m c) (aG m c) (aW m c) (bt t) (⟨p.val * 2 + r.val / 64, by omega⟩ : Fin 8) (⟨r.val % 64, by omega⟩ : Fin 64) l)
      (by show 4 * ((t.val - 1) % 4) + 4 = 4 * (t.val % 4); omega)

/-- A grid point's states are the reference's. -/
theorem stv_ref (c : Dev nD) (t : Fin cfg0.N) (p : Fin 4) (n : ℕ) (hn : n ≤ 4) (r l : Fin 128) :
    stv (Zt m c t) (iblk m c 10 t) (iblk m c 11 t) (S0t m c t) p n r l
    = sref (aX m c) (aG m c) (aW m c) (bt t) (⟨p.val * 2 + r.val / 64, by omega⟩ : Fin 8) (⟨r.val % 64, by omega⟩ : Fin 64) l (4 * (t.val % 4) + n) :=
  stv_from m c t (start_ref m c _ t rfl) p n hn r l

end Cert.KernelIdeal.Mix

end
-- ==== Proof.MixerRefO.lean ====
module

public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Mix

open Cert.ReferenceIdeal Cert.ReferenceIdeal.Read

variable (X : (⟨S8x2048x1024, .f32⟩ : BufTy).Contents (Elt Ideal)) (G : (⟨S1024, .f32⟩ : BufTy).Contents (Elt Ideal))
  (W : (⟨S1024x5632, .f32⟩ : BufTy).Contents (Elt Ideal))

variable (n : Fin 16) (b H : Fin 8)

/-- A query cut into chunks. -/
theorem qc_at (i : Fin 128) (r : Fin 64) : val_main_v128 (F := Ideal) X G W (ix5 n b H i r) = val_main_v51 (F := Ideal) X G W (ix4 b (⟨n.val * 128 + i.val, by omega⟩ : Fin 2048) H r) := by
  rw [val_main_v128_apply, val_main_v127_apply]
  refine congrArg (val_main_v51 (F := Ideal) X G W) (funext fun a => ?_)
  have hn := n.isLt; have hb := b.isLt; have hH := H.isLt; have hi := i.isLt; have hr := r.isLt
  match a with
  | ⟨0, _⟩ => exact Fin.ext (by show ((((b.val * 16 + n.val) * 128 + i.val) * 8 + H.val) * 64 + r.val) / 1048576 = b.val; omega)
  | ⟨1, _⟩ => exact Fin.ext (by show ((((b.val * 16 + n.val) * 128 + i.val) * 8 + H.val) * 64 + r.val) / 512 % 2048 = n.val * 128 + i.val; omega)
  | ⟨2, _⟩ => exact Fin.ext (by show ((((b.val * 16 + n.val) * 128 + i.val) * 8 + H.val) * 64 + r.val) / 64 % 8 = H.val; omega)
  | ⟨3, _⟩ => exact Fin.ext (by show ((((b.val * 16 + n.val) * 128 + i.val) * 8 + H.val) * 64 + r.val) % 64 = r.val; omega)

/-- A key cut into chunks. -/
theorem kc_at (j : Fin 128) (r : Fin 64) : val_main_v130 (F := Ideal) X G W (ix5 n b H j r) = val_main_v80 (F := Ideal) X G W (ix4 b (⟨n.val * 128 + j.val, by omega⟩ : Fin 2048) H r) := by
  unfold val_main_v130 val_main_v129
  generalize val_main_v80 (F := Ideal) X G W = A
  pointwise []

/-- A value cut into chunks. -/
theorem vc_at (j l : Fin 128) : val_main_v132 (F := Ideal) X G W (ix5 n b H j l)
    = val_main_v15 (F := Ideal) X G W (ix3 b (⟨n.val * 128 + j.val, by omega⟩ : Fin 2048) (⟨1024 + (H.val * 128 + l.val), by omega⟩ : Fin 5632)) := by
  pointwise [val_main_v132, val_main_v131, val_main_v81, val_main_v18]

/-- The decay inside a chunk, the same for every chunk and sequence. -/
theorem dm_at (i j : Fin 128) : val_main_v135 (F := Ideal) (ix5 n b H i j) = val_main_v107 (F := Ideal) (ix3 H i j) := by
  pointwise [val_main_v135, val_main_v134]

/-- The decay from the state, the same for every chunk, sequence and lane. -/
theorem xi_at (i l : Fin 128) : val_main_v257 (F := Ideal) (ix5 n b H i l) = val_main_v115 (F := Ideal) (ix2 H i) := by
  pointwise [val_main_v257, val_main_v256]

/-- The scores inside a chunk before the decay. -/
theorem sc_at (i j : Fin 128) : val_main_v133 (F := Ideal) X G W (ix5 n b H i j)
    = ∑ r : Fin 64, val_main_v128 (F := Ideal) X G W (ix5 n b H i r) * val_main_v130 (F := Ideal) X G W (ix5 n b H j r) := by
  unfold val_main_v133
  generalize val_main_v128 (F := Ideal) X G W = A
  generalize val_main_v130 (F := Ideal) X G W = B
  pointwise []

/-- The part of the output from inside the chunk. -/
theorem in_at (i l : Fin 128) : val_main_v237 (F := Ideal) X G W (ix5 n b H i l)
    = ∑ j : Fin 128, val_main_v133 (F := Ideal) X G W (ix5 n b H i j) * val_main_v135 (F := Ideal) (ix5 n b H i j) * val_main_v132 (F := Ideal) X G W (ix5 n b H j l) := by
  rw [val_main_v237_apply]
  refine Finset.sum_congr rfl fun j _ => ?_
  have el : lidx_main_v237 (ix5 n b H i l) j = ix5 n b H i j := funext fun a => by
    match a with | ⟨0, _⟩ => rfl | ⟨1, _⟩ => rfl | ⟨2, _⟩ => rfl | ⟨3, _⟩ => rfl | ⟨4, _⟩ => rfl
  have er : ridx_main_v237 (ix5 n b H i l) j = ix5 n b H j l := funext fun a => by
    match a with | ⟨0, _⟩ => rfl | ⟨1, _⟩ => rfl | ⟨2, _⟩ => rfl | ⟨3, _⟩ => rfl | ⟨4, _⟩ => rfl
  rw [el, er, val_main_v136_apply, Ideal.mulf_def]

/-- The part of the output from the state before the decay. -/
theorem cr_at (i l : Fin 128) : val_main_v255 (F := Ideal) X G W (ix5 n b H i l)
    = ∑ r : Fin 64, val_main_v128 (F := Ideal) X G W (ix5 n b H i r) * val_main_v254 (F := Ideal) X G W (ix5 n b H r l) := by
  unfold val_main_v255
  generalize val_main_v128 (F := Ideal) X G W = A
  generalize val_main_v254 (F := Ideal) X G W = B
  pointwise []

/-- One head's retention in one chunk, before its norm. -/
theorem o_at (i l : Fin 128) : val_main_v259 (F := Ideal) X G W (ix5 n b H i l)
    = ∑ j : Fin 128, (∑ r : Fin 64, val_main_v51 (F := Ideal) X G W (ix4 b (⟨n.val * 128 + i.val, by omega⟩ : Fin 2048) H r) * val_main_v80 (F := Ideal) X G W (ix4 b (⟨n.val * 128 + j.val, by omega⟩ : Fin 2048) H r)) * val_main_v107 (F := Ideal) (ix3 H i j)
        * val_main_v15 (F := Ideal) X G W (ix3 b (⟨n.val * 128 + j.val, by omega⟩ : Fin 2048) (⟨1024 + (H.val * 128 + l.val), by omega⟩ : Fin 5632))
      + (∑ r : Fin 64, val_main_v51 (F := Ideal) X G W (ix4 b (⟨n.val * 128 + i.val, by omega⟩ : Fin 2048) H r) * val_main_v254 (F := Ideal) X G W (ix5 n b H r l)) * val_main_v115 (F := Ideal) (ix2 H i) := by
  rw [val_main_v259_apply, Ideal.addf_def, val_main_v258_apply, Ideal.mulf_def, in_at, cr_at, xi_at]
  simp only [sc_at, qc_at, kc_at, vc_at, dm_at]

end Cert.ReferenceIdeal.Mix

end
-- ==== Proof.MixerRefX.lean ====
module

public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Mix

open Cert.ReferenceIdeal Cert.ReferenceIdeal.Read

/-- A factor that is neither negative nor infinite may be taken out of a sum. -/
theorem sum_times {n : ℕ} (f : Fin n → EReal) (x : EReal) (h0 : 0 ≤ x) (h1 : x ≠ ⊤) : ∑ r, f r * x = (∑ r, f r) * x := by
  refine Finset.induction_on (motive := fun s => ∑ r ∈ s, f r * x = (∑ r ∈ s, f r) * x) Finset.univ (by simp) fun a s ha ih => ?_
  rw [Finset.sum_insert ha, Finset.sum_insert ha, ih, EReal.right_distrib_of_nonneg_of_ne_top h0 h1]

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- An exponential of a number that is not infinite is not infinite. -/
theorem exp_ne_top {x : EReal} (h : x ≠ ⊤) : Ideal.exp x ≠ ⊤ := by
  induction x using EReal.rec with
  | bot => exact EReal.coe_ne_top 0
  | top => exact absurd rfl h
  | coe r => exact EReal.coe_ne_top _

/-- The logarithm of a number up to one is not positive. -/
theorem log_nonpos {x : EReal} (h : x ≤ 1) : Ideal.log x ≤ 0 := by
  induction x using EReal.rec with
  | bot => exact bot_le
  | top => exact absurd h (not_le.mpr (EReal.coe_lt_top 1))
  | coe r =>
    rw [Ideal.log_coe]
    split_ifs with hr
    · exact bot_le
    · exact EReal.coe_nonpos.mpr (Real.log_nonpos (not_le.mp hr).le (EReal.coe_le_coe_iff.mp h))

/-- The decay's logarithm is not positive. -/
theorem log1p_nonpos {x : EReal} (h : 0 ≤ x) : Ideal.log1p (-x) ≤ 0 := by
  refine log_nonpos ?_
  calc (1 : EReal) + -x ≤ 1 + 0 := add_le_add (le_refl _) (by rw [EReal.neg_le, neg_zero]; exact h)
    _ = 1 := add_zero _

/-- A row number of a chunk is not negative as a machine word. -/
theorem index_nonneg : ∀ i : Fin 128, 0 ≤ (BitVec.ofNat 32 i.val).toInt := by decide

/-- The decay from the state is the exponential of a number that is not positive. -/
theorem xi_form (H : Fin 8) (i : Fin 128) : ∃ x : EReal, x ≤ 0 ∧ val_main_v115 (F := Ideal) (ix2 H i) = Ideal.exp x := by
  refine ⟨Ideal.log1p (-Ideal.exp (Ideal.ofBits FTy.f32 1060205080#32 * (Ideal.ofBits FTy.f32 3231711232#32
    - FloatOps.sitofp (F := Ideal) FTy.f32 (BitVec.ofNat 32 H.val)))) * (FloatOps.sitofp (F := Ideal) FTy.f32 (BitVec.ofNat 32 i.val) + 1), ?_, ?_⟩
  · have hf : (0 : EReal) ≤ FloatOps.sitofp (F := Ideal) FTy.f32 (BitVec.ofNat 32 i.val) := by
      show (0 : EReal) ≤ (((BitVec.ofNat 32 i.val).toInt : ℝ) : EReal)
      exact EReal.coe_nonneg.mpr (Int.cast_nonneg (index_nonneg i))
    have h1 := log1p_nonpos (exp_nonneg (Ideal.ofBits FTy.f32 1060205080#32 * (Ideal.ofBits FTy.f32 3231711232#32
      - FloatOps.sitofp (F := Ideal) FTy.f32 (BitVec.ofNat 32 H.val))))
    generalize Ideal.log1p _ = a at h1 ⊢
    generalize FloatOps.sitofp (F := Ideal) FTy.f32 (BitVec.ofNat 32 i.val) = f at hf ⊢
    have h2 : 0 ≤ -a * (f + 1) := mul_nonneg (by rw [EReal.le_neg, neg_zero]; exact h1) (add_nonneg hf zero_le_one)
    rw [neg_mul, EReal.le_neg, neg_zero] at h2
    exact h2
  · pointwise [val_main_v115, val_main_v114, val_main_v112, val_main_v108, val_main_v89, val_main_v88, val_main_v87, val_main_v86, val_main_v85, val_main_cst_12, val_main_v84, val_main_v83, val_main_cst_11, val_main_v82, val_main_v113, val_main_v111, val_main_v109, val_main_v90, val_main_v110, val_main_cst_16]

/-- The decay from a chunk's start is not negative. -/
theorem xi_nonneg (H : Fin 8) (i : Fin 128) : 0 ≤ val_main_v115 (F := Ideal) (ix2 H i) := by
  obtain ⟨x, _, hx⟩ := xi_form H i
  rw [hx]
  exact exp_nonneg x

/-- The decay from a chunk's start is finite. -/
theorem xi_ne_top (H : Fin 8) (i : Fin 128) : val_main_v115 (F := Ideal) (ix2 H i) ≠ ⊤ := by
  obtain ⟨x, h, hx⟩ := xi_form H i
  rw [hx]
  exact exp_ne_top (ne_of_lt (lt_of_le_of_lt h EReal.zero_lt_top))

end Cert.ReferenceIdeal.Mix

end
-- ==== Proof.MixerJoinO.lean ====
module

public import proofs.«01_k».proof.Proof.MixerJoinS
public import proofs.«01_k».proof.Proof.MixerRefO
public import proofs.«01_k».proof.Proof.MixerRefX

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read Cert.ReferenceIdeal.Mix

variable (m : (ℓ : Loc nD τ sig) → Buf (Elt Ideal) ℓ)

/-- One head's retention in one chunk of a block is the reference's. -/
theorem attn_ref (c : Dev nD) (t : Fin cfg0.N) (H : Fin 8) (n : Fin 4) (i l : Fin 128) :
    attnZ (Zt m c t) (iblk m c 9 t) (iblk m c 8 t) (stv (Zt m c t) (iblk m c 10 t) (iblk m c 11 t) (S0t m c t)) H n i l
    = val_main_v259 (F := Ideal) (aX m c) (aG m c) (aW m c) (ix5 (⟨4 * (t.val % 4) + n.val, by omega⟩ : Fin 16) (bt t) H i l) := by
  have eT : ∀ i : Fin 128, Tt t (⟨128 * n.val + i.val, by omega⟩ : Fin 512) = (⟨(4 * (t.val % 4) + n.val) * 128 + i.val, by omega⟩ : Fin 2048) :=
    fun i => Fin.ext (by show 512 * (t.val % 4) + (128 * n.val + i.val) = (4 * (t.val % 4) + n.val) * 128 + i.val; omega)
  rw [o_at]
  unfold attnZ
  refine Ideal.add_congr (Finset.sum_congr rfl fun j _ => Ideal.mul_congr (Ideal.mul_congr (Finset.sum_congr rfl fun r _ => Ideal.mul_congr ?_ ?_) ?_) ?_) ?_
  · rw [zq_at m c t _ H r, eT]
  · rw [zk_at m c t _ H r, eT]
  · exact (blk_8 m c t H i j).trans (tab_8 m c H i j)
  · rw [zp_at m c t _ _ (by show 1024 ≤ 1024 + 128 * H.val + l.val; omega), eT]
    exact congrArg (fun q => val_main_v15 (F := Ideal) (aX m c) (aG m c) (aW m c) (ix3 (bt t) (⟨(4 * (t.val % 4) + n.val) * 128 + j.val, by omega⟩ : Fin 2048) q))
      (Fin.ext (by show 1024 + 128 * H.val + l.val = 1024 + (H.val * 128 + l.val); omega))
  · rw [← sum_times _ _ (xi_nonneg H i) (xi_ne_top H i)]
    refine Finset.sum_congr rfl fun r _ => ?_
    have e1 : (⟨H.val / 2 * 2 + (64 * (H.val % 2) + r.val) / 64, by omega⟩ : Fin 8) = H :=
      Fin.ext (by show H.val / 2 * 2 + (64 * (H.val % 2) + r.val) / 64 = H.val; omega)
    have e2 : (⟨(64 * (H.val % 2) + r.val) % 64, by omega⟩ : Fin 64) = r := Fin.ext (by show (64 * (H.val % 2) + r.val) % 64 = r.val; omega)
    refine (mul_right_comm _ _ _).trans (Ideal.mul_congr (Ideal.mul_congr ?_ ?_) ?_)
    · rw [zq_at m c t _ H r, eT]
    · rw [stack_at, stv_ref m c t _ _ (by omega)]
      simp only [e1, e2]
    · refine (blk_9 m c t _ _ _).trans ((tab_9 m c _ _ _).trans ?_)
      exact congrArg (fun H => val_main_v115 (F := Ideal) (ix2 H i)) e1

end Cert.KernelIdeal.Mix

end
-- ==== Proof.MixerRefN.lean ====
module

public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Mix

open Cert.ReferenceIdeal Cert.ReferenceIdeal.Read

variable (X : (⟨S8x2048x1024, .f32⟩ : BufTy).Contents (Elt Ideal)) (G : (⟨S1024, .f32⟩ : BufTy).Contents (Elt Ideal))
  (W : (⟨S1024x5632, .f32⟩ : BufTy).Contents (Elt Ideal))

variable (b : Fin 8) (T : Fin 2048)

/-- The retention output, its chunks laid back in a row. -/
theorem oh_at (H : Fin 8) (l : Fin 128) : val_main_v261 (F := Ideal) X G W (ix4 b T H l)
    = val_main_v259 (F := Ideal) X G W (ix5 (⟨T.val / 128, by omega⟩ : Fin 16) b H (⟨T.val % 128, by omega⟩ : Fin 128) l) := by
  unfold val_main_v261 val_main_v260
  generalize val_main_v259 (F := Ideal) X G W = A
  pointwise []

/-- The reciprocal root of the mean square over the lanes of a head. -/
theorem ms_at (H : Fin 8) : val_main_v269 (F := Ideal) X G W (ix4 b T H (0 : Fin 1))
    = Ideal.rsqrt (Ideal.div (∑ x : Fin 128, val_main_v261 (F := Ideal) X G W (ix4 b T H x) * val_main_v261 (F := Ideal) X G W (ix4 b T H x))
            (Ideal.ofBits FTy.f32 0x43000000#32) + Ideal.ofBits FTy.f32 0x358637BD#32) := by
  rw [val_main_v269_apply, val_main_v268_apply, val_main_v266_apply, val_main_v264_apply, val_main_v265_apply, val_main_v267_apply,
    val_main_v263_apply]
  have z : ∀ y, val_main_cst_19 (F := Ideal) y = 0 := fun y => by pointwise [val_main_cst_19]
  have ei : ∀ k, idx_main_v263 (idx_main_v264 (ix4 b T H (0 : Fin 1))) k = ix4 b T H k := fun k => funext fun a => by
    match a with | ⟨0, _⟩ => rfl | ⟨1, _⟩ => rfl | ⟨2, _⟩ => rfl | ⟨3, _⟩ => rfl
  have c20 : ∀ y, val_main_cst_20 (F := Ideal) y = Ideal.ofBits FTy.f32 0x43000000#32 := fun _ => rfl
  have c21 : ∀ y, val_main_cst_21 (F := Ideal) y = Ideal.ofBits FTy.f32 0x358637BD#32 := fun _ => rfl
  rw [z, zero_add, c20, c21, Ideal.hostUnary_rsqrt_def, Ideal.addf_def, Ideal.hostDivf_def]
  refine congrArg Ideal.rsqrt ?_
  refine Ideal.add_congr ?_ ?_
  · refine congrArg (fun s => Ideal.div s (Ideal.ofBits FTy.f32 0x43000000#32)) ?_
    refine Finset.sum_congr rfl fun x _ => ?_
    rw [ei, val_main_v262_apply, Ideal.mulf_def]
  · rfl

/-- The retention output normed by head. -/
theorem on_at (q : Fin 1024) : val_main_v272 (F := Ideal) X G W (ix3 b T q)
    = val_main_v261 (F := Ideal) X G W (ix4 b T (⟨q.val / 128, by omega⟩ : Fin 8) (⟨q.val % 128, by omega⟩ : Fin 128))
      * val_main_v269 (F := Ideal) X G W (ix4 b T (⟨q.val / 128, by omega⟩ : Fin 8) (0 : Fin 1)) := by
  rw [val_main_v272_apply, val_main_v271_apply, val_main_v270_apply, Ideal.mulf_def]
  have hb := b.isLt; have hT := T.isLt; have hq := q.isLt
  have e : idx_main_v272 (ix3 b T q) = ix4 b T (⟨q.val / 128, by omega⟩ : Fin 8) (⟨q.val % 128, by omega⟩ : Fin 128) := funext fun a => by
    match a with
    | ⟨0, _⟩ => exact Fin.ext (by show ((b.val * 2048 + T.val) * 1024 + q.val) / 2097152 = b.val; omega)
    | ⟨1, _⟩ => exact Fin.ext (by show ((b.val * 2048 + T.val) * 1024 + q.val) / 1024 % 2048 = T.val; omega)
    | ⟨2, _⟩ => exact Fin.ext (by show ((b.val * 2048 + T.val) * 1024 + q.val) / 128 % 8 = q.val / 128; omega)
    | ⟨3, _⟩ => exact Fin.ext (by show ((b.val * 2048 + T.val) * 1024 + q.val) % 128 = q.val % 128; omega)
  have e' : idx_main_v270 (ix4 b T (⟨q.val / 128, by omega⟩ : Fin 8) (⟨q.val % 128, by omega⟩ : Fin 128)) = ix4 b T (⟨q.val / 128, by omega⟩ : Fin 8) (0 : Fin 1) :=
    funext fun a => by match a with | ⟨0, _⟩ => rfl | ⟨1, _⟩ => rfl | ⟨2, _⟩ => rfl | ⟨3, _⟩ => rfl
  rw [e, e']

/-- The logistic of the output gate. -/
theorem sg_at (q : Fin 1024) : val_main_call3_v5 (F := Ideal) X G W (ix3 b T q)
    = Ideal.logistic (val_main_v15 (F := Ideal) X G W (ix3 b T (⟨2048 + q.val, by omega⟩ : Fin 5632))) := by
  unfold Ideal.logistic
  pointwise [val_main_call3_v5, val_main_call3_v4, val_main_call3_cst_0, val_main_call3_v3, val_main_call3_v2, val_main_call3_cst, val_main_call3_v1, val_main_call3_v0, val_main_v19]

/-- The output gate's columns of the projection. -/
theorem gg_at (q : Fin 1024) : val_main_v19 (F := Ideal) X G W (ix3 b T q) = val_main_v15 (F := Ideal) X G W (ix3 b T (⟨2048 + q.val, by omega⟩ : Fin 5632)) := by
  pointwise [val_main_v19]

/-- The gated retention, from the retention before its norm. -/
theorem ret_at (q : Fin 1024) : val_main_v274 (F := Ideal) X G W (ix3 b T q)
    = val_main_v259 (F := Ideal) X G W (ix5 (⟨T.val / 128, by omega⟩ : Fin 16) b (⟨q.val / 128, by omega⟩ : Fin 8) (⟨T.val % 128, by omega⟩ : Fin 128) (⟨q.val % 128, by omega⟩ : Fin 128))
      * Ideal.rsqrt (Ideal.div (∑ x : Fin 128, val_main_v259 (F := Ideal) X G W (ix5 (⟨T.val / 128, by omega⟩ : Fin 16) b (⟨q.val / 128, by omega⟩ : Fin 8) (⟨T.val % 128, by omega⟩ : Fin 128) x)
          * val_main_v259 (F := Ideal) X G W (ix5 (⟨T.val / 128, by omega⟩ : Fin 16) b (⟨q.val / 128, by omega⟩ : Fin 8) (⟨T.val % 128, by omega⟩ : Fin 128) x))
            (Ideal.ofBits FTy.f32 0x43000000#32) + Ideal.ofBits FTy.f32 0x358637BD#32)
      * (val_main_v15 (F := Ideal) X G W (ix3 b T (⟨2048 + q.val, by omega⟩ : Fin 5632)) * Ideal.logistic (val_main_v15 (F := Ideal) X G W (ix3 b T (⟨2048 + q.val, by omega⟩ : Fin 5632)))) := by
  rw [val_main_v274_apply, Ideal.mulf_def, val_main_v273_apply, Ideal.mulf_def, on_at, ms_at, sg_at, gg_at]
  simp only [oh_at]

end Cert.ReferenceIdeal.Mix

end
-- ==== Proof.MixerJoinY.lean ====
module

public import proofs.«01_k».proof.Proof.MixerJoinO
public import proofs.«01_k».proof.Proof.MixerRefN

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read Cert.ReferenceIdeal.Mix

variable (m : (ℓ : Loc nD τ sig) → Buf (Elt Ideal) ℓ)

/-- A block's gated retention is the reference's. -/
theorem retv_ref (c : Dev nD) (t : Fin cfg0.N) (r : Fin 512) (q : Fin 1024) :
    retv (Zt m c t) (iblk m c 9 t) (iblk m c 8 t) (stv (Zt m c t) (iblk m c 10 t) (iblk m c 11 t) (S0t m c t)) r q
    = val_main_v274 (F := Ideal) (aX m c) (aG m c) (aW m c) (ix3 (bt t) (Tt t r) q) := by
  have eN : (⟨(512 * (t.val % 4) + r.val) / 128, by omega⟩ : Fin 16) = ⟨4 * (t.val % 4) + r.val / 128, by omega⟩ :=
    Fin.ext (by show (512 * (t.val % 4) + r.val) / 128 = 4 * (t.val % 4) + r.val / 128; omega)
  have eI : (⟨(512 * (t.val % 4) + r.val) % 128, by omega⟩ : Fin 128) = ⟨r.val % 128, by omega⟩ :=
    Fin.ext (by show (512 * (t.val % 4) + r.val) % 128 = r.val % 128; omega)
  have eg : Zt m c t (ix2 r (⟨2048 + 128 * (q.val / 128) + q.val % 128, by omega⟩ : Fin 5632))
      = val_main_v15 (F := Ideal) (aX m c) (aG m c) (aW m c) (ix3 (bt t) (Tt t r) (⟨2048 + q.val, by omega⟩ : Fin 5632)) := by
    rw [zp_at m c t _ _ (by show 1024 ≤ 2048 + 128 * (q.val / 128) + q.val % 128; omega)]
    exact congrArg (fun q => val_main_v15 (F := Ideal) (aX m c) (aG m c) (aW m c) (ix3 (bt t) (Tt t r) q))
      (Fin.ext (by show 2048 + 128 * (q.val / 128) + q.val % 128 = 2048 + q.val; omega))
  rw [ret_at, eN, eI]
  unfold retv gated
  simp only [attn_ref m c t, eg]

/-- The output rows a grid point stores are the reference's. -/
theorem y_point (c : Dev nD) (t : Fin cfg0.N) (r : Fin 512) (q : Fin 1024) : (outsAt0 m c t.val t.isLt).1 (ix3 (0 : Fin 1) r q)
    = val_main_v391 (F := Ideal) (aX m c) (aG m c) (aW m c) (m ((c : Thread nD τ).loc main_arg3)) (m ((c : Thread nD τ).loc main_arg4))
      (m ((c : Thread nD τ).loc main_arg5)) (ix3 (bt t) (Tt t r) q) := by
  refine (y_at m c t r q).trans ?_
  rw [y_ref]
  unfold mixrow
  refine Ideal.add_congr (x_at m c t r q) (Finset.sum_congr rfl fun k _ => Ideal.mul_congr (Ideal.add_congr (Ideal.mul_congr ?_ ?_) (Ideal.mul_congr ?_ ?_)) ?_)
  · exact congrArg Ideal.logistic (zp_at m c t _ _ (by show 1024 ≤ 3584 + k.val; omega))
  · exact retv_ref m c t r k
  · exact congrArg Ideal.logistic (zp_at m c t _ _ (by show 1024 ≤ 4608 + k.val; omega))
  · exact poolv_ref m c t r k
  · exact (blk_5 m c t k q).trans (tab_5 m c k q)

/-- The state a sequence's last point stores is the reference's last. -/
theorem sret_point (c : Dev nD) (t : Fin cfg0.N) (h : t.val % 4 = 3) (a : Fin 512) (l : Fin 128) : (outsAt0 m c t.val t.isLt).2.1 (ix3 (0 : Fin 1) a l)
    = val_main_v392 (F := Ideal) (aX m c) (aG m c) (aW m c) (ix3 (bt t) a l) := by
  have e1 : (⟨a.val / 128 * 2 + a.val % 128 / 64, by omega⟩ : Fin 8) = ⟨a.val / 64, by omega⟩ :=
    Fin.ext (by show a.val / 128 * 2 + a.val % 128 / 64 = a.val / 64; omega)
  have e2 : (⟨a.val % 128 % 64, by omega⟩ : Fin 64) = ⟨a.val % 64, by omega⟩ := Fin.ext (by show a.val % 128 % 64 = a.val % 64; omega)
  refine (sret_at m c t (by omega) h a l).trans ?_
  rw [stv_ref m c t _ 4 (le_refl 4), sret_ref, st_16, h]
  simp only [e1, e2]

/-- The pooling rows a sequence's last point stores are the reference's. -/
theorem spool_point (c : Dev nD) (t : Fin cfg0.N) (h : t.val % 4 = 3) (j : Fin 15) (q : Fin 512) : (outsAt0 m c t.val t.isLt).2.2.1 (ix3 (0 : Fin 1) j q)
    = val_main_v374 (F := Ideal) (aX m c) (aG m c) (aW m c) (ix3 (bt t) j q) := by
  refine (spool_at m c t (by omega) h j q).trans ?_
  rw [zp_at m c t _ _ (by show 1024 ≤ 3072 + q.val; omega), spool_ref]
  exact congrArg (fun T => val_main_v15 (F := Ideal) (aX m c) (aG m c) (aW m c) (ix3 (bt t) T (⟨3072 + q.val, by omega⟩ : Fin 5632)))
    (Fin.ext (by show 512 * (t.val % 4) + (497 + j.val) = 2033 + j.val; omega))

end Cert.KernelIdeal.Mix

end
-- ==== Proof.MixerValue.lean ====
module

public import proofs.«01_k».proof.Proof.MixerJoinY

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.ReferenceIdeal.Read Cert.ReferenceIdeal.Mix

variable (m : (ℓ : Loc nD τ sig) → Buf (Elt Ideal) ℓ)

/-- The states are written back after a sequence's last block. -/
theorem flush_13 : ∀ t : Fin cfg0.N, (cfg0.win 13).flush t = true → t.val % 4 = 3 := (by decide +kernel : ∀ t : Fin grid0.N, _)

/-- The pooling rows are written back after a sequence's last block. -/
theorem flush_14 : ∀ t : Fin cfg0.N, (cfg0.win 14).flush t = true → t.val % 4 = 3 := (by decide +kernel : ∀ t : Fin grid0.N, _)

/-- The output array after the run is the reference's. -/
theorem final_y (c : Dev nD) : (dats m 0 c).arrAt 12 (cfgs 0).N
    = val_main_v391 (F := Ideal) (aX m c) (aG m c) (aW m c) (m ((c : Thread nD τ).loc main_arg3)) (m ((c : Thread nD τ).loc main_arg4))
      (m ((c : Thread nD τ).loc main_arg5)) := by
  refine (dats m 0 c).arrAt_eq_of_covers 12 _ (by decide +kernel) fun t _ y => ?_
  blk_simp
  rw [after0_12]
  have hy : (y : S1x512x1024.Idx) = ix3 (0 : Fin 1) (y 1) (y 2) := funext fun a => by
    match a with | ⟨0, _⟩ => exact Fin.ext (by have : (y 0).val < 1 := (y 0).isLt; show (y 0).val = 0; omega) | ⟨1, _⟩ => rfl | ⟨2, _⟩ => rfl
  refine (congrArg (outsAt0 m c t.val t.isLt).1 hy).trans ((y_point m c t (y 1) (y 2)).trans ?_)
  generalize val_main_v391 (F := Ideal) (aX m c) (aG m c) (aW m c) (m ((c : Thread nD τ).loc main_arg3)) (m ((c : Thread nD τ).loc main_arg4)) (m ((c : Thread nD τ).loc main_arg5)) = A
  blk_point [idx t]

/-- The state array after the run is the reference's. -/
theorem final_s (c : Dev nD) : (dats m 0 c).arrAt 13 (cfgs 0).N = val_main_v392 (F := Ideal) (aX m c) (aG m c) (aW m c) := by
  refine (dats m 0 c).arrAt_eq_of_covers 13 _ (by decide +kernel) fun t ht y => ?_
  blk_simp
  rw [after0_13]
  have hy : (y : S1x512x128.Idx) = ix3 (0 : Fin 1) (y 1) (y 2) := funext fun a => by
    match a with | ⟨0, _⟩ => exact Fin.ext (by have : (y 0).val < 1 := (y 0).isLt; show (y 0).val = 0; omega) | ⟨1, _⟩ => rfl | ⟨2, _⟩ => rfl
  refine (congrArg (outsAt0 m c t.val t.isLt).2.1 hy).trans ((sret_point m c t (flush_13 t ht) (y 1) (y 2)).trans ?_)
  generalize val_main_v392 (F := Ideal) (aX m c) (aG m c) (aW m c) = A
  blk_point [idx t]

/-- The pooling rows' array after the run is the reference's. -/
theorem final_u (c : Dev nD) : (dats m 0 c).arrAt 14 (cfgs 0).N = val_main_v374 (F := Ideal) (aX m c) (aG m c) (aW m c) := by
  refine (dats m 0 c).arrAt_eq_of_covers 14 _ (by decide +kernel) fun t ht y => ?_
  blk_simp
  rw [after0_14]
  have hy : (y : S1x15x512.Idx) = ix3 (0 : Fin 1) (y 1) (y 2) := funext fun a => by
    match a with | ⟨0, _⟩ => exact Fin.ext (by have : (y 0).val < 1 := (y 0).isLt; show (y 0).val = 0; omega) | ⟨1, _⟩ => rfl | ⟨2, _⟩ => rfl
  refine (congrArg (outsAt0 m c t.val t.isLt).2.2.1 hy).trans ((spool_point m c t (flush_14 t ht) (y 1) (y 2)).trans ?_)
  generalize val_main_v374 (F := Ideal) (aX m c) (aG m c) (aW m c) = A
  blk_point [idx t]

end Cert.KernelIdeal.Mix

end
-- ==== Proof.FinValue.lean ====
module

public import proofs.«01_k».proof.Proof.Gen.FinKernelIdeal.Frame
public import proofs.«01_k».proof.Proof.Gen.FinReferenceIdeal.Read
public import proofs.«01_k».proof.Proof.FfnSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinKernelIdeal.Value

open Cert.FinKernelIdeal Cert.FinKernelIdeal.Gen Cert.FinReferenceIdeal.Read

variable (m : (ℓ : Loc nD τ sig) → Buf (Elt Ideal) ℓ)

/-- The windows' block indices: the rows' block moves with the point, the weights are whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

set_option maxHeartbeats 1600000 in
/-- What point `t` stores at a block index is the reference's result at the array index it sits at. -/
theorem point (c : Dev nD) (t : Fin cfg0.N) (y : S512x1024.Idx) :
    out0_5 (iblk m c 0 t) (iblk m c 1 t) (iblk m c 2 t) (iblk m c 3 t) (iblk m c 4 t) y
    = val_main_v34 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (((cfg0.win 5).blk t).view.emb y) := by
  frame_out
  pointwise [k0_pay1, k0_pay2, k0_pay3, k0_pay4, k0_pay5, val_main_v34, val_main_v33, val_main_v32, val_main_v31, val_main_v30,
    val_main_v29, val_main_v28, val_main_v27, val_main_cst_5, val_main_v26, val_main_v25, val_main_cst_4, val_main_v24,
    val_main_v23, val_main_cst_3, val_main_v22, val_main_v21, val_main_v20, val_main_v18]
  simp only [Ffn.sum_chunks]
  pointwise [val_main_v19, val_main_cst_2, val_main_v17, val_main_v16, val_main_call0_v5, val_main_call0_v4, val_main_call0_cst_0,
    val_main_call0_v3, val_main_call0_v2, val_main_call0_cst, val_main_call0_v1, val_main_call0_v0, val_main_v15, val_main_v14,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0,
    Ideal.logistic]
  blk_point [iblk, V, idx t]

/-- The result array after the run is the reference's result of the argument arrays. -/
theorem final (c : Dev nD) : (dats m 0 c).arrAt 5 (cfgs 0).N
    = val_main_v34 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.FinKernelIdeal.Value

end
-- ==== Proof.StepFfnValue.lean ====
module

public import proofs.«01_k».proof.Proof.Gen.StepFfnKernelIdeal.Frame
public import proofs.«01_k».proof.Proof.Gen.StepFfnReferenceIdeal.Read
public import proofs.«01_k».proof.Proof.FfnSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.StepFfnKernelIdeal.Value

open Cert.StepFfnKernelIdeal Cert.StepFfnKernelIdeal.Gen Cert.StepFfnReferenceIdeal.Read

variable (m : (ℓ : Loc nD τ sig) → Buf (Elt Ideal) ℓ)

/-- The windows' block indices: the rows' block moves with the point, the weights are whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What point `t` stores at a block index is the reference's result at the array index it sits at. -/
theorem point (c : Dev nD) (t : Fin cfg0.N) (y : S512x1024.Idx) :
    out0_4 (iblk m c 0 t) (iblk m c 1 t) (iblk m c 2 t) (iblk m c 3 t) y
    = val_main_v21 (F := Ideal) (m ((c : Thread nD τ).loc main_arg0)) (m ((c : Thread nD τ).loc main_arg1))
      (m ((c : Thread nD τ).loc main_arg2)) (m ((c : Thread nD τ).loc main_arg3)) (((cfg0.win 4).blk t).view.emb y) := by
  frame_out
  pointwise [k0_pay1, k0_pay2, k0_pay3, k0_pay4, k0_pay5, val_main_v21, val_main_v20, val_main_v18]
  rw [Ffn.sum_chunks]
  pointwise [val_main_v19, val_main_cst_2, val_main_v17, val_main_v16, val_main_call0_v5, val_main_call0_v4, val_main_call0_cst_0,
    val_main_call0_v3, val_main_call0_v2, val_main_call0_cst, val_main_call0_v1, val_main_call0_v0, val_main_v15, val_main_v14,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0,
    Ideal.logistic]
  blk_point [iblk, V, idx t]

/-- The result array after the run is the reference's result of the argument arrays. -/
theorem final (c : Dev nD) : (dats m 0 c).arrAt 4 (cfgs 0).N
    = val_main_v21 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.StepFfnKernelIdeal.Value

end
-- ==== Proof.StepFinValue.lean ====
module

public import proofs.«01_k».proof.Proof.Gen.StepFinKernelIdeal.Frame
public import proofs.«01_k».proof.Proof.Gen.StepFinReferenceIdeal.Read
public import proofs.«01_k».proof.Proof.FfnSum
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.StepFinKernelIdeal.Value

open Cert.StepFinKernelIdeal Cert.StepFinKernelIdeal.Gen Cert.StepFinReferenceIdeal.Read

variable (m : (ℓ : Loc nD τ sig) → Buf (Elt Ideal) ℓ)

/-- The windows' block indices: the rows' block moves with the point, the weights are whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

set_option maxHeartbeats 1600000 in
/-- What point `t` stores at a block index is the reference's result at the array index it sits at. -/
theorem point (c : Dev nD) (t : Fin cfg0.N) (y : S512x1024.Idx) :
    out0_5 (iblk m c 0 t) (iblk m c 1 t) (iblk m c 2 t) (iblk m c 3 t) (iblk m c 4 t) y
    = val_main_v34 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (((cfg0.win 5).blk t).view.emb y) := by
  frame_out
  pointwise [k0_pay1, k0_pay2, k0_pay3, k0_pay4, k0_pay5, val_main_v34, val_main_v33, val_main_v32, val_main_v31, val_main_v30,
    val_main_v29, val_main_v28, val_main_v27, val_main_cst_5, val_main_v26, val_main_v25, val_main_cst_4, val_main_v24,
    val_main_v23, val_main_cst_3, val_main_v22, val_main_v21, val_main_v20, val_main_v18]
  simp only [Ffn.sum_chunks]
  pointwise [val_main_v19, val_main_cst_2, val_main_v17, val_main_v16, val_main_call0_v5, val_main_call0_v4, val_main_call0_cst_0,
    val_main_call0_v3, val_main_call0_v2, val_main_call0_cst, val_main_call0_v1, val_main_call0_v0, val_main_v15, val_main_v14,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0,
    Ideal.logistic]
  blk_point [iblk, V, idx t]

/-- The result array after the run is the reference's result of the argument arrays. -/
theorem final (c : Dev nD) : (dats m 0 c).arrAt 5 (cfgs 0).N
    = val_main_v34 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.StepFinKernelIdeal.Value

end
-- ==== Proof.lean ====
/- The certificate's claim: each program's frame, and, for each call, that the kernel's results are the reference's. -/
module

public import proofs.«01_k».proof.Defs
public import proofs.«01_k».proof.Proof.Gen.FfnKernel.Frame
public import proofs.«01_k».proof.Proof.Gen.FinKernel.Frame
public import proofs.«01_k».proof.Proof.FfnValue
public import proofs.«01_k».proof.Proof.Gen.Kernel.Frame
public import proofs.«01_k».proof.Proof.MixerValue
public import proofs.«01_k».proof.Proof.FinValue
public import proofs.«01_k».proof.Proof.Gen.StepFfnKernel.Frame
public import proofs.«01_k».proof.Proof.Gen.StepFinKernel.Frame
public import proofs.«01_k».proof.Proof.StepFfnValue
public import proofs.«01_k».proof.Proof.StepFinValue
public import Idealize.ShloMosaic.Lib.Claim
public import Idealize.ShloMosaic.Adequacy
public import Idealize.ShloMosaic.Init

@[expose] public section

noncomputable section

namespace Cert.Proof

open Idealize.ShloMosaic Idealize.SL.Sem

section
open Cert.ReferenceIdeal Cert.ReferenceIdeal.Read

/-- The mixer's reference ends with its stages' values as results and its arguments as they were. -/
theorem run_mixer_reference (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩ fun r => ∀ c : Dev nD,
      r.2.mem ((c.tc : Thread nD τ).loc main_v391) = val_main_v391 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v392) = val_main_v392 (F := Ideal) (m ((c.tc : Thread nD τ).loc main_arg0)) (m ((c.tc : Thread nD τ).loc main_arg1)) (m ((c.tc : Thread nD τ).loc main_arg2))
      ∧ r.2.mem ((c.tc : Thread nD τ).loc main_v374) = val_main_v374 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (val_main_v391_eq _), (h c).2.1.trans (val_main_v392_eq _), (h c).2.2.1.trans (val_main_v374_eq _), (h c).2.2.2⟩)
    (Cert.ReferenceIdeal.Value.run m g)

end

/-- A function of three arguments at equal arguments. -/
theorem congr_three {A B C R : Type} (f : A → B → C → R) {a a' : A} {b b' : B} {c c' : C} (ha : a = a') (hb : b = b') (hc : c = c') :
    f a b c = f a' b' c' := by
  rw [ha, hb, hc]

/-- A function of six arguments at equal arguments. -/
theorem congr_six {A B C D E G R : Type} (f : A → B → C → D → E → G → R) {a a' : A} {b b' : B} {c c' : C} {d d' : D} {e e' : E} {g g' : G}
    (ha : a = a') (hb : b = b') (hc : c = c') (hd : d = d') (he : e = e') (hg : g = g') : f a b c d e g = f a' b' c' d' e' g' := by
  rw [ha, hb, hc, hd, he, hg]

section
open Cert.KernelIdeal Cert.KernelIdeal.Gen

/-- The mixer's kernel ends with its three results as the reference's stages and its arguments as they were. -/
theorem run_mixer_kernel (m : (ℓ : Loc nD τ sig) → Buf (Elt Ideal) ℓ) (g : Dev nD → PrngReg) :
    θ_run (Cert.KernelIdeal.defs (F := Ideal)) (onTc (τ := τ) (Cert.KernelIdeal.main (F := Ideal))) ⟨m, fun _ => 0, g⟩ fun r => ∀ c : Dev nD,
      r.2.mem ((c.tc : Thread nD τ).loc main_v92_0) = Cert.ReferenceIdeal.Read.val_main_v391 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v92_1) = Cert.ReferenceIdeal.Read.val_main_v392 (F := Ideal) (m ((c.tc : Thread nD τ).loc main_arg0)) (m ((c.tc : Thread nD τ).loc main_arg1)) (m ((c.tc : Thread nD τ).loc main_arg2))
      ∧ r.2.mem ((c.tc : Thread nD τ).loc main_v92_2) = Cert.ReferenceIdeal.Read.val_main_v374 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(Value.post12 m r h c).trans (Mix.final_y m c), (Value.post13 m r h c).trans (Mix.final_s m c),
      (Value.post14 m r h c).trans (Mix.final_u m c), Value.kept_main_arg0 m r h c, Value.kept_main_arg1 m r h c, Value.kept_main_arg2 m r h c,
      Value.kept_main_arg3 m r h c, Value.kept_main_arg4 m r h c, Value.kept_main_arg5 m r h c⟩)
    (run_main m g)

end

/-- The mixer leaves its arguments as they were, and its output, last state and pooling rows are the reference's. -/
theorem algebraic_mixer : Cert.algebraic_KernelIdeal_ReferenceIdeal (hKernelIdeal := Cert.KernelIdeal.Gen.facts)
    (hReferenceIdeal := Cert.ReferenceIdeal.Gen.facts) := by
  intro m g m' g' _ hagree
  refine ⟨_, _, _, run_mixer_kernel m g, (θ_run _ _ _).mono (fun r h c => ?_) (run_mixer_reference m' g')⟩
  obtain ⟨hy, hs, hu, hargs⟩ := h c
  obtain ⟨e0, e1, e2, e3, e4, e5⟩ := hagree c
  exact ⟨hy.trans (congr_six (Cert.ReferenceIdeal.Read.val_main_v391 (F := Ideal)) e0 e1 e2 e3 e4 e5),
    hs.trans (congr_three (Cert.ReferenceIdeal.Read.val_main_v392 (F := Ideal)) e0 e1 e2),
    hu.trans (congr_three (Cert.ReferenceIdeal.Read.val_main_v374 (F := Ideal)) e0 e1 e2), hargs⟩

section
open Cert.FfnKernelIdeal.Gen Cert.FfnReferenceIdeal.Gen

/-- The feed-forward leaves its arguments as they were, and its result is the reference's. -/
theorem algebraic_ffn : Cert.algebraic_FfnKernelIdeal_FfnReferenceIdeal (hFfnKernelIdeal := Cert.FfnKernelIdeal.Gen.facts)
    (hFfnReferenceIdeal := Cert.FfnReferenceIdeal.Gen.facts) := by
  pair_intro
  · run_from Cert.FfnKernelIdeal.Gen.run_main m g
  · run_from Cert.FfnReferenceIdeal.Value.run m' g'
    exact (Cert.FfnKernelIdeal.Value.final m c).symm

end

/-- The feed-forward with the closing norm likewise. -/
theorem algebraic_fin : Cert.algebraic_FinKernelIdeal_FinReferenceIdeal (hFinKernelIdeal := Cert.FinKernelIdeal.Gen.facts)
    (hFinReferenceIdeal := Cert.FinReferenceIdeal.Gen.facts) := by
  pair_intro
  · run_from Cert.FinKernelIdeal.Gen.run_main m g
  · run_from Cert.FinReferenceIdeal.Value.run m' g'
    rw [Cert.FinReferenceIdeal.Read.val_main_v34_eq]
    simp only [hagree c]
    exact (Cert.FinKernelIdeal.Value.final m c).symm

section
open Cert.StepFfnKernelIdeal.Gen Cert.StepFfnReferenceIdeal.Gen

/-- The sample's feed-forward leaves its arguments as they were, and its result is the reference's. -/
theorem algebraic_step_ffn : Cert.algebraic_StepFfnKernelIdeal_StepFfnReferenceIdeal (hStepFfnKernelIdeal := Cert.StepFfnKernelIdeal.Gen.facts)
    (hStepFfnReferenceIdeal := Cert.StepFfnReferenceIdeal.Gen.facts) := by
  pair_intro
  · run_from Cert.StepFfnKernelIdeal.Gen.run_main m g
  · run_from Cert.StepFfnReferenceIdeal.Value.run m' g'
    exact (Cert.StepFfnKernelIdeal.Value.final m c).symm

end

/-- The sample's feed-forward with the closing norm likewise. -/
theorem algebraic_step_fin : Cert.algebraic_StepFinKernelIdeal_StepFinReferenceIdeal (hStepFinKernelIdeal := Cert.StepFinKernelIdeal.Gen.facts)
    (hStepFinReferenceIdeal := Cert.StepFinReferenceIdeal.Gen.facts) := by
  pair_intro
  · run_from Cert.StepFinKernelIdeal.Gen.run_main m g
  · run_from Cert.StepFinReferenceIdeal.Value.run m' g'
    rw [Cert.StepFinReferenceIdeal.Read.val_main_v34_eq]
    simp only [hagree c]
    exact (Cert.StepFinKernelIdeal.Value.final m c).symm

/-- The mixer's reference leaves its arguments as they were; it has no semaphore. -/
theorem frame_mixer_reference : Cert.quiescent_ReferenceIdeal (hReferenceIdeal := Cert.ReferenceIdeal.Gen.facts) := by
  intro m g _
  refine (θ_run _ _ _).mono (fun r h => ⟨fun c => (h c).2.2.2, sem_eq_zero_of_no_sems rfl _⟩) (Cert.ReferenceIdeal.Value.run m g)

/-- The feed-forward's reference leaves its arguments as they were; it has no semaphore. -/
theorem frame_ffn_reference : Cert.quiescent_FfnReferenceIdeal (hFfnReferenceIdeal := Cert.FfnReferenceIdeal.Gen.facts) := by
  intro m g _
  refine (θ_run _ _ _).mono (fun r h => ⟨fun c => (h c).2, sem_eq_zero_of_no_sems rfl _⟩) (Cert.FfnReferenceIdeal.Value.run m g)

/-- The reference of the feed-forward with the closing norm leaves its arguments as they were; it has no semaphore. -/
theorem frame_fin_reference : Cert.quiescent_FinReferenceIdeal (hFinReferenceIdeal := Cert.FinReferenceIdeal.Gen.facts) := by
  intro m g _
  refine (θ_run _ _ _).mono (fun r h => ⟨fun c => (h c).2, sem_eq_zero_of_no_sems rfl _⟩) (Cert.FinReferenceIdeal.Value.run m g)

/-- The reference of the sample's feed-forward leaves its arguments as they were; it has no semaphore. -/
theorem frame_step_ffn_reference : Cert.quiescent_StepFfnReferenceIdeal (hStepFfnReferenceIdeal := Cert.StepFfnReferenceIdeal.Gen.facts) := by
  intro m g _
  refine (θ_run _ _ _).mono (fun r h => ⟨fun c => (h c).2, sem_eq_zero_of_no_sems rfl _⟩) (Cert.StepFfnReferenceIdeal.Value.run m g)

/-- The reference of the sample's feed-forward with the closing norm leaves its arguments as they were; it has no semaphore. -/
theorem frame_step_fin_reference : Cert.quiescent_StepFinReferenceIdeal (hStepFinReferenceIdeal := Cert.StepFinReferenceIdeal.Gen.facts) := by
  intro m g _
  refine (θ_run _ _ _).mono (fun r h => ⟨fun c => (h c).2, sem_eq_zero_of_no_sems rfl _⟩) (Cert.StepFinReferenceIdeal.Value.run m g)

/-- The certificate's claim. -/
theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts, Cert.FinKernel.Gen.facts,
    Cert.FinKernelIdeal.Gen.facts, Cert.FinReferenceIdeal.Gen.facts, Cert.StepFfnKernel.Gen.facts, Cert.StepFfnKernelIdeal.Gen.facts,
    Cert.StepFfnReferenceIdeal.Gen.facts, Cert.StepFinKernel.Gen.facts, Cert.StepFinKernelIdeal.Gen.facts, Cert.StepFinReferenceIdeal.Gen.facts,
    fun m ρ _ => Cert.Kernel.Gen.frame m ρ, fun m ρ _ => Cert.KernelIdeal.Gen.frame m ρ, frame_mixer_reference,
    fun m ρ _ => Cert.FfnKernel.Gen.frame m ρ, fun m ρ _ => Cert.FfnKernelIdeal.Gen.frame m ρ, frame_ffn_reference,
    fun m ρ _ => Cert.FinKernel.Gen.frame m ρ, fun m ρ _ => Cert.FinKernelIdeal.Gen.frame m ρ, frame_fin_reference,
    fun m ρ _ => Cert.StepFfnKernel.Gen.frame m ρ, fun m ρ _ => Cert.StepFfnKernelIdeal.Gen.frame m ρ, frame_step_ffn_reference,
    fun m ρ _ => Cert.StepFinKernel.Gen.frame m ρ, fun m ρ _ => Cert.StepFinKernelIdeal.Gen.frame m ρ, frame_step_fin_reference,
    trivial, algebraic_mixer, trivial, algebraic_ffn, trivial, algebraic_fin,
    trivial, algebraic_step_ffn, trivial, algebraic_step_fin⟩

end Cert.Proof

end
